-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Recv (m : (ℓ : Loc Cert.Recv.nD Cert.Recv.τ Cert.Recv.sig) → Buf (Elt Bits) ℓ) : Prop :=
  True

def Pre_RecvIdeal (m : (ℓ : Loc Cert.RecvIdeal.nD Cert.RecvIdeal.τ Cert.RecvIdeal.sig) → Buf (Elt Ideal) ℓ) : Prop :=
  True

def Pre_RecvRefIdeal (m : (ℓ : Loc Cert.RecvRefIdeal.nD Cert.RecvRefIdeal.τ Cert.RecvRefIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Recv [hRecv : Cert.Recv.Facts] : Prop :=
  ∀ (m : (ℓ : Loc Cert.Recv.nD Cert.Recv.τ Cert.Recv.sig) → Buf (Elt Bits) ℓ) (g : Dev Cert.Recv.nD → PrngReg), Pre_Recv m →
    θ_run (Cert.Recv.defs (F := Bits)) (onTc (τ := Cert.Recv.τ) (Cert.Recv.main (F := Bits))) ⟨m, fun _ => 0, g⟩ (fun r => (∀ c : Dev Cert.Recv.nD,
      r.2.mem ((c.tc : Thread Cert.Recv.nD Cert.Recv.τ).loc Cert.Recv.main_arg0) = m ((c.tc : Thread Cert.Recv.nD Cert.Recv.τ).loc Cert.Recv.main_arg0)
      ∧ r.2.mem ((c.tc : Thread Cert.Recv.nD Cert.Recv.τ).loc Cert.Recv.main_arg1) = m ((c.tc : Thread Cert.Recv.nD Cert.Recv.τ).loc Cert.Recv.main_arg1)
      ∧ r.2.mem ((c.tc : Thread Cert.Recv.nD Cert.Recv.τ).loc Cert.Recv.main_arg2) = m ((c.tc : Thread Cert.Recv.nD Cert.Recv.τ).loc Cert.Recv.main_arg2)
      ∧ r.2.mem ((c.tc : Thread Cert.Recv.nD Cert.Recv.τ).loc Cert.Recv.main_arg3) = m ((c.tc : Thread Cert.Recv.nD Cert.Recv.τ).loc Cert.Recv.main_arg3))
      ∧ r.2.sem = fun _ => 0)

def quiescent_RecvIdeal [hRecvIdeal : Cert.RecvIdeal.Facts] : Prop :=
  ∀ (m : (ℓ : Loc Cert.RecvIdeal.nD Cert.RecvIdeal.τ Cert.RecvIdeal.sig) → Buf (Elt Ideal) ℓ) (g : Dev Cert.RecvIdeal.nD → PrngReg), Pre_RecvIdeal m →
    θ_run (Cert.RecvIdeal.defs (F := Ideal)) (onTc (τ := Cert.RecvIdeal.τ) (Cert.RecvIdeal.main (F := Ideal))) ⟨m, fun _ => 0, g⟩ (fun r => (∀ c : Dev Cert.RecvIdeal.nD,
      r.2.mem ((c.tc : Thread Cert.RecvIdeal.nD Cert.RecvIdeal.τ).loc Cert.RecvIdeal.main_arg0) = m ((c.tc : Thread Cert.RecvIdeal.nD Cert.RecvIdeal.τ).loc Cert.RecvIdeal.main_arg0)
      ∧ r.2.mem ((c.tc : Thread Cert.RecvIdeal.nD Cert.RecvIdeal.τ).loc Cert.RecvIdeal.main_arg1) = m ((c.tc : Thread Cert.RecvIdeal.nD Cert.RecvIdeal.τ).loc Cert.RecvIdeal.main_arg1)
      ∧ r.2.mem ((c.tc : Thread Cert.RecvIdeal.nD Cert.RecvIdeal.τ).loc Cert.RecvIdeal.main_arg2) = m ((c.tc : Thread Cert.RecvIdeal.nD Cert.RecvIdeal.τ).loc Cert.RecvIdeal.main_arg2)
      ∧ r.2.mem ((c.tc : Thread Cert.RecvIdeal.nD Cert.RecvIdeal.τ).loc Cert.RecvIdeal.main_arg3) = m ((c.tc : Thread Cert.RecvIdeal.nD Cert.RecvIdeal.τ).loc Cert.RecvIdeal.main_arg3))
      ∧ r.2.sem = fun _ => 0)

def quiescent_RecvRefIdeal [hRecvRefIdeal : Cert.RecvRefIdeal.Facts] : Prop :=
  ∀ (m : (ℓ : Loc Cert.RecvRefIdeal.nD Cert.RecvRefIdeal.τ Cert.RecvRefIdeal.sig) → Buf (Elt Ideal) ℓ) (g : Dev Cert.RecvRefIdeal.nD → PrngReg), Pre_RecvRefIdeal m →
    θ_run (Cert.RecvRefIdeal.defs (F := Ideal)) (onTc (τ := Cert.RecvRefIdeal.τ) (Cert.RecvRefIdeal.main (F := Ideal))) ⟨m, fun _ => 0, g⟩ (fun r => (∀ c : Dev Cert.RecvRefIdeal.nD,
      r.2.mem ((c.tc : Thread Cert.RecvRefIdeal.nD Cert.RecvRefIdeal.τ).loc Cert.RecvRefIdeal.main_arg0) = m ((c.tc : Thread Cert.RecvRefIdeal.nD Cert.RecvRefIdeal.τ).loc Cert.RecvRefIdeal.main_arg0)
      ∧ r.2.mem ((c.tc : Thread Cert.RecvRefIdeal.nD Cert.RecvRefIdeal.τ).loc Cert.RecvRefIdeal.main_arg1) = m ((c.tc : Thread Cert.RecvRefIdeal.nD Cert.RecvRefIdeal.τ).loc Cert.RecvRefIdeal.main_arg1)
      ∧ r.2.mem ((c.tc : Thread Cert.RecvRefIdeal.nD Cert.RecvRefIdeal.τ).loc Cert.RecvRefIdeal.main_arg2) = m ((c.tc : Thread Cert.RecvRefIdeal.nD Cert.RecvRefIdeal.τ).loc Cert.RecvRefIdeal.main_arg2)
      ∧ r.2.mem ((c.tc : Thread Cert.RecvRefIdeal.nD Cert.RecvRefIdeal.τ).loc Cert.RecvRefIdeal.main_arg3) = m ((c.tc : Thread Cert.RecvRefIdeal.nD Cert.RecvRefIdeal.τ).loc Cert.RecvRefIdeal.main_arg3))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0_0) = v0 c
          ∧ r.2.mem ((c.tc : Thread Cert.GateUpRefIdeal.nD Cert.GateUpRefIdeal.τ).loc Cert.GateUpRefIdeal.main_v0_1) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0_0) = v0 c
          ∧ r.2.mem ((c.tc : Thread Cert.DownRefIdeal.nD Cert.DownRefIdeal.τ).loc Cert.DownRefIdeal.main_v0_1) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Recv_RecvIdeal : Prop :=
  True

def algebraic_RecvIdeal_RecvRefIdeal [hRecvIdeal : Cert.RecvIdeal.Facts] [hRecvRefIdeal : Cert.RecvRefIdeal.Facts] : Prop :=
  ∀ (m : (ℓ : Loc Cert.RecvIdeal.nD Cert.RecvIdeal.τ Cert.RecvIdeal.sig) → Buf (Elt Ideal) ℓ) (g : Dev Cert.RecvIdeal.nD → PrngReg)
    (m' : (ℓ : Loc Cert.RecvRefIdeal.nD Cert.RecvRefIdeal.τ Cert.RecvRefIdeal.sig) → Buf (Elt Ideal) ℓ) (g' : Dev Cert.RecvRefIdeal.nD → PrngReg), Pre_RecvIdeal m →
    (∀ c : Dev Cert.RecvIdeal.nD,
      m' ((c.tc : Thread Cert.RecvRefIdeal.nD Cert.RecvRefIdeal.τ).loc Cert.RecvRefIdeal.main_arg0) = m ((c.tc : Thread Cert.RecvIdeal.nD Cert.RecvIdeal.τ).loc Cert.RecvIdeal.main_arg0)
      ∧ m' ((c.tc : Thread Cert.RecvRefIdeal.nD Cert.RecvRefIdeal.τ).loc Cert.RecvRefIdeal.main_arg1) = m ((c.tc : Thread Cert.RecvIdeal.nD Cert.RecvIdeal.τ).loc Cert.RecvIdeal.main_arg1)
      ∧ m' ((c.tc : Thread Cert.RecvRefIdeal.nD Cert.RecvRefIdeal.τ).loc Cert.RecvRefIdeal.main_arg2) = m ((c.tc : Thread Cert.RecvIdeal.nD Cert.RecvIdeal.τ).loc Cert.RecvIdeal.main_arg2)
      ∧ m' ((c.tc : Thread Cert.RecvRefIdeal.nD Cert.RecvRefIdeal.τ).loc Cert.RecvRefIdeal.main_arg3) = m ((c.tc : Thread Cert.RecvIdeal.nD Cert.RecvIdeal.τ).loc Cert.RecvIdeal.main_arg3)) →
    ∃ (v0 : (c : Dev Cert.RecvIdeal.nD) → Buf (Elt Ideal) ((c.tc : Thread Cert.RecvIdeal.nD Cert.RecvIdeal.τ).loc Cert.RecvIdeal.main_v0_0)) (v1 : (c : Dev Cert.RecvIdeal.nD) → Buf (Elt Ideal) ((c.tc : Thread Cert.RecvIdeal.nD Cert.RecvIdeal.τ).loc Cert.RecvIdeal.main_v0_1)) (v2 : (c : Dev Cert.RecvIdeal.nD) → Buf (Elt Ideal) ((c.tc : Thread Cert.RecvIdeal.nD Cert.RecvIdeal.τ).loc Cert.RecvIdeal.main_v0_2)),
      θ_run (Cert.RecvIdeal.defs (F := Ideal)) (onTc (τ := Cert.RecvIdeal.τ) (Cert.RecvIdeal.main (F := Ideal))) ⟨m, fun _ => 0, g⟩ (fun r => ∀ c : Dev Cert.RecvIdeal.nD,
          r.2.mem ((c.tc : Thread Cert.RecvIdeal.nD Cert.RecvIdeal.τ).loc Cert.RecvIdeal.main_v0_0) = v0 c
          ∧ r.2.mem ((c.tc : Thread Cert.RecvIdeal.nD Cert.RecvIdeal.τ).loc Cert.RecvIdeal.main_v0_1) = v1 c
          ∧ r.2.mem ((c.tc : Thread Cert.RecvIdeal.nD Cert.RecvIdeal.τ).loc Cert.RecvIdeal.main_v0_2) = v2 c
          ∧ r.2.mem ((c.tc : Thread Cert.RecvIdeal.nD Cert.RecvIdeal.τ).loc Cert.RecvIdeal.main_arg0) = m ((c.tc : Thread Cert.RecvIdeal.nD Cert.RecvIdeal.τ).loc Cert.RecvIdeal.main_arg0)
          ∧ r.2.mem ((c.tc : Thread Cert.RecvIdeal.nD Cert.RecvIdeal.τ).loc Cert.RecvIdeal.main_arg1) = m ((c.tc : Thread Cert.RecvIdeal.nD Cert.RecvIdeal.τ).loc Cert.RecvIdeal.main_arg1)
          ∧ r.2.mem ((c.tc : Thread Cert.RecvIdeal.nD Cert.RecvIdeal.τ).loc Cert.RecvIdeal.main_arg2) = m ((c.tc : Thread Cert.RecvIdeal.nD Cert.RecvIdeal.τ).loc Cert.RecvIdeal.main_arg2)
          ∧ r.2.mem ((c.tc : Thread Cert.RecvIdeal.nD Cert.RecvIdeal.τ).loc Cert.RecvIdeal.main_arg3) = m ((c.tc : Thread Cert.RecvIdeal.nD Cert.RecvIdeal.τ).loc Cert.RecvIdeal.main_arg3))
      ∧ θ_run (Cert.RecvRefIdeal.defs (F := Ideal)) (onTc (τ := Cert.RecvRefIdeal.τ) (Cert.RecvRefIdeal.main (F := Ideal))) ⟨m', fun _ => 0, g'⟩ (fun r => ∀ c : Dev Cert.RecvRefIdeal.nD,
          r.2.mem ((c.tc : Thread Cert.RecvRefIdeal.nD Cert.RecvRefIdeal.τ).loc Cert.RecvRefIdeal.main_v0_0) = v0 c
          ∧ r.2.mem ((c.tc : Thread Cert.RecvRefIdeal.nD Cert.RecvRefIdeal.τ).loc Cert.RecvRefIdeal.main_v0_1) = v1 c
          ∧ r.2.mem ((c.tc : Thread Cert.RecvRefIdeal.nD Cert.RecvRefIdeal.τ).loc Cert.RecvRefIdeal.main_v0_2) = v2 c
          ∧ r.2.mem ((c.tc : Thread Cert.RecvRefIdeal.nD Cert.RecvRefIdeal.τ).loc Cert.RecvRefIdeal.main_arg0) = m' ((c.tc : Thread Cert.RecvRefIdeal.nD Cert.RecvRefIdeal.τ).loc Cert.RecvRefIdeal.main_arg0)
          ∧ r.2.mem ((c.tc : Thread Cert.RecvRefIdeal.nD Cert.RecvRefIdeal.τ).loc Cert.RecvRefIdeal.main_arg1) = m' ((c.tc : Thread Cert.RecvRefIdeal.nD Cert.RecvRefIdeal.τ).loc Cert.RecvRefIdeal.main_arg1)
          ∧ r.2.mem ((c.tc : Thread Cert.RecvRefIdeal.nD Cert.RecvRefIdeal.τ).loc Cert.RecvRefIdeal.main_arg2) = m' ((c.tc : Thread Cert.RecvRefIdeal.nD Cert.RecvRefIdeal.τ).loc Cert.RecvRefIdeal.main_arg2)
          ∧ r.2.mem ((c.tc : Thread Cert.RecvRefIdeal.nD Cert.RecvRefIdeal.τ).loc Cert.RecvRefIdeal.main_arg3) = m' ((c.tc : Thread Cert.RecvRefIdeal.nD Cert.RecvRefIdeal.τ).loc Cert.RecvRefIdeal.main_arg3))

def Claim : Prop :=
  ∃ (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hRecv : Cert.Recv.Facts) (hRecvIdeal : Cert.RecvIdeal.Facts) (hRecvRefIdeal : Cert.RecvRefIdeal.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_Recv (hRecv := hRecv)
    ∧ quiescent_RecvIdeal (hRecvIdeal := hRecvIdeal)
    ∧ quiescent_RecvRefIdeal (hRecvRefIdeal := hRecvRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_Recv_RecvIdeal
    ∧ algebraic_RecvIdeal_RecvRefIdeal (hRecvIdeal := hRecvIdeal) (hRecvRefIdeal := hRecvRefIdeal)
-- ==== GateUp.lean ====
abbrev S4096x8192 : Shape := ⟨2, ![4096, 8192]⟩
abbrev S4096x1 : Shape := ⟨2, ![4096, 1]⟩
abbrev S8192x3584 : Shape := ⟨2, ![8192, 3584]⟩
abbrev S1x3584 : Shape := ⟨2, ![1, 3584]⟩
abbrev S4096x3584 : Shape := ⟨2, ![4096, 3584]⟩
abbrev S1024x8192 : Shape := ⟨2, ![1024, 8192]⟩
abbrev S1024x1 : Shape := ⟨2, ![1024, 1]⟩
abbrev S8192x256 : Shape := ⟨2, ![8192, 256]⟩
abbrev S1x256 : Shape := ⟨2, ![1, 256]⟩
abbrev S1024x3584 : Shape := ⟨2, ![1024, 3584]⟩
abbrev S14x1024x256 : Shape := ⟨3, ![14, 1024, 256]⟩
abbrev S1024x128 : Shape := ⟨2, ![1024, 128]⟩
abbrev S256x1 : Shape := ⟨2, ![256, 1]⟩
abbrev S256x8192 : Shape := ⟨2, ![256, 8192]⟩
abbrev S256x256 : Shape := ⟨2, ![256, 256]⟩
abbrev S1x256x256 : Shape := ⟨3, ![1, 256, 256]⟩
abbrev S256x128 : Shape := ⟨2, ![256, 128]⟩
abbrev S32x128 : Shape := ⟨2, ![32, 128]⟩
abbrev S32 : Shape := ⟨1, ![32]⟩
abbrev S32x1 : Shape := ⟨2, ![32, 1]⟩
abbrev S1x32x256 : Shape := ⟨3, ![1, 32, 256]⟩
abbrev S32x256 : Shape := ⟨2, ![32, 256]⟩

abbrev nBuf : Space → Nat
  | .hbm => 8
  | .vmem => 18
  | .smem => 0
  | _ => 0

abbrev bufTy : (tb : Table) → Fin (tcTables nBuf tb) → BufTy
  | .hbm, ⟨0, _⟩ => ⟨S4096x8192, .fp8e4m3⟩
  | .hbm, ⟨1, _⟩ => ⟨S4096x1, .f32⟩
  | .hbm, ⟨2, _⟩ => ⟨S8192x3584, .fp8e4m3⟩
  | .hbm, ⟨3, _⟩ => ⟨S8192x3584, .fp8e4m3⟩
  | .hbm, ⟨4, _⟩ => ⟨S1x3584, .f32⟩
  | .hbm, ⟨5, _⟩ => ⟨S1x3584, .f32⟩
  | .hbm, ⟨6, _⟩ => ⟨S4096x3584, .fp8e4m3⟩
  | .hbm, ⟨7, _⟩ => ⟨S4096x1, .f32⟩
  | .local _ .vmem, ⟨0, _⟩ => ⟨S1024x8192, .fp8e4m3⟩
  | .local _ .vmem, ⟨1, _⟩ => ⟨S1024x8192, .fp8e4m3⟩
  | .local _ .vmem, ⟨2, _⟩ => ⟨S1024x1, .f32⟩
  | .local _ .vmem, ⟨3, _⟩ => ⟨S1024x1, .f32⟩
  | .local _ .vmem, ⟨4, _⟩ => ⟨S8192x256, .fp8e4m3⟩
  | .local _ .vmem, ⟨5, _⟩ => ⟨S8192x256, .fp8e4m3⟩
  | .local _ .vmem, ⟨6, _⟩ => ⟨S8192x256, .fp8e4m3⟩
  | .local _ .vmem, ⟨7, _⟩ => ⟨S8192x256, .fp8e4m3⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1024x3584, .fp8e4m3⟩
  | .local _ .vmem, ⟨13, _⟩ => ⟨S1024x3584, .fp8e4m3⟩
  | .local _ .vmem, ⟨14, _⟩ => ⟨S1024x1, .f32⟩
  | .local _ .vmem, ⟨15, _⟩ => ⟨S1024x1, .f32⟩
  | .local _ .vmem, ⟨16, _⟩ => ⟨S14x1024x256, .f32⟩
  | .local _ .vmem, ⟨17, _⟩ => ⟨S1024x128, .f32⟩
  | _, _ => ⟨S4096x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 14], ![false, false]⟩

def k0_off1 (i : grid0.Coords) : Fin 3 → Nat :=
  let arg1 : BitVec 32 := BitVec.ofNat 32 (i 1).val
  let v23 : Index := Scalar.indexCast arg1
  let c0_15 : Index := 0#32
  let c0_16 : Index := 0#32
  ![v23.toNat, 0, 0]
def k0_off2 (i : grid0.Coords) : Fin 3 → Nat :=
  let arg1 : BitVec 32 := BitVec.ofNat 32 (i 1).val
  let v56 : Index := Scalar.indexCast arg1
  let c256_36 : Index := 256#32
  let c0_37 : Index := 0#32
  ![v56.toNat, 256, 0]
def k0_off3 (i : grid0.Coords) : Fin 3 → Nat :=
  let arg1 : BitVec 32 := BitVec.ofNat 32 (i 1).val
  let v89 : Index := Scalar.indexCast arg1
  let c512_57 : Index := 512#32
  let c0_58 : Index := 0#32
  ![v89.toNat, 512, 0]
def k0_off4 (i : grid0.Coords) : Fin 3 → Nat :=
  let arg1 : BitVec 32 := BitVec.ofNat 32 (i 1).val
  let v122 : Index := Scalar.indexCast arg1
  let c768_78 : Index := 768#32
  let c0_79 : Index := 0#32
  ![v122.toNat, 768, 0]
def k0_cond2 (i : grid0.Coords) : BitVec 1 :=
  let arg1 : BitVec 32 := BitVec.ofNat 32 (i 1).val
  let c13_i32 : BitVec 32 := 13#32
  let v135 : BitVec 1 := Scalar.cmpi .eq arg1 c13_i32
  let v136 : BitVec 32 := Scalar.extui v135
  let c0_i32_84 : BitVec 32 := 0#32
  let v137 : BitVec 1 := Scalar.cmpi .ne v136 c0_i32_84
  v137

@[reducible] def k0_t1_loop : Scf.Loop 32 :=
  let c0_i32_85 : BitVec 32 := 0#32
  let c32_i32 : BitVec 32 := 32#32
  let v138 : BitVec 32 := Scalar.addi c0_i32_85 c32_i32
  let c1_i32 : BitVec 32 := 1#32
  ⟨c0_i32_85, v138, c1_i32⟩
def k0_mult1 (k0_t1 : Fin k0_t1_loop.trips) : BitVec 32 :=
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  v141
def k0_off5 (k0_t1 : Fin k0_t1_loop.trips) : Fin 2 → Nat :=
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v143 : Index := Scalar.indexCast v142
  let c0_90 : Index := 0#32
  ![v143.toNat, 0]
def k0_off6 (k0_t1 : Fin k0_t1_loop.trips) : Fin 2 → Nat :=
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v153 : Index := Scalar.indexCast v142
  let c0_95 : Index := 0#32
  ![v153.toNat, 0]
def k0_off7 (k0_t1 : Fin k0_t1_loop.trips) : Fin 3 → Nat :=
  let c0_96 : Index := 0#32
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v155 : Index := Scalar.indexCast v142
  let c0_97 : Index := 0#32
  ![0, v155.toNat, 0]
def k0_off8 (k0_t1 : Fin k0_t1_loop.trips) : Fin 2 → Nat :=
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v165 : Index := Scalar.indexCast v142
  let c0_100 : Index := 0#32
  ![v165.toNat, 0]
def k0_off9 (k0_t1 : Fin k0_t1_loop.trips) : Fin 3 → Nat :=
  let c1 : Index := 1#32
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v167 : Index := Scalar.indexCast v142
  let c0_101 : Index := 0#32
  ![1, v167.toNat, 0]
def k0_off10 (k0_t1 : Fin k0_t1_loop.trips) : Fin 2 → Nat :=
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v177 : Index := Scalar.indexCast v142
  let c256_104 : Index := 256#32
  ![v177.toNat, 256]
def k0_off11 (k0_t1 : Fin k0_t1_loop.trips) : Fin 3 → Nat :=
  let c2 : Index := 2#32
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v179 : Index := Scalar.indexCast v142
  let c0_105 : Index := 0#32
  ![2, v179.toNat, 0]
def k0_off12 (k0_t1 : Fin k0_t1_loop.trips) : Fin 2 → Nat :=
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v189 : Index := Scalar.indexCast v142
  let c512_108 : Index := 512#32
  ![v189.toNat, 512]
def k0_off13 (k0_t1 : Fin k0_t1_loop.trips) : Fin 3 → Nat :=
  let c3 : Index := 3#32
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v191 : Index := Scalar.indexCast v142
  let c0_109 : Index := 0#32
  ![3, v191.toNat, 0]
def k0_off14 (k0_t1 : Fin k0_t1_loop.trips) : Fin 2 → Nat :=
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v201 : Index := Scalar.indexCast v142
  let c768_112 : Index := 768#32
  ![v201.toNat, 768]
def k0_off15 (k0_t1 : Fin k0_t1_loop.trips) : Fin 3 → Nat :=
  let c4 : Index := 4#32
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v203 : Index := Scalar.indexCast v142
  let c0_113 : Index := 0#32
  ![4, v203.toNat, 0]
def k0_off16 (k0_t1 : Fin k0_t1_loop.trips) : Fin 2 → Nat :=
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v213 : Index := Scalar.indexCast v142
  let c1024 : Index := 1024#32
  ![v213.toNat, 1024]
def k0_off17 (k0_t1 : Fin k0_t1_loop.trips) : Fin 3 → Nat :=
  let c5 : Index := 5#32
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v215 : Index := Scalar.indexCast v142
  let c0_116 : Index := 0#32
  ![5, v215.toNat, 0]
def k0_off18 (k0_t1 : Fin k0_t1_loop.trips) : Fin 2 → Nat :=
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v225 : Index := Scalar.indexCast v142
  let c1280 : Index := 1280#32
  ![v225.toNat, 1280]
def k0_off19 (k0_t1 : Fin k0_t1_loop.trips) : Fin 3 → Nat :=
  let c6 : Index := 6#32
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v227 : Index := Scalar.indexCast v142
  let c0_119 : Index := 0#32
  ![6, v227.toNat, 0]
def k0_off20 (k0_t1 : Fin k0_t1_loop.trips) : Fin 2 → Nat :=
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v237 : Index := Scalar.indexCast v142
  let c1536 : Index := 1536#32
  ![v237.toNat, 1536]
def k0_off21 (k0_t1 : Fin k0_t1_loop.trips) : Fin 3 → Nat :=
  let c7 : Index := 7#32
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v239 : Index := Scalar.indexCast v142
  let c0_122 : Index := 0#32
  ![7, v239.toNat, 0]
def k0_off22 (k0_t1 : Fin k0_t1_loop.trips) : Fin 2 → Nat :=
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v249 : Index := Scalar.indexCast v142
  let c1792 : Index := 1792#32
  ![v249.toNat, 1792]
def k0_off23 (k0_t1 : Fin k0_t1_loop.trips) : Fin 3 → Nat :=
  let c8 : Index := 8#32
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v251 : Index := Scalar.indexCast v142
  let c0_125 : Index := 0#32
  ![8, v251.toNat, 0]
def k0_off24 (k0_t1 : Fin k0_t1_loop.trips) : Fin 2 → Nat :=
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v261 : Index := Scalar.indexCast v142
  let c2048 : Index := 2048#32
  ![v261.toNat, 2048]
def k0_off25 (k0_t1 : Fin k0_t1_loop.trips) : Fin 3 → Nat :=
  let c9 : Index := 9#32
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v263 : Index := Scalar.indexCast v142
  let c0_128 : Index := 0#32
  ![9, v263.toNat, 0]
def k0_off26 (k0_t1 : Fin k0_t1_loop.trips) : Fin 2 → Nat :=
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v273 : Index := Scalar.indexCast v142
  let c2304 : Index := 2304#32
  ![v273.toNat, 2304]
def k0_off27 (k0_t1 : Fin k0_t1_loop.trips) : Fin 3 → Nat :=
  let c10 : Index := 10#32
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v275 : Index := Scalar.indexCast v142
  let c0_131 : Index := 0#32
  ![10, v275.toNat, 0]
def k0_off28 (k0_t1 : Fin k0_t1_loop.trips) : Fin 2 → Nat :=
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v285 : Index := Scalar.indexCast v142
  let c2560 : Index := 2560#32
  ![v285.toNat, 2560]
def k0_off29 (k0_t1 : Fin k0_t1_loop.trips) : Fin 3 → Nat :=
  let c11 : Index := 11#32
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v287 : Index := Scalar.indexCast v142
  let c0_134 : Index := 0#32
  ![11, v287.toNat, 0]
def k0_off30 (k0_t1 : Fin k0_t1_loop.trips) : Fin 2 → Nat :=
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v297 : Index := Scalar.indexCast v142
  let c2816 : Index := 2816#32
  ![v297.toNat, 2816]
def k0_off31 (k0_t1 : Fin k0_t1_loop.trips) : Fin 3 → Nat :=
  let c12 : Index := 12#32
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v299 : Index := Scalar.indexCast v142
  let c0_137 : Index := 0#32
  ![12, v299.toNat, 0]
def k0_off32 (k0_t1 : Fin k0_t1_loop.trips) : Fin 2 → Nat :=
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v309 : Index := Scalar.indexCast v142
  let c3072 : Index := 3072#32
  ![v309.toNat, 3072]
def k0_off33 (k0_t1 : Fin k0_t1_loop.trips) : Fin 3 → Nat :=
  let c13 : Index := 13#32
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v311 : Index := Scalar.indexCast v142
  let c0_140 : Index := 0#32
  ![13, v311.toNat, 0]
def k0_off34 (k0_t1 : Fin k0_t1_loop.trips) : Fin 2 → Nat :=
  let c0_i32_88 : BitVec 32 := 0#32
  let c0_i32_85 : BitVec 32 := 0#32
  let c1_i32 : BitVec 32 := 1#32
  let arg12 : BitVec 32 := Scf.iv c0_i32_85 c1_i32 k0_t1
  let c1_i32_87 : BitVec 32 := 1#32
  let v139 : BitVec 32 := Scalar.muli arg12 c1_i32_87
  let v140 : BitVec 32 := Scalar.addi c0_i32_88 v139
  let c32_i32_89 : BitVec 32 := 32#32
  let v141 : BitVec 32 := Scalar.muli v140 c32_i32_89
  let v142 : BitVec 32 := v141
  let v321 : Index := Scalar.indexCast v142
  let c3328 : Index := 3328#32
  ![v321.toNat, 3328]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8192x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x3584 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GateUpRefIdeal.lean ====
abbrev S4096x8192 : Shape := ⟨2, ![4096, 8192]⟩
abbrev S4096x1 : Shape := ⟨2, ![4096, 1]⟩
abbrev S8192x3584 : Shape := ⟨2, ![8192, 3584]⟩
abbrev S1x3584 : Shape := ⟨2, ![1, 3584]⟩
abbrev S4096x3584 : Shape := ⟨2, ![4096, 3584]⟩
abbrev S4096 : Shape := ⟨1, ![4096]⟩

abbrev nBuf : Space → Nat
  | .hbm => 8
  | .vmem => 8
  | .smem => 0
  | _ => 0

abbrev bufTy : (tb : Table) → Fin (tcTables nBuf tb) → BufTy
  | .hbm, ⟨0, _⟩ => ⟨S4096x8192, .fp8e4m3⟩
  | .hbm, ⟨1, _⟩ => ⟨S4096x1, .f32⟩
  | .hbm, ⟨2, _⟩ => ⟨S8192x3584, .fp8e4m3⟩
  | .hbm, ⟨3, _⟩ => ⟨S8192x3584, .fp8e4m3⟩
  | .hbm, ⟨4, _⟩ => ⟨S1x3584, .f32⟩
  | .hbm, ⟨5, _⟩ => ⟨S1x3584, .f32⟩
  | .hbm, ⟨6, _⟩ => ⟨S4096x3584, .fp8e4m3⟩
  | .hbm, ⟨7, _⟩ => ⟨S4096x1, .f32⟩
  | .local _ .vmem, ⟨0, _⟩ => ⟨S4096x8192, .fp8e4m3⟩
  | .local _ .vmem, ⟨1, _⟩ => ⟨S4096x1, .f32⟩
  | .local _ .vmem, ⟨2, _⟩ => ⟨S8192x3584, .fp8e4m3⟩
  | .local _ .vmem, ⟨3, _⟩ => ⟨S8192x3584, .fp8e4m3⟩
  | .local _ .vmem, ⟨4, _⟩ => ⟨S1x3584, .f32⟩
  | .local _ .vmem, ⟨5, _⟩ => ⟨S1x3584, .f32⟩
  | .local _ .vmem, ⟨6, _⟩ => ⟨S4096x3584, .fp8e4m3⟩
  | .local _ .vmem, ⟨7, _⟩ => ⟨S4096x1, .f32⟩
  | _, _ => ⟨S4096x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4096x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Down.lean ====
abbrev S4096x3584 : Shape := ⟨2, ![4096, 3584]⟩
abbrev S4096x1 : Shape := ⟨2, ![4096, 1]⟩
abbrev S3584x8192 : Shape := ⟨2, ![3584, 8192]⟩
abbrev S1x8192 : Shape := ⟨2, ![1, 8192]⟩
abbrev S4096x8192 : Shape := ⟨2, ![4096, 8192]⟩
abbrev S4096x64 : Shape := ⟨2, ![4096, 64]⟩
abbrev S1024x3584 : Shape := ⟨2, ![1024, 3584]⟩
abbrev S1024x1 : Shape := ⟨2, ![1024, 1]⟩
abbrev S3584x512 : Shape := ⟨2, ![3584, 512]⟩
abbrev S1x512 : Shape := ⟨2, ![1, 512]⟩
abbrev S1024x512 : Shape := ⟨2, ![1024, 512]⟩
abbrev S1024x64 : Shape := ⟨2, ![1024, 64]⟩
abbrev S256x64 : Shape := ⟨2, ![256, 64]⟩
abbrev S256x3584 : Shape := ⟨2, ![256, 3584]⟩
abbrev S256x512 : Shape := ⟨2, ![256, 512]⟩
abbrev S256x1 : Shape := ⟨2, ![256, 1]⟩
abbrev S256x128 : Shape := ⟨2, ![256, 128]⟩
abbrev S256 : Shape := ⟨1, ![256]⟩

abbrev nBuf : Space → Nat
  | .hbm => 6
  | .vmem => 12
  | .smem => 0
  | _ => 0

abbrev bufTy : (tb : Table) → Fin (tcTables nBuf tb) → BufTy
  | .hbm, ⟨0, _⟩ => ⟨S4096x3584, .fp8e4m3⟩
  | .hbm, ⟨1, _⟩ => ⟨S4096x1, .f32⟩
  | .hbm, ⟨2, _⟩ => ⟨S3584x8192, .fp8e4m3⟩
  | .hbm, ⟨3, _⟩ => ⟨S1x8192, .f32⟩
  | .hbm, ⟨4, _⟩ => ⟨S4096x8192, .fp8e4m3⟩
  | .hbm, ⟨5, _⟩ => ⟨S4096x64, .f32⟩
  | .local _ .vmem, ⟨0, _⟩ => ⟨S1024x3584, .fp8e4m3⟩
  | .local _ .vmem, ⟨1, _⟩ => ⟨S1024x3584, .fp8e4m3⟩
  | .local _ .vmem, ⟨2, _⟩ => ⟨S1024x1, .f32⟩
  | .local _ .vmem, ⟨3, _⟩ => ⟨S1024x1, .f32⟩
  | .local _ .vmem, ⟨4, _⟩ => ⟨S3584x512, .fp8e4m3⟩
  | .local _ .vmem, ⟨5, _⟩ => ⟨S3584x512, .fp8e4m3⟩
  | .local _ .vmem, ⟨6, _⟩ => ⟨S1x512, .f32⟩
  | .local _ .vmem, ⟨7, _⟩ => ⟨S1x512, .f32⟩
  | .local _ .vmem, ⟨8, _⟩ => ⟨S1024x512, .fp8e4m3⟩
  | .local _ .vmem, ⟨9, _⟩ => ⟨S1024x512, .fp8e4m3⟩
  | .local _ .vmem, ⟨10, _⟩ => ⟨S1024x64, .f32⟩
  | .local _ .vmem, ⟨11, _⟩ => ⟨S1024x64, .f32⟩
  | _, _ => ⟨S4096x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3584x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DownRefIdeal.lean ====
abbrev S4096x3584 : Shape := ⟨2, ![4096, 3584]⟩
abbrev S4096x1 : Shape := ⟨2, ![4096, 1]⟩
abbrev S3584x8192 : Shape := ⟨2, ![3584, 8192]⟩
abbrev S1x8192 : Shape := ⟨2, ![1, 8192]⟩
abbrev S4096x8192 : Shape := ⟨2, ![4096, 8192]⟩
abbrev S4096x64 : Shape := ⟨2, ![4096, 64]⟩
abbrev S4096x64x128 : Shape := ⟨3, ![4096, 64, 128]⟩
abbrev S4096x64x1 : Shape := ⟨3, ![4096, 64, 1]⟩

abbrev nBuf : Space → Nat
  | .hbm => 6
  | .vmem => 6
  | .smem => 0
  | _ => 0

abbrev bufTy : (tb : Table) → Fin (tcTables nBuf tb) → BufTy
  | .hbm, ⟨0, _⟩ => ⟨S4096x3584, .fp8e4m3⟩
  | .hbm, ⟨1, _⟩ => ⟨S4096x1, .f32⟩
  | .hbm, ⟨2, _⟩ => ⟨S3584x8192, .fp8e4m3⟩
  | .hbm, ⟨3, _⟩ => ⟨S1x8192, .f32⟩
  | .hbm, ⟨4, _⟩ => ⟨S4096x8192, .fp8e4m3⟩
  | .hbm, ⟨5, _⟩ => ⟨S4096x64, .f32⟩
  | .local _ .vmem, ⟨0, _⟩ => ⟨S4096x3584, .fp8e4m3⟩
  | .local _ .vmem, ⟨1, _⟩ => ⟨S4096x1, .f32⟩
  | .local _ .vmem, ⟨2, _⟩ => ⟨S3584x8192, .fp8e4m3⟩
  | .local _ .vmem, ⟨3, _⟩ => ⟨S1x8192, .f32⟩
  | .local _ .vmem, ⟨4, _⟩ => ⟨S4096x8192, .fp8e4m3⟩
  | .local _ .vmem, ⟨5, _⟩ => ⟨S4096x64, .f32⟩
  | _, _ => ⟨S4096x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4096x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Recv.lean ====
abbrev S8x4096x8192 : Shape := ⟨3, ![8, 4096, 8192]⟩
abbrev S8x4096x64 : Shape := ⟨3, ![8, 4096, 64]⟩
abbrev S4096x8192 : Shape := ⟨2, ![4096, 8192]⟩
abbrev S1x8192 : Shape := ⟨2, ![1, 8192]⟩
abbrev S4096x1 : Shape := ⟨2, ![4096, 1]⟩
abbrev S8x32x8192 : Shape := ⟨3, ![8, 32, 8192]⟩
abbrev S8x32x64 : Shape := ⟨3, ![8, 32, 64]⟩
abbrev S32x8192 : Shape := ⟨2, ![32, 8192]⟩
abbrev S32x1 : Shape := ⟨2, ![32, 1]⟩
abbrev S32x128 : Shape := ⟨2, ![32, 128]⟩
abbrev S1x32x128 : Shape := ⟨3, ![1, 32, 128]⟩
abbrev S1x32x1 : Shape := ⟨3, ![1, 32, 1]⟩
abbrev S32 : Shape := ⟨1, ![32]⟩
abbrev S1x128 : Shape := ⟨2, ![1, 128]⟩

abbrev nBuf : Space → Nat
  | .hbm => 7
  | .vmem => 14
  | .smem => 0
  | _ => 0

abbrev bufTy : (tb : Table) → Fin (tcTables nBuf tb) → BufTy
  | .hbm, ⟨0, _⟩ => ⟨S8x4096x8192, .fp8e4m3⟩
  | .hbm, ⟨1, _⟩ => ⟨S8x4096x64, .f32⟩
  | .hbm, ⟨2, _⟩ => ⟨S4096x8192, .bf16⟩
  | .hbm, ⟨3, _⟩ => ⟨S1x8192, .f32⟩
  | .hbm, ⟨4, _⟩ => ⟨S4096x8192, .bf16⟩
  | .hbm, ⟨5, _⟩ => ⟨S4096x8192, .fp8e4m3⟩
  | .hbm, ⟨6, _⟩ => ⟨S4096x1, .f32⟩
  | .local _ .vmem, ⟨0, _⟩ => ⟨S8x32x8192, .fp8e4m3⟩
  | .local _ .vmem, ⟨1, _⟩ => ⟨S8x32x8192, .fp8e4m3⟩
  | .local _ .vmem, ⟨2, _⟩ => ⟨S8x32x64, .f32⟩
  | .local _ .vmem, ⟨3, _⟩ => ⟨S8x32x64, .f32⟩
  | .local _ .vmem, ⟨4, _⟩ => ⟨S32x8192, .bf16⟩
  | .local _ .vmem, ⟨5, _⟩ => ⟨S32x8192, .bf16⟩
  | .local _ .vmem, ⟨6, _⟩ => ⟨S1x8192, .f32⟩
  | .local _ .vmem, ⟨7, _⟩ => ⟨S32x8192, .bf16⟩
  | .local _ .vmem, ⟨8, _⟩ => ⟨S32x8192, .bf16⟩
  | .local _ .vmem, ⟨9, _⟩ => ⟨S32x8192, .fp8e4m3⟩
  | .local _ .vmem, ⟨10, _⟩ => ⟨S32x8192, .fp8e4m3⟩
  | .local _ .vmem, ⟨11, _⟩ => ⟨S32x1, .f32⟩
  | .local _ .vmem, ⟨12, _⟩ => ⟨S32x1, .f32⟩
  | .local _ .vmem, ⟨13, _⟩ => ⟨S32x8192, .f32⟩
  | _, _ => ⟨S8x4096x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x8192 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RecvRefIdeal.lean ====
abbrev S8x4096x8192 : Shape := ⟨3, ![8, 4096, 8192]⟩
abbrev S8x4096x64 : Shape := ⟨3, ![8, 4096, 64]⟩
abbrev S4096x8192 : Shape := ⟨2, ![4096, 8192]⟩
abbrev S1x8192 : Shape := ⟨2, ![1, 8192]⟩
abbrev S4096x1 : Shape := ⟨2, ![4096, 1]⟩
abbrev S8x4096x64x128 : Shape := ⟨4, ![8, 4096, 64, 128]⟩
abbrev S8x4096x64x1 : Shape := ⟨4, ![8, 4096, 64, 1]⟩
abbrev S4096x64x128 : Shape := ⟨3, ![4096, 64, 128]⟩
abbrev S4096 : Shape := ⟨1, ![4096]⟩

abbrev nBuf : Space → Nat
  | .hbm => 7
  | .vmem => 7
  | .smem => 0
  | _ => 0

abbrev bufTy : (tb : Table) → Fin (tcTables nBuf tb) → BufTy
  | .hbm, ⟨0, _⟩ => ⟨S8x4096x8192, .fp8e4m3⟩
  | .hbm, ⟨1, _⟩ => ⟨S8x4096x64, .f32⟩
  | .hbm, ⟨2, _⟩ => ⟨S4096x8192, .bf16⟩
  | .hbm, ⟨3, _⟩ => ⟨S1x8192, .f32⟩
  | .hbm, ⟨4, _⟩ => ⟨S4096x8192, .bf16⟩
  | .hbm, ⟨5, _⟩ => ⟨S4096x8192, .fp8e4m3⟩
  | .hbm, ⟨6, _⟩ => ⟨S4096x1, .f32⟩
  | .local _ .vmem, ⟨0, _⟩ => ⟨S8x4096x8192, .fp8e4m3⟩
  | .local _ .vmem, ⟨1, _⟩ => ⟨S8x4096x64, .f32⟩
  | .local _ .vmem, ⟨2, _⟩ => ⟨S4096x8192, .bf16⟩
  | .local _ .vmem, ⟨3, _⟩ => ⟨S1x8192, .f32⟩
  | .local _ .vmem, ⟨4, _⟩ => ⟨S4096x8192, .bf16⟩
  | .local _ .vmem, ⟨5, _⟩ => ⟨S4096x8192, .fp8e4m3⟩
  | .local _ .vmem, ⟨6, _⟩ => ⟨S4096x1, .f32⟩
  | _, _ => ⟨S8x4096x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x4096x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.GateUpPoints.lean ====
/- The gate/up kernel (GateUp): its two conditions over the grid, its staging buffers, and its invariant written out. -/
module

public import proofs.«01_k».proof.Proof.Gen.GateUp.Frame
public import Idealize.ShloMosaic.Lib.Claim

@[expose] public section

set_option maxRecDepth 16384

noncomputable section

namespace Cert.Proof.GateUpPoints

open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The first condition holds at the first column block of a row tile, -/
theorem cond1_iff : ∀ t : Fin cfg0.N, (Scalar.cmpi .ne (Scalar.extui (Scalar.cmpi .eq (BitVec.ofNat 32 (grid0.coords t 1).val) 0#32) : BitVec 32) 0#32 = 1#1) ↔ t.val % 14 = 0 := by
  decide +kernel

/-- the second at the last. -/
theorem cond2_iff : ∀ t : Fin cfg0.N, k0_cond2 (grid0.coords t) = 1#1 ↔ t.val % 14 = 13 := by
  decide +kernel

/-- The two conditions never hold together. -/
theorem conds_ne (t : Fin cfg0.N) : ¬ ((Scalar.cmpi .ne (Scalar.extui (Scalar.cmpi .eq (BitVec.ofNat 32 (grid0.coords t 1).val) 0#32) : BitVec 32) 0#32 = 1#1) ∧ k0_cond2 (grid0.coords t) = 1#1) := by
  rw [cond1_iff, cond2_iff]; omega

/-- A buffer owned at contents `f` is owned at what is read of it. -/
theorem owns_of_pt {c : Dev nD} {sp : Space} {sh : Shape} {e : EltTy} (r : Memref sig .tc sp sh e) {f : Buf (Elt F) (r.view.loc (c : Thread nD τ))} :
    (r.view.loc (c : Thread nD τ) ↦[r.view.set]{fullShare} f : sProp 𝕄) ⊢ owns (c : Thread nD τ) r fullShare (r.view.read (Elt F) f) := by
  unfold owns
  iintro H
  iexists f; isplitr
  · ipureintro; rfl
  iexact H

/-- Window 0's staging buffer at point `t`. -/
abbrev ms0_0 (t : Fin cfg0.N) : Memref sig .tc .vmem S1024x8192 .fp8e4m3 := win0_0.stage (cfg0.slots t 0)
/-- Window 1's staging buffer at point `t`. -/
abbrev ms0_1 (t : Fin cfg0.N) : Memref sig .tc .vmem S1024x1 .f32 := win0_1.stage (cfg0.slots t 1)
/-- Window 2's staging buffer at point `t`. -/
abbrev ms0_2 (t : Fin cfg0.N) : Memref sig .tc .vmem S8192x256 .fp8e4m3 := win0_2.stage (cfg0.slots t 2)
/-- Window 3's staging buffer at point `t`. -/
abbrev ms0_3 (t : Fin cfg0.N) : Memref sig .tc .vmem S8192x256 .fp8e4m3 := win0_3.stage (cfg0.slots t 3)
/-- Window 4's staging buffer at point `t`. -/
abbrev ms0_4 (t : Fin cfg0.N) : Memref sig .tc .vmem S1x256 .f32 := win0_4.stage (cfg0.slots t 4)
/-- Window 5's staging buffer at point `t`. -/
abbrev ms0_5 (t : Fin cfg0.N) : Memref sig .tc .vmem S1x256 .f32 := win0_5.stage (cfg0.slots t 5)
/-- Window 6's staging buffer at point `t`. -/
abbrev ms0_6 (t : Fin cfg0.N) : Memref sig .tc .vmem S1024x3584 .fp8e4m3 := win0_6.stage (cfg0.slots t 6)
/-- Window 7's staging buffer at point `t`. -/
abbrev ms0_7 (t : Fin cfg0.N) : Memref sig .tc .vmem S1024x1 .f32 := win0_7.stage (cfg0.slots t 7)

/-- The invariant of a region that names nothing: the two scratch buffers at any contents, and the generator's register. -/
theorem PhiA_eq (c : Dev nD) : (Pipeline.ΦA (Val := Elt F) (U := UR sig nD τ) spec0 c : sProp 𝕄)
    = iprop(((∃ M, owns (c : Thread nD τ) (Memref.whole cc0_scratch0) fullShare M) ∗ (∃ A, owns (c : Thread nD τ) (Memref.whole cc0_scratch1) fullShare A)) ∗ (∃ r, prngReg c r)) := by
  unfold Pipeline.ΦA; rw [scopedRest0_eq]; simp only [owns_whole]

/-- A final state of a run to the frame's post has the arguments unchanged. -/
theorem unchanged_of (m : (ℓ : Loc nD τ sig) → Buf (Elt F) ℓ) (rdat : (c : Dev nD) → Pipeline.RDat τ (Elt F) Unit ℕ (UR sig nD τ) ℕ (cfgs 0) c)
    (hA : ∀ c w, (rdat c).A w = V m c (Pipeline.arrRef spec0 w)) {r} (h : Pipeline.RDat.FramePost (cfgs 0) rdat (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(Pipeline.RDat.FramePost.arr_in h c 0 rfl).trans ((hA c 0).trans (V_main_arg0 m c)),
    (Pipeline.RDat.FramePost.arr_in h c 1 rfl).trans ((hA c 1).trans (V_main_arg1 m c)),
    (Pipeline.RDat.FramePost.arr_in h c 2 rfl).trans ((hA c 2).trans (V_main_arg2 m c)),
    (Pipeline.RDat.FramePost.arr_in h c 3 rfl).trans ((hA c 3).trans (V_main_arg3 m c)),
    (Pipeline.RDat.FramePost.arr_in h c 4 rfl).trans ((hA c 4).trans (V_main_arg4 m c)),
    (Pipeline.RDat.FramePost.arr_in h c 5 rfl).trans ((hA c 5).trans (V_main_arg5 m c))⟩

end Cert.Proof.GateUpPoints

end
-- ==== Proof.GateUpRun.lean ====
/- One grid point of the gate/up kernel, run from its memory operations: what it leaves in the scratch buffers and the result blocks. -/
module

public import proofs.«01_k».proof.Proof.Gen.GateUp.Frame
public import proofs.«01_k».proof.Proof.Gen.GateUp.Loops

@[expose] public section

set_option maxRecDepth 16384

noncomputable section

namespace Cert.Proof.GateUpRun

open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 9140000 in
/-- The first column block of a row tile: the running maximum is zeroed, then the block of products and the maximum are stored; the results are untouched. -/
def runBodyA (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole)
    (h1 : (Scalar.cmpi .ne (Scalar.extui (Scalar.cmpi .eq (BitVec.ofNat 32 (i 1).val) 0#32) : BitVec 32) 0#32 = 1#1)) (h2 : ¬ (k0_cond2 i = 1#1))
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32)
    (M : Vec F S14x1024x256 .f32) (A : Vec F S1024x128 .f32) :
    Σ' (L10 : List (View.Piece (Elt F) S14x1024x256 .f32)), { L11 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare M ∗ owns (c : Thread nD τ) arg11 fullShare A
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (arg10.view.loc (c : Thread nD τ) ↦[arg10.view.set]{fullShare} arg10.view.writes (Elt F) (harg10.unread M) L10) ∗ (arg11.view.loc (c : Thread nD τ) ↦[arg11.view.set]{fullShare} arg11.view.writes (Elt F) (harg11.unread A) L11)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_gate_up_eq_skeleton]; unfold cc0_gate_up_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, %hf8, H8⟩, ⟨%d9, %f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf10; obtain rfl := harg11.eq_unread hf11
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]
    · iexists _, _; isplitr; swap; · iexact H8
      ipureintro; exact hf8
    isplitl [H9]
    · iexists _, _; isplitr; swap; · iexact H9
      ipureintro; exact hf9
    isplitl [H10]; · iexact H10
    iexact H11

set_option maxHeartbeats 9140000 in
/-- A column block that is neither the first nor the last: the block of products and the maximum are stored; the results are untouched. -/
def runBodyB (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole)
    (h1 : ¬ (Scalar.cmpi .ne (Scalar.extui (Scalar.cmpi .eq (BitVec.ofNat 32 (i 1).val) 0#32) : BitVec 32) 0#32 = 1#1)) (h2 : ¬ (k0_cond2 i = 1#1))
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32)
    (M : Vec F S14x1024x256 .f32) (A : Vec F S1024x128 .f32) :
    Σ' (L10 : List (View.Piece (Elt F) S14x1024x256 .f32)), { L11 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare M ∗ owns (c : Thread nD τ) arg11 fullShare A
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (arg10.view.loc (c : Thread nD τ) ↦[arg10.view.set]{fullShare} arg10.view.writes (Elt F) (harg10.unread M) L10) ∗ (arg11.view.loc (c : Thread nD τ) ↦[arg11.view.set]{fullShare} arg11.view.writes (Elt F) (harg11.unread A) L11)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_gate_up_eq_skeleton]; unfold cc0_gate_up_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, %hf8, H8⟩, ⟨%d9, %f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf10; obtain rfl := harg11.eq_unread hf11
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]
    · iexists _, _; isplitr; swap; · iexact H8
      ipureintro; exact hf8
    isplitl [H9]
    · iexists _, _; isplitr; swap; · iexact H9
      ipureintro; exact hf9
    isplitl [H10]; · iexact H10
    iexact H11

set_option maxHeartbeats 9140000 in
/-- The last column block: after the stores the loop over 32 groups of rows writes the scales and the codes. -/
def runBodyC (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole)
    (h1 : ¬ (Scalar.cmpi .ne (Scalar.extui (Scalar.cmpi .eq (BitVec.ofNat 32 (i 1).val) 0#32) : BitVec 32) 0#32 = 1#1)) (h2 : (k0_cond2 i = 1#1))
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32)
    (M : Vec F S14x1024x256 .f32) (A : Vec F S1024x128 .f32) :
    Σ' (L8 : List (View.Piece (Elt F) S1024x3584 .fp8e4m3)), Σ' (L9 : List (View.Piece (Elt F) S1024x1 .f32)), Σ' (L10 : List (View.Piece (Elt F) S14x1024x256 .f32)), { L11 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare M ∗ owns (c : Thread nD τ) arg11 fullShare A
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (arg10.view.loc (c : Thread nD τ) ↦[arg10.view.set]{fullShare} arg10.view.writes (Elt F) (harg10.unread M) L10) ∗ (∃ f, arg11.view.loc (c : Thread nD τ) ↦[arg11.view.set]{fullShare} arg11.view.writes (Elt F) f L11)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_gate_up_eq_skeleton]; unfold cc0_gate_up_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, %hf8, H8⟩, ⟨%d9, %f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf10; obtain rfl := harg11.eq_unread hf11
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]; · iexists _; iexact H8
    isplitl [H9]; · iexists _; iexact H9
    isplitl [H10]; · iexact H10
    iexists _; iexact H11

end Cert.Proof.GateUpRun

end
-- ==== Proof.GateUpFrame.lean ====
/- The gate/up kernel (GateUp): the runs of its body put together, nothing of the results named; every execution ends with the arguments unchanged and every counter at zero. -/
module

public import proofs.«01_k».proof.Proof.GateUpPoints
public import proofs.«01_k».proof.Proof.GateUpRun
public import Idealize.ShloMosaic.Lib.Claim

@[expose] public section

set_option maxRecDepth 16384

noncomputable section

namespace Cert.Proof.GateUpFrame

open Cert.Proof.GateUpRun Cert.Proof.GateUpPoints
open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body at any grid point, whatever the scratch and the results held: everything it owned comes back, the inputs unchanged. -/
theorem body_any (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole)
    (hx : ¬ ((Scalar.cmpi .ne (Scalar.extui (Scalar.cmpi .eq (BitVec.ofNat 32 (i 1).val) 0#32) : BitVec 32) 0#32 = 1#1) ∧ k0_cond2 i = 1#1))
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ M, owns (c : Thread nD τ) arg10 fullShare M) ∗ (∃ A, owns (c : Thread nD τ) arg11 fullShare A)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ M, owns (c : Thread nD τ) arg10 fullShare M) ∗ (∃ A, owns (c : Thread nD τ) arg11 fullShare A)) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K := by
  iintro ⟨H0, H1, H2, H3, H4, H5, ⟨%d8, H8⟩, ⟨%d9, H9⟩, ⟨%M, H10⟩, ⟨%A, H11⟩, Hk⟩
  by_cases h1 : (Scalar.cmpi .ne (Scalar.extui (Scalar.cmpi .eq (BitVec.ofNat 32 (i 1).val) 0#32) : BitVec 32) 0#32 = 1#1)
  · by_cases h2 : k0_cond2 i = 1#1
    · exact absurd ⟨h1, h2⟩ hx
    · skip
      iapply (runBodyA c i arg2 harg2 arg3 harg3 arg4 harg4 arg5 harg5 arg6 harg6 arg7 harg7 arg8 harg8 arg9 harg9 arg10 harg10 arg11 harg11 h1 h2 x0 x1 x2 x3 x4 x5 M A).2.2 E K
      isplitl [H0]; · iexact H0
      isplitl [H1]; · iexact H1
      isplitl [H2]; · iexact H2
      isplitl [H3]; · iexact H3
      isplitl [H4]; · iexact H4
      isplitl [H5]; · iexact H5
      isplitl [H8]; · iexists _; iexact H8
      isplitl [H9]; · iexists _; iexact H9
      isplitl [H10]; · iexact H10
      isplitl [H11]; · iexact H11
      iintro ⟨H0, H1, H2, H3, H4, H5, H8, H9, H10, H11⟩
      iapply Hk
      isplitl [H0]; · iexact H0
      isplitl [H1]; · iexact H1
      isplitl [H2]; · iexact H2
      isplitl [H3]; · iexact H3
      isplitl [H4]; · iexact H4
      isplitl [H5]; · iexact H5
      isplitl [H8]; · iexact H8
      isplitl [H9]; · iexact H9
      isplitl [H10]
      · iexists _; iapply owns_of_pt; iexact H10
      iexists _; iapply owns_of_pt; iexact H11
  · by_cases h2 : k0_cond2 i = 1#1
    · skip
      iapply (runBodyC c i arg2 harg2 arg3 harg3 arg4 harg4 arg5 harg5 arg6 harg6 arg7 harg7 arg8 harg8 arg9 harg9 arg10 harg10 arg11 harg11 h1 h2 x0 x1 x2 x3 x4 x5 M A).2.2.2.2 E K
      isplitl [H0]; · iexact H0
      isplitl [H1]; · iexact H1
      isplitl [H2]; · iexact H2
      isplitl [H3]; · iexact H3
      isplitl [H4]; · iexact H4
      isplitl [H5]; · iexact H5
      isplitl [H8]; · iexists _; iexact H8
      isplitl [H9]; · iexists _; iexact H9
      isplitl [H10]; · iexact H10
      isplitl [H11]; · iexact H11
      iintro ⟨H0, H1, H2, H3, H4, H5, ⟨%f8, H8⟩, ⟨%f9, H9⟩, H10, ⟨%f11, H11⟩⟩
      iapply Hk
      isplitl [H0]; · iexact H0
      isplitl [H1]; · iexact H1
      isplitl [H2]; · iexact H2
      isplitl [H3]; · iexact H3
      isplitl [H4]; · iexact H4
      isplitl [H5]; · iexact H5
      isplitl [H8]
      · iexists _; iapply owns_of_pt; iexact H8
      isplitl [H9]
      · iexists _; iapply owns_of_pt; iexact H9
      isplitl [H10]
      · iexists _; iapply owns_of_pt; iexact H10
      iexists _; iapply owns_of_pt; iexact H11
    · skip
      iapply (runBodyB c i arg2 harg2 arg3 harg3 arg4 harg4 arg5 harg5 arg6 harg6 arg7 harg7 arg8 harg8 arg9 harg9 arg10 harg10 arg11 harg11 h1 h2 x0 x1 x2 x3 x4 x5 M A).2.2 E K
      isplitl [H0]; · iexact H0
      isplitl [H1]; · iexact H1
      isplitl [H2]; · iexact H2
      isplitl [H3]; · iexact H3
      isplitl [H4]; · iexact H4
      isplitl [H5]; · iexact H5
      isplitl [H8]; · iexists _; iexact H8
      isplitl [H9]; · iexists _; iexact H9
      isplitl [H10]; · iexact H10
      isplitl [H11]; · iexact H11
      iintro ⟨H0, H1, H2, H3, H4, H5, H8, H9, H10, H11⟩
      iapply Hk
      isplitl [H0]; · iexact H0
      isplitl [H1]; · iexact H1
      isplitl [H2]; · iexact H2
      isplitl [H3]; · iexact H3
      isplitl [H4]; · iexact H4
      isplitl [H5]; · iexact H5
      isplitl [H8]; · iexact H8
      isplitl [H9]; · iexact H9
      isplitl [H10]
      · iexists _; iapply owns_of_pt; iexact H10
      iexists _; iapply owns_of_pt; iexact H11

variable (m : (ℓ : Loc nD τ sig) → Buf (Elt F) ℓ) (ρ : Dev nD → PrngReg)

/-- The results, windows 6 and 7, are not named here. -/
def forgets0 : Fin 8 → Bool := fun w => w.val == 6 || w.val == 7

/-- The proof data on core `c`: the inputs' buffers hold their blocks, the results are not named, the scratch buffers hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The arrays of the proof data are the region's. -/
theorem A_eq (c : Dev nD) (w : Fin cfg0.W) : (dats m 0 c).A w = V m c (Pipeline.arrRef spec0 w) := by
  dsimp only [dats]

/-- What the body leaves in window 0: its block. -/
theorem after0_0 (c : Dev nD) (t : Fin cfg0.N) : (dats m 0 c).after 0 t = iblk m c 0 t := by dsimp only [dats]
/-- What the body leaves in window 1: its block. -/
theorem after0_1 (c : Dev nD) (t : Fin cfg0.N) : (dats m 0 c).after 1 t = iblk m c 1 t := by dsimp only [dats]
/-- What the body leaves in window 2: its block. -/
theorem after0_2 (c : Dev nD) (t : Fin cfg0.N) : (dats m 0 c).after 2 t = iblk m c 2 t := by dsimp only [dats]
/-- What the body leaves in window 3: its block. -/
theorem after0_3 (c : Dev nD) (t : Fin cfg0.N) : (dats m 0 c).after 3 t = iblk m c 3 t := by dsimp only [dats]
/-- What the body leaves in window 4: its block. -/
theorem after0_4 (c : Dev nD) (t : Fin cfg0.N) : (dats m 0 c).after 4 t = iblk m c 4 t := by dsimp only [dats]
/-- What the body leaves in window 5: its block. -/
theorem after0_5 (c : Dev nD) (t : Fin cfg0.N) : (dats m 0 c).after 5 t = iblk m c 5 t := by dsimp only [dats]
/-- What the body finds in window 0: its block. -/
theorem before0_0 (c : Dev nD) (t : Fin cfg0.N) (d) : (dats m 0 c).before 0 t d = iblk m c 0 t :=
  before0_0_of m (dats m 0 c) (A_eq m c 0) (after0_0 m c) t d
/-- What the body finds in window 1: its block. -/
theorem before0_1 (c : Dev nD) (t : Fin cfg0.N) (d) : (dats m 0 c).before 1 t d = iblk m c 1 t :=
  before0_1_of m (dats m 0 c) (A_eq m c 1) (after0_1 m c) t d
/-- What the body finds in window 2: its block. -/
theorem before0_2 (c : Dev nD) (t : Fin cfg0.N) (d) : (dats m 0 c).before 2 t d = iblk m c 2 t :=
  before0_2_of m (dats m 0 c) (A_eq m c 2) (after0_2 m c) t d
/-- What the body finds in window 3: its block. -/
theorem before0_3 (c : Dev nD) (t : Fin cfg0.N) (d) : (dats m 0 c).before 3 t d = iblk m c 3 t :=
  before0_3_of m (dats m 0 c) (A_eq m c 3) (after0_3 m c) t d
/-- What the body finds in window 4: its block. -/
theorem before0_4 (c : Dev nD) (t : Fin cfg0.N) (d) : (dats m 0 c).before 4 t d = iblk m c 4 t :=
  before0_4_of m (dats m 0 c) (A_eq m c 4) (after0_4 m c) t d
/-- What the body finds in window 5: its block. -/
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d))

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, PhiA_eq]
  iintro ⟨⟨⟨Hs0, Hs1⟩, Hg⟩, Ho, ⟨%d0, H0⟩, ⟨%d1, H1⟩, ⟨%d2, H2⟩, ⟨%d3, H3⟩, ⟨%d4, H4⟩, ⟨%d5, H5⟩, H6, H7⟩
  iapply (body_any c (grid0.coords t) _ _ _ _ _ _ _ _ _ _ _ _ _ _ _ _ _ _ _ _ (conds_ne t) (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hs0]; · iexact Hs0
  isplitl [Hs1]; · iexact Hs1
  iintro ⟨H0, H1, H2, H3, H4, H5, H6, H7, Hs0, Hs1⟩
  isplitl [Hs0 Hs1 Hg]
  · isplitl [Hs0 Hs1]
    · isplitl [Hs0]; · iexact Hs0
      iexact Hs1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every execution ends in the frame's state, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨unchanged_of m (fun c => (dats m 0 c).toRForget forgets0) (A_eq m) h.1, h.2⟩) (run_main_quiescent m ρ)

end Cert.Proof.GateUpFrame

end
-- ==== Proof.GateUpIdealPoints.lean ====
/- The gate/up kernel (GateUpIdeal): its two conditions over the grid, its staging buffers, and its invariant written out. -/
module

public import proofs.«01_k».proof.Proof.Gen.GateUpIdeal.Frame
public import Idealize.ShloMosaic.Lib.Claim

@[expose] public section

set_option maxRecDepth 16384

noncomputable section

namespace Cert.Proof.GateUpIdealPoints

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The first condition holds at the first column block of a row tile, -/
theorem cond1_iff : ∀ t : Fin cfg0.N, (Scalar.cmpi .ne (Scalar.extui (Scalar.cmpi .eq (BitVec.ofNat 32 (grid0.coords t 1).val) 0#32) : BitVec 32) 0#32 = 1#1) ↔ t.val % 14 = 0 := by
  decide +kernel

/-- the second at the last. -/
theorem cond2_iff : ∀ t : Fin cfg0.N, k0_cond2 (grid0.coords t) = 1#1 ↔ t.val % 14 = 13 := by
  decide +kernel

/-- The two conditions never hold together. -/
theorem conds_ne (t : Fin cfg0.N) : ¬ ((Scalar.cmpi .ne (Scalar.extui (Scalar.cmpi .eq (BitVec.ofNat 32 (grid0.coords t 1).val) 0#32) : BitVec 32) 0#32 = 1#1) ∧ k0_cond2 (grid0.coords t) = 1#1) := by
  rw [cond1_iff, cond2_iff]; omega

/-- A buffer owned at contents `f` is owned at what is read of it. -/
theorem owns_of_pt {c : Dev nD} {sp : Space} {sh : Shape} {e : EltTy} (r : Memref sig .tc sp sh e) {f : Buf (Elt F) (r.view.loc (c : Thread nD τ))} :
    (r.view.loc (c : Thread nD τ) ↦[r.view.set]{fullShare} f : sProp 𝕄) ⊢ owns (c : Thread nD τ) r fullShare (r.view.read (Elt F) f) := by
  unfold owns
  iintro H
  iexists f; isplitr
  · ipureintro; rfl
  iexact H

/-- Window 0's staging buffer at point `t`. -/
abbrev ms0_0 (t : Fin cfg0.N) : Memref sig .tc .vmem S1024x8192 .fp8e4m3 := win0_0.stage (cfg0.slots t 0)
/-- Window 1's staging buffer at point `t`. -/
abbrev ms0_1 (t : Fin cfg0.N) : Memref sig .tc .vmem S1024x1 .f32 := win0_1.stage (cfg0.slots t 1)
/-- Window 2's staging buffer at point `t`. -/
abbrev ms0_2 (t : Fin cfg0.N) : Memref sig .tc .vmem S8192x256 .fp8e4m3 := win0_2.stage (cfg0.slots t 2)
/-- Window 3's staging buffer at point `t`. -/
abbrev ms0_3 (t : Fin cfg0.N) : Memref sig .tc .vmem S8192x256 .fp8e4m3 := win0_3.stage (cfg0.slots t 3)
/-- Window 4's staging buffer at point `t`. -/
abbrev ms0_4 (t : Fin cfg0.N) : Memref sig .tc .vmem S1x256 .f32 := win0_4.stage (cfg0.slots t 4)
/-- Window 5's staging buffer at point `t`. -/
abbrev ms0_5 (t : Fin cfg0.N) : Memref sig .tc .vmem S1x256 .f32 := win0_5.stage (cfg0.slots t 5)
/-- Window 6's staging buffer at point `t`. -/
abbrev ms0_6 (t : Fin cfg0.N) : Memref sig .tc .vmem S1024x3584 .fp8e4m3 := win0_6.stage (cfg0.slots t 6)
/-- Window 7's staging buffer at point `t`. -/
abbrev ms0_7 (t : Fin cfg0.N) : Memref sig .tc .vmem S1024x1 .f32 := win0_7.stage (cfg0.slots t 7)

/-- The invariant of a region that names nothing: the two scratch buffers at any contents, and the generator's register. -/
theorem PhiA_eq (c : Dev nD) : (Pipeline.ΦA (Val := Elt F) (U := UR sig nD τ) spec0 c : sProp 𝕄)
    = iprop(((∃ M, owns (c : Thread nD τ) (Memref.whole cc0_scratch0) fullShare M) ∗ (∃ A, owns (c : Thread nD τ) (Memref.whole cc0_scratch1) fullShare A)) ∗ (∃ r, prngReg c r)) := by
  unfold Pipeline.ΦA; rw [scopedRest0_eq]; simp only [owns_whole]

/-- A final state of a run to the frame's post has the arguments unchanged. -/
theorem unchanged_of (m : (ℓ : Loc nD τ sig) → Buf (Elt F) ℓ) (rdat : (c : Dev nD) → Pipeline.RDat τ (Elt F) Unit ℕ (UR sig nD τ) ℕ (cfgs 0) c)
    (hA : ∀ c w, (rdat c).A w = V m c (Pipeline.arrRef spec0 w)) {r} (h : Pipeline.RDat.FramePost (cfgs 0) rdat (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(Pipeline.RDat.FramePost.arr_in h c 0 rfl).trans ((hA c 0).trans (V_main_arg0 m c)),
    (Pipeline.RDat.FramePost.arr_in h c 1 rfl).trans ((hA c 1).trans (V_main_arg1 m c)),
    (Pipeline.RDat.FramePost.arr_in h c 2 rfl).trans ((hA c 2).trans (V_main_arg2 m c)),
    (Pipeline.RDat.FramePost.arr_in h c 3 rfl).trans ((hA c 3).trans (V_main_arg3 m c)),
    (Pipeline.RDat.FramePost.arr_in h c 4 rfl).trans ((hA c 4).trans (V_main_arg4 m c)),
    (Pipeline.RDat.FramePost.arr_in h c 5 rfl).trans ((hA c 5).trans (V_main_arg5 m c))⟩

end Cert.Proof.GateUpIdealPoints

end
-- ==== Proof.GateUpIdealRun.lean ====
/- One grid point of the gate/up kernel, run from its memory operations: what it leaves in the scratch buffers and the result blocks. -/
module

public import proofs.«01_k».proof.Proof.Gen.GateUpIdeal.Frame
public import proofs.«01_k».proof.Proof.Gen.GateUpIdeal.Loops

@[expose] public section

set_option maxRecDepth 16384

noncomputable section

namespace Cert.Proof.GateUpIdealRun

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 9140000 in
/-- The first column block of a row tile: the running maximum is zeroed, then the block of products and the maximum are stored; the results are untouched. -/
def runBodyA (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole)
    (h1 : (Scalar.cmpi .ne (Scalar.extui (Scalar.cmpi .eq (BitVec.ofNat 32 (i 1).val) 0#32) : BitVec 32) 0#32 = 1#1)) (h2 : ¬ (k0_cond2 i = 1#1))
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32)
    (M : Vec F S14x1024x256 .f32) (A : Vec F S1024x128 .f32) :
    Σ' (L10 : List (View.Piece (Elt F) S14x1024x256 .f32)), { L11 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare M ∗ owns (c : Thread nD τ) arg11 fullShare A
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (arg10.view.loc (c : Thread nD τ) ↦[arg10.view.set]{fullShare} arg10.view.writes (Elt F) (harg10.unread M) L10) ∗ (arg11.view.loc (c : Thread nD τ) ↦[arg11.view.set]{fullShare} arg11.view.writes (Elt F) (harg11.unread A) L11)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_gate_up_eq_skeleton]; unfold cc0_gate_up_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, %hf8, H8⟩, ⟨%d9, %f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf10; obtain rfl := harg11.eq_unread hf11
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]
    · iexists _, _; isplitr; swap; · iexact H8
      ipureintro; exact hf8
    isplitl [H9]
    · iexists _, _; isplitr; swap; · iexact H9
      ipureintro; exact hf9
    isplitl [H10]; · iexact H10
    iexact H11

set_option maxHeartbeats 9140000 in
/-- A column block that is neither the first nor the last: the block of products and the maximum are stored; the results are untouched. -/
def runBodyB (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole)
    (h1 : ¬ (Scalar.cmpi .ne (Scalar.extui (Scalar.cmpi .eq (BitVec.ofNat 32 (i 1).val) 0#32) : BitVec 32) 0#32 = 1#1)) (h2 : ¬ (k0_cond2 i = 1#1))
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32)
    (M : Vec F S14x1024x256 .f32) (A : Vec F S1024x128 .f32) :
    Σ' (L10 : List (View.Piece (Elt F) S14x1024x256 .f32)), { L11 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare M ∗ owns (c : Thread nD τ) arg11 fullShare A
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (arg10.view.loc (c : Thread nD τ) ↦[arg10.view.set]{fullShare} arg10.view.writes (Elt F) (harg10.unread M) L10) ∗ (arg11.view.loc (c : Thread nD τ) ↦[arg11.view.set]{fullShare} arg11.view.writes (Elt F) (harg11.unread A) L11)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_gate_up_eq_skeleton]; unfold cc0_gate_up_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, %hf8, H8⟩, ⟨%d9, %f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf10; obtain rfl := harg11.eq_unread hf11
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]
    · iexists _, _; isplitr; swap; · iexact H8
      ipureintro; exact hf8
    isplitl [H9]
    · iexists _, _; isplitr; swap; · iexact H9
      ipureintro; exact hf9
    isplitl [H10]; · iexact H10
    iexact H11

set_option maxHeartbeats 9140000 in
/-- The last column block: after the stores the loop over 32 groups of rows writes the scales and the codes. -/
def runBodyC (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole)
    (h1 : ¬ (Scalar.cmpi .ne (Scalar.extui (Scalar.cmpi .eq (BitVec.ofNat 32 (i 1).val) 0#32) : BitVec 32) 0#32 = 1#1)) (h2 : (k0_cond2 i = 1#1))
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32)
    (M : Vec F S14x1024x256 .f32) (A : Vec F S1024x128 .f32) :
    Σ' (L8 : List (View.Piece (Elt F) S1024x3584 .fp8e4m3)), Σ' (L9 : List (View.Piece (Elt F) S1024x1 .f32)), Σ' (L10 : List (View.Piece (Elt F) S14x1024x256 .f32)), { L11 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare M ∗ owns (c : Thread nD τ) arg11 fullShare A
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (arg10.view.loc (c : Thread nD τ) ↦[arg10.view.set]{fullShare} arg10.view.writes (Elt F) (harg10.unread M) L10) ∗ (∃ f, arg11.view.loc (c : Thread nD τ) ↦[arg11.view.set]{fullShare} arg11.view.writes (Elt F) f L11)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_gate_up_eq_skeleton]; unfold cc0_gate_up_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, %hf8, H8⟩, ⟨%d9, %f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf10; obtain rfl := harg11.eq_unread hf11
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]; · iexists _; iexact H8
    isplitl [H9]; · iexists _; iexact H9
    isplitl [H10]; · iexact H10
    iexists _; iexact H11

end Cert.Proof.GateUpIdealRun

end
-- ==== Proof.GateUpIdealFrame.lean ====
/- The gate/up kernel (GateUpIdeal): the runs of its body put together, nothing of the results named; every execution ends with the arguments unchanged and every counter at zero. -/
module

public import proofs.«01_k».proof.Proof.GateUpIdealPoints
public import proofs.«01_k».proof.Proof.GateUpIdealRun
public import Idealize.ShloMosaic.Lib.Claim

@[expose] public section

set_option maxRecDepth 16384

noncomputable section

namespace Cert.Proof.GateUpIdealFrame

open Cert.Proof.GateUpIdealRun Cert.Proof.GateUpIdealPoints
open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body at any grid point, whatever the scratch and the results held: everything it owned comes back, the inputs unchanged. -/
theorem body_any (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole)
    (hx : ¬ ((Scalar.cmpi .ne (Scalar.extui (Scalar.cmpi .eq (BitVec.ofNat 32 (i 1).val) 0#32) : BitVec 32) 0#32 = 1#1) ∧ k0_cond2 i = 1#1))
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ M, owns (c : Thread nD τ) arg10 fullShare M) ∗ (∃ A, owns (c : Thread nD τ) arg11 fullShare A)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ M, owns (c : Thread nD τ) arg10 fullShare M) ∗ (∃ A, owns (c : Thread nD τ) arg11 fullShare A)) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K := by
  iintro ⟨H0, H1, H2, H3, H4, H5, ⟨%d8, H8⟩, ⟨%d9, H9⟩, ⟨%M, H10⟩, ⟨%A, H11⟩, Hk⟩
  by_cases h1 : (Scalar.cmpi .ne (Scalar.extui (Scalar.cmpi .eq (BitVec.ofNat 32 (i 1).val) 0#32) : BitVec 32) 0#32 = 1#1)
  · by_cases h2 : k0_cond2 i = 1#1
    · exact absurd ⟨h1, h2⟩ hx
    · skip
      iapply (runBodyA c i arg2 harg2 arg3 harg3 arg4 harg4 arg5 harg5 arg6 harg6 arg7 harg7 arg8 harg8 arg9 harg9 arg10 harg10 arg11 harg11 h1 h2 x0 x1 x2 x3 x4 x5 M A).2.2 E K
      isplitl [H0]; · iexact H0
      isplitl [H1]; · iexact H1
      isplitl [H2]; · iexact H2
      isplitl [H3]; · iexact H3
      isplitl [H4]; · iexact H4
      isplitl [H5]; · iexact H5
      isplitl [H8]; · iexists _; iexact H8
      isplitl [H9]; · iexists _; iexact H9
      isplitl [H10]; · iexact H10
      isplitl [H11]; · iexact H11
      iintro ⟨H0, H1, H2, H3, H4, H5, H8, H9, H10, H11⟩
      iapply Hk
      isplitl [H0]; · iexact H0
      isplitl [H1]; · iexact H1
      isplitl [H2]; · iexact H2
      isplitl [H3]; · iexact H3
      isplitl [H4]; · iexact H4
      isplitl [H5]; · iexact H5
      isplitl [H8]; · iexact H8
      isplitl [H9]; · iexact H9
      isplitl [H10]
      · iexists _; iapply owns_of_pt; iexact H10
      iexists _; iapply owns_of_pt; iexact H11
  · by_cases h2 : k0_cond2 i = 1#1
    · skip
      iapply (runBodyC c i arg2 harg2 arg3 harg3 arg4 harg4 arg5 harg5 arg6 harg6 arg7 harg7 arg8 harg8 arg9 harg9 arg10 harg10 arg11 harg11 h1 h2 x0 x1 x2 x3 x4 x5 M A).2.2.2.2 E K
      isplitl [H0]; · iexact H0
      isplitl [H1]; · iexact H1
      isplitl [H2]; · iexact H2
      isplitl [H3]; · iexact H3
      isplitl [H4]; · iexact H4
      isplitl [H5]; · iexact H5
      isplitl [H8]; · iexists _; iexact H8
      isplitl [H9]; · iexists _; iexact H9
      isplitl [H10]; · iexact H10
      isplitl [H11]; · iexact H11
      iintro ⟨H0, H1, H2, H3, H4, H5, ⟨%f8, H8⟩, ⟨%f9, H9⟩, H10, ⟨%f11, H11⟩⟩
      iapply Hk
      isplitl [H0]; · iexact H0
      isplitl [H1]; · iexact H1
      isplitl [H2]; · iexact H2
      isplitl [H3]; · iexact H3
      isplitl [H4]; · iexact H4
      isplitl [H5]; · iexact H5
      isplitl [H8]
      · iexists _; iapply owns_of_pt; iexact H8
      isplitl [H9]
      · iexists _; iapply owns_of_pt; iexact H9
      isplitl [H10]
      · iexists _; iapply owns_of_pt; iexact H10
      iexists _; iapply owns_of_pt; iexact H11
    · skip
      iapply (runBodyB c i arg2 harg2 arg3 harg3 arg4 harg4 arg5 harg5 arg6 harg6 arg7 harg7 arg8 harg8 arg9 harg9 arg10 harg10 arg11 harg11 h1 h2 x0 x1 x2 x3 x4 x5 M A).2.2 E K
      isplitl [H0]; · iexact H0
      isplitl [H1]; · iexact H1
      isplitl [H2]; · iexact H2
      isplitl [H3]; · iexact H3
      isplitl [H4]; · iexact H4
      isplitl [H5]; · iexact H5
      isplitl [H8]; · iexists _; iexact H8
      isplitl [H9]; · iexists _; iexact H9
      isplitl [H10]; · iexact H10
      isplitl [H11]; · iexact H11
      iintro ⟨H0, H1, H2, H3, H4, H5, H8, H9, H10, H11⟩
      iapply Hk
      isplitl [H0]; · iexact H0
      isplitl [H1]; · iexact H1
      isplitl [H2]; · iexact H2
      isplitl [H3]; · iexact H3
      isplitl [H4]; · iexact H4
      isplitl [H5]; · iexact H5
      isplitl [H8]; · iexact H8
      isplitl [H9]; · iexact H9
      isplitl [H10]
      · iexists _; iapply owns_of_pt; iexact H10
      iexists _; iapply owns_of_pt; iexact H11

variable (m : (ℓ : Loc nD τ sig) → Buf (Elt F) ℓ) (ρ : Dev nD → PrngReg)

/-- The results, windows 6 and 7, are not named here. -/
def forgets0 : Fin 8 → Bool := fun w => w.val == 6 || w.val == 7

/-- The proof data on core `c`: the inputs' buffers hold their blocks, the results are not named, the scratch buffers hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The arrays of the proof data are the region's. -/
theorem A_eq (c : Dev nD) (w : Fin cfg0.W) : (dats m 0 c).A w = V m c (Pipeline.arrRef spec0 w) := by
  dsimp only [dats]

/-- What the body leaves in window 0: its block. -/
theorem after0_0 (c : Dev nD) (t : Fin cfg0.N) : (dats m 0 c).after 0 t = iblk m c 0 t := by dsimp only [dats]
/-- What the body leaves in window 1: its block. -/
theorem after0_1 (c : Dev nD) (t : Fin cfg0.N) : (dats m 0 c).after 1 t = iblk m c 1 t := by dsimp only [dats]
/-- What the body leaves in window 2: its block. -/
theorem after0_2 (c : Dev nD) (t : Fin cfg0.N) : (dats m 0 c).after 2 t = iblk m c 2 t := by dsimp only [dats]
/-- What the body leaves in window 3: its block. -/
theorem after0_3 (c : Dev nD) (t : Fin cfg0.N) : (dats m 0 c).after 3 t = iblk m c 3 t := by dsimp only [dats]
/-- What the body leaves in window 4: its block. -/
theorem after0_4 (c : Dev nD) (t : Fin cfg0.N) : (dats m 0 c).after 4 t = iblk m c 4 t := by dsimp only [dats]
/-- What the body leaves in window 5: its block. -/
theorem after0_5 (c : Dev nD) (t : Fin cfg0.N) : (dats m 0 c).after 5 t = iblk m c 5 t := by dsimp only [dats]
/-- What the body finds in window 0: its block. -/
theorem before0_0 (c : Dev nD) (t : Fin cfg0.N) (d) : (dats m 0 c).before 0 t d = iblk m c 0 t :=
  before0_0_of m (dats m 0 c) (A_eq m c 0) (after0_0 m c) t d
/-- What the body finds in window 1: its block. -/
theorem before0_1 (c : Dev nD) (t : Fin cfg0.N) (d) : (dats m 0 c).before 1 t d = iblk m c 1 t :=
  before0_1_of m (dats m 0 c) (A_eq m c 1) (after0_1 m c) t d
/-- What the body finds in window 2: its block. -/
theorem before0_2 (c : Dev nD) (t : Fin cfg0.N) (d) : (dats m 0 c).before 2 t d = iblk m c 2 t :=
  before0_2_of m (dats m 0 c) (A_eq m c 2) (after0_2 m c) t d
/-- What the body finds in window 3: its block. -/
theorem before0_3 (c : Dev nD) (t : Fin cfg0.N) (d) : (dats m 0 c).before 3 t d = iblk m c 3 t :=
  before0_3_of m (dats m 0 c) (A_eq m c 3) (after0_3 m c) t d
/-- What the body finds in window 4: its block. -/
theorem before0_4 (c : Dev nD) (t : Fin cfg0.N) (d) : (dats m 0 c).before 4 t d = iblk m c 4 t :=
  before0_4_of m (dats m 0 c) (A_eq m c 4) (after0_4 m c) t d
/-- What the body finds in window 5: its block. -/
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d))

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, PhiA_eq]
  iintro ⟨⟨⟨Hs0, Hs1⟩, Hg⟩, Ho, ⟨%d0, H0⟩, ⟨%d1, H1⟩, ⟨%d2, H2⟩, ⟨%d3, H3⟩, ⟨%d4, H4⟩, ⟨%d5, H5⟩, H6, H7⟩
  iapply (body_any c (grid0.coords t) _ _ _ _ _ _ _ _ _ _ _ _ _ _ _ _ _ _ _ _ (conds_ne t) (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hs0]; · iexact Hs0
  isplitl [Hs1]; · iexact Hs1
  iintro ⟨H0, H1, H2, H3, H4, H5, H6, H7, Hs0, Hs1⟩
  isplitl [Hs0 Hs1 Hg]
  · isplitl [Hs0 Hs1]
    · isplitl [Hs0]; · iexact Hs0
      iexact Hs1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every execution ends in the frame's state, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨unchanged_of m (fun c => (dats m 0 c).toRForget forgets0) (A_eq m) h.1, h.2⟩) (run_main_quiescent m ρ)

end Cert.Proof.GateUpIdealFrame

end
-- ==== Proof.GateUpIdealBlock.lean ====
/- What one chunk of 256 rows of a block of the gate/up kernel computes, entry by entry. -/
module

public import proofs.«01_k».proof.Proof.Gen.GateUpIdeal.Frame
public import proofs.«01_k».proof.Proof.Gen.GateUpIdeal.Skeleton
public import Idealize.ShloMosaic.Lib.Pointwise
public import Idealize.ShloMosaic.Lib.Pipeline.ValueKit.Acc

@[expose] public section

set_option maxRecDepth 16384

noncomputable section

namespace Cert.Proof.GateUpIdealBlock

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-- Entry (r, l) of the products of one column block: `g · sigmoid g · u`, with `g` and `u` the two matrix products scaled by row and column. -/
def mB (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (r : Fin 1024) (l : Fin 256) : EReal :=
  (∑ k, x0 (ix2 r k) * x2 (ix2 k l)) * x1 (ix2 r 0) * x4 (ix2 0 l) *
      Ideal.logistic ((∑ k, x0 (ix2 r k) * x2 (ix2 k l)) * x1 (ix2 r 0) * x4 (ix2 0 l)) *
    ((∑ k, x0 (ix2 r k) * x3 (ix2 k l)) * x1 (ix2 r 0) * x5 (ix2 0 l))

/-- The magnitude of a number. -/
def ab (x : EReal) : EReal := FloatOps.absf (F := Ideal) (φ := .f32) x

/-- The running maximum of row `r` at lane `l` after a column block: over the two halves of the block. -/
def aB (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (A : Fin 1024 → Fin 128 → EReal) (r : Fin 1024) (l : Fin 128) : EReal :=
  max (max (A r l) (ab (mB x0 x1 x2 x3 x4 x5 r ⟨l.val, by omega⟩))) (ab (mB x0 x1 x2 x3 x4 x5 r ⟨128 + l.val, by omega⟩))

/-- A chunk of 256 rows starting at row `o`: its products are those of the block. -/
theorem chunk (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (o : ℕ) (ho : o + 256 ≤ 1024)
    (h1 : ∀ a, (![o, 0] : Fin 2 → ℕ) a + S256x1.size a ≤ S1024x1.size a)
    (h0 : ∀ a, (![o, 0] : Fin 2 → ℕ) a + S256x8192.size a ≤ S1024x8192.size a)
    (h2 : ∀ a, (![0, 0] : Fin 2 → ℕ) a + S8192x256.size a ≤ S8192x256.size a)
    (h4 : ∀ a, (![0, 0] : Fin 2 → ℕ) a + S1x256.size a ≤ S1x256.size a) (a b : Fin 256) :
    k0_pay18 (F := Ideal) (View.ld x1 (Rect.unit ![o, 0] S256x1.size h1)) (View.ld x0 (Rect.unit ![o, 0] S256x8192.size h0))
      (View.ld x2 (Rect.unit ![0, 0] S8192x256.size h2)) (View.ld x0 (Rect.unit ![o, 0] S256x8192.size h0))
      (View.ld x3 (Rect.unit ![0, 0] S8192x256.size h2)) (View.ld x4 (Rect.unit ![0, 0] S1x256.size h4))
      (View.ld x5 (Rect.unit ![0, 0] S1x256.size h4)) (ix2 a b)
      = mB x0 x1 x2 x3 x4 x5 ⟨o + a.val, by omega⟩ b := by
  rw [View.ld_unit_lit' h2 x2 (by intro a; fin_cases a <;> rfl), View.ld_unit_lit' h2 x3 (by intro a; fin_cases a <;> rfl), View.ld_unit_lit' h4 x4 (by intro a; fin_cases a <;> rfl), View.ld_unit_lit' h4 x5 (by intro a; fin_cases a <;> rfl)]
  unfold mB
  pointwise [k0_pay18]

/-- The chunks compute the same function of what they load. -/
theorem pay22_eq : k0_pay22 (F := Ideal) = k0_pay18 := rfl
/-- The chunks compute the same function of what they load. -/
theorem pay26_eq : k0_pay26 (F := Ideal) = k0_pay18 := rfl
/-- The chunks compute the same function of what they load. -/
theorem pay29_eq : k0_pay29 (F := Ideal) = k0_pay18 := rfl
/-- The chunks compute the same function of what they load. -/
theorem pay23_eq : k0_pay23 (F := Ideal) = k0_pay19 := rfl
/-- The chunks compute the same function of what they load. -/
theorem pay27_eq : k0_pay27 (F := Ideal) = k0_pay19 := rfl
/-- The chunks compute the same function of what they load. -/
theorem pay30_eq : k0_pay30 (F := Ideal) = k0_pay19 := rfl

/-- A stored chunk of products, entry by entry. -/
theorem store_m (v3 : Vec Ideal S256x1 .f32) (v4 : Vec Ideal S256x8192 .fp8e4m3) (v5 : Vec Ideal S8192x256 .fp8e4m3) (v7 : Vec Ideal S256x8192 .fp8e4m3) (v8 : Vec Ideal S8192x256 .fp8e4m3) (v12 v17 : Vec Ideal S1x256 .f32) (j : S1x256x256.Idx) :
    k0_pay19 v3 v4 v5 v7 v8 v12 v17 j = k0_pay18 v3 v4 v5 v7 v8 v12 v17 (ix2 (j 1) (j 2)) := by
  unfold k0_pay19
  generalize k0_pay18 v3 v4 v5 v7 v8 v12 v17 = w
  idx_vars j
  pointwise []

/-- A stored chunk of running maxima, entry by entry. -/
theorem store_a (v3 : Vec Ideal S256x1 .f32) (v4 : Vec Ideal S256x8192 .fp8e4m3) (v5 : Vec Ideal S8192x256 .fp8e4m3) (v7 : Vec Ideal S256x8192 .fp8e4m3) (v8 : Vec Ideal S8192x256 .fp8e4m3) (v12 v17 : Vec Ideal S1x256 .f32) (v28 : Vec Ideal S256x128 .f32) (j : S256x128.Idx) :
    k0_pay21 (k0_pay20 v3 v4 v5 v7 v8 v12 v17 v28) j
      = max (max (v28 j) (ab (k0_pay18 v3 v4 v5 v7 v8 v12 v17 (ix2 (j 0) ⟨(j 1).val, Nat.lt_trans (j 1).isLt (by decide)⟩))))
          (ab (k0_pay18 v3 v4 v5 v7 v8 v12 v17 (ix2 (j 0) ⟨128 + (j 1).val, Nat.add_lt_add_left (j 1).isLt 128⟩))) := by
  unfold k0_pay20 ab
  generalize k0_pay18 v3 v4 v5 v7 v8 v12 v17 = w
  idx_vars j
  pointwise [k0_pay21]

/-- The other chunks' running maxima are the first chunk's function. -/
theorem pay25_eq : (fun v3 v4 v5 v7 v8 v12 v17 v28 => k0_pay25 (F := Ideal) (k0_pay24 v3 v4 v5 v7 v8 v12 v17 v28)) = fun v3 v4 v5 v7 v8 v12 v17 v28 => k0_pay21 (k0_pay20 v3 v4 v5 v7 v8 v12 v17 v28) := rfl
/-- The other chunks' running maxima are the first chunk's function. -/
theorem pay28_eq : k0_pay28 (F := Ideal) = fun v3 v4 v5 v7 v8 v12 v17 v28 => k0_pay21 (k0_pay20 v3 v4 v5 v7 v8 v12 v17 v28) := rfl
/-- The other chunks' running maxima are the first chunk's function. -/
theorem pay31_eq : k0_pay31 (F := Ideal) = fun v3 v4 v5 v7 v8 v12 v17 v28 => k0_pay21 (k0_pay20 v3 v4 v5 v7 v8 v12 v17 v28) := rfl

end Cert.Proof.GateUpIdealBlock

end
-- ==== Proof.GateUpMath.lean ====
/- The gate/up products, scales and codes of whole arrays, and the running maxima over column blocks: the largest of the running maxima of a row is the row's largest magnitude. -/
module

public import proofs.«01_k».proof.Proof.GateUpIdealBlock

@[expose] public section

set_option maxRecDepth 16384

noncomputable section

namespace Cert.Proof.GateUpMath

open Cert.Proof.GateUpIdealBlock
open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-- Entry (r, q) of the products of whole arrays: `g · sigmoid g · u`. -/
def mV (a0 : Vec Ideal ⟨2, ![4096, 8192]⟩ .fp8e4m3) (a1 : Vec Ideal ⟨2, ![4096, 1]⟩ .f32) (a2 : Vec Ideal ⟨2, ![8192, 3584]⟩ .fp8e4m3) (a3 : Vec Ideal ⟨2, ![8192, 3584]⟩ .fp8e4m3) (a4 : Vec Ideal ⟨2, ![1, 3584]⟩ .f32) (a5 : Vec Ideal ⟨2, ![1, 3584]⟩ .f32) (r : Fin 4096) (q : Fin 3584) : EReal :=
  (∑ k, a0 (ix2 r k) * a2 (ix2 k q)) * a1 (ix2 r 0) * a4 (ix2 0 q) *
      Ideal.logistic ((∑ k, a0 (ix2 r k) * a2 (ix2 k q)) * a1 (ix2 r 0) * a4 (ix2 0 q)) *
    ((∑ k, a0 (ix2 r k) * a3 (ix2 k q)) * a1 (ix2 r 0) * a5 (ix2 0 q))

/-- The largest magnitude of a row of products. -/
def mx (a0 : Vec Ideal ⟨2, ![4096, 8192]⟩ .fp8e4m3) (a1 : Vec Ideal ⟨2, ![4096, 1]⟩ .f32) (a2 : Vec Ideal ⟨2, ![8192, 3584]⟩ .fp8e4m3) (a3 : Vec Ideal ⟨2, ![8192, 3584]⟩ .fp8e4m3) (a4 : Vec Ideal ⟨2, ![1, 3584]⟩ .f32) (a5 : Vec Ideal ⟨2, ![1, 3584]⟩ .f32) (r : Fin 4096) : EReal := Finset.fold max (Ideal.ofBits FTy.f32 4286578688#32) (fun q => ab (mV a0 a1 a2 a3 a4 a5 r q)) Finset.univ

/-- The scale of a row: its largest magnitude over 448, or one for a row of zeroes. -/
def scV (a0 : Vec Ideal ⟨2, ![4096, 8192]⟩ .fp8e4m3) (a1 : Vec Ideal ⟨2, ![4096, 1]⟩ .f32) (a2 : Vec Ideal ⟨2, ![8192, 3584]⟩ .fp8e4m3) (a3 : Vec Ideal ⟨2, ![8192, 3584]⟩ .fp8e4m3) (a4 : Vec Ideal ⟨2, ![1, 3584]⟩ .f32) (a5 : Vec Ideal ⟨2, ![1, 3584]⟩ .f32) (r : Fin 4096) : EReal :=
  if 0 < mx a0 a1 a2 a3 a4 a5 r then Ideal.div (mx a0 a1 a2 a3 a4 a5 r) (Ideal.ofBits FTy.f32 1138753536#32) else 1

/-- The code at row `r` and column `q`: the product over the row's scale, clipped. -/
def cdV (a0 : Vec Ideal ⟨2, ![4096, 8192]⟩ .fp8e4m3) (a1 : Vec Ideal ⟨2, ![4096, 1]⟩ .f32) (a2 : Vec Ideal ⟨2, ![8192, 3584]⟩ .fp8e4m3) (a3 : Vec Ideal ⟨2, ![8192, 3584]⟩ .fp8e4m3) (a4 : Vec Ideal ⟨2, ![1, 3584]⟩ .f32) (a5 : Vec Ideal ⟨2, ![1, 3584]⟩ .f32) (r : Fin 4096) (q : Fin 3584) : EReal :=
  min (Ideal.ofBits FTy.f32 1138753536#32) (max (Ideal.ofBits FTy.f32 3286237184#32) (Ideal.div (mV a0 a1 a2 a3 a4 a5 r q) (scV a0 a1 a2 a3 a4 a5 r)))

/-- The products by column number. -/
def mN (a0 : Vec Ideal ⟨2, ![4096, 8192]⟩ .fp8e4m3) (a1 : Vec Ideal ⟨2, ![4096, 1]⟩ .f32) (a2 : Vec Ideal ⟨2, ![8192, 3584]⟩ .fp8e4m3) (a3 : Vec Ideal ⟨2, ![8192, 3584]⟩ .fp8e4m3) (a4 : Vec Ideal ⟨2, ![1, 3584]⟩ .f32) (a5 : Vec Ideal ⟨2, ![1, 3584]⟩ .f32) (r : Fin 4096) (q : ℕ) : EReal := mV a0 a1 a2 a3 a4 a5 r ⟨q % 3584, Nat.mod_lt _ (by decide)⟩

/-- The running maximum of row `r` at lane `l` after `n` column blocks. -/
def aV (a0 : Vec Ideal ⟨2, ![4096, 8192]⟩ .fp8e4m3) (a1 : Vec Ideal ⟨2, ![4096, 1]⟩ .f32) (a2 : Vec Ideal ⟨2, ![8192, 3584]⟩ .fp8e4m3) (a3 : Vec Ideal ⟨2, ![8192, 3584]⟩ .fp8e4m3) (a4 : Vec Ideal ⟨2, ![1, 3584]⟩ .f32) (a5 : Vec Ideal ⟨2, ![1, 3584]⟩ .f32) (r : Fin 4096) : ℕ → Fin 128 → EReal
  | 0, _ => 0
  | n + 1, l => max (max (aV a0 a1 a2 a3 a4 a5 r n l) (ab (mN a0 a1 a2 a3 a4 a5 r (256 * n + l.val)))) (ab (mN a0 a1 a2 a3 a4 a5 r (256 * n + (128 + l.val))))

/-- A magnitude is not negative. -/
theorem ab_nonneg (x : EReal) : 0 ≤ ab x := by
  show (0 : EReal) ≤ max x (-x)
  rcases le_total 0 x with h | h
  · exact le_max_of_le_left h
  · exact le_max_of_le_right (EReal.neg_nonneg.2 h)

/-- What bounds the running maximum bounds every magnitude it has seen, and zero. -/
theorem aV_le (a0 : Vec Ideal ⟨2, ![4096, 8192]⟩ .fp8e4m3) (a1 : Vec Ideal ⟨2, ![4096, 1]⟩ .f32) (a2 : Vec Ideal ⟨2, ![8192, 3584]⟩ .fp8e4m3) (a3 : Vec Ideal ⟨2, ![8192, 3584]⟩ .fp8e4m3) (a4 : Vec Ideal ⟨2, ![1, 3584]⟩ .f32) (a5 : Vec Ideal ⟨2, ![1, 3584]⟩ .f32) (r : Fin 4096) (n : ℕ) (l : Fin 128) (z : EReal) :
    aV a0 a1 a2 a3 a4 a5 r n l ≤ z ↔ 0 ≤ z ∧ ∀ j < n, ab (mN a0 a1 a2 a3 a4 a5 r (256 * j + l.val)) ≤ z ∧ ab (mN a0 a1 a2 a3 a4 a5 r (256 * j + (128 + l.val))) ≤ z := by
  induction n with
  | zero => simp [aV]
  | succ n ih =>
    rw [aV, max_le_iff, max_le_iff, ih]
    constructor
    · rintro ⟨⟨⟨h0, h⟩, h1⟩, h2⟩
      refine ⟨h0, fun j hj => ?_⟩
      rcases Nat.lt_succ_iff_lt_or_eq.1 hj with hj | rfl
      · exact h j hj
      · exact ⟨h1, h2⟩
    · rintro ⟨h0, h⟩
      exact ⟨⟨⟨h0, fun j hj => h j (Nat.lt_succ_of_lt hj)⟩, (h n (Nat.lt_succ_self n)).1⟩, (h n (Nat.lt_succ_self n)).2⟩

/-- The largest of a row's running maxima after all 14 column blocks is the row's largest magnitude. -/
theorem mx_eq (a0 : Vec Ideal ⟨2, ![4096, 8192]⟩ .fp8e4m3) (a1 : Vec Ideal ⟨2, ![4096, 1]⟩ .f32) (a2 : Vec Ideal ⟨2, ![8192, 3584]⟩ .fp8e4m3) (a3 : Vec Ideal ⟨2, ![8192, 3584]⟩ .fp8e4m3) (a4 : Vec Ideal ⟨2, ![1, 3584]⟩ .f32) (a5 : Vec Ideal ⟨2, ![1, 3584]⟩ .f32) (r : Fin 4096) : Finset.fold max (Ideal.ofBits FTy.f32 4286578688#32) (fun l : Fin 128 => aV a0 a1 a2 a3 a4 a5 r 14 l) Finset.univ = mx a0 a1 a2 a3 a4 a5 r := by
  refine eq_of_forall_ge_iff fun z => ?_
  unfold mx
  rw [Finset.fold_max_le, Finset.fold_max_le]
  refine and_congr_right fun _ => ?_
  simp only [Finset.mem_univ, true_imp_iff, aV_le]
  constructor
  · intro h q
    have g := q.isLt
    have e := (h ⟨q.val % 128, Nat.mod_lt _ (by decide)⟩).2 (q.val / 256) (by omega)
    rcases (by omega : q.val % 256 < 128 ∨ 128 ≤ q.val % 256) with c | c
    · have := e.1
      rw [show 256 * (q.val / 256) + (⟨q.val % 128, Nat.mod_lt _ (by decide)⟩ : Fin 128).val = q.val from by show 256 * (q.val / 256) + q.val % 128 = q.val; omega] at this
      unfold mN at this
      simpa only [Nat.mod_eq_of_lt g] using this
    · have := e.2
      rw [show 256 * (q.val / 256) + (128 + (⟨q.val % 128, Nat.mod_lt _ (by decide)⟩ : Fin 128).val) = q.val from by show 256 * (q.val / 256) + (128 + q.val % 128) = q.val; omega] at this
      unfold mN at this
      simpa only [Nat.mod_eq_of_lt g] using this
  · intro h l
    exact ⟨(ab_nonneg _).trans (h ⟨0, by decide⟩), fun j _ => ⟨h _, h _⟩⟩
end Cert.Proof.GateUpMath

end
-- ==== Proof.GateUpIdealStep.lean ====
/- What one grid point of the gate/up kernel leaves in its two scratch buffers, entry by entry: the block of products at its place, and the running maximum of each row and lane. -/
module

public import proofs.«01_k».proof.Proof.GateUpIdealRun
public import proofs.«01_k».proof.Proof.GateUpIdealBlock

@[expose] public section

set_option maxRecDepth 16384

noncomputable section

namespace Cert.Proof.GateUpIdealStep

open Cert.Proof.GateUpIdealRun Cert.Proof.GateUpIdealBlock
open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-- The store of the products of rows 0 to 255. -/
def pm0 (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) : View.Piece (Elt Ideal) S14x1024x256 .f32 :=
  ⟨Rect.unit (s := S14x1024x256) (k0_off1 i) S1x256x256.size (k0_off1_inb i), k0_pay19 (View.readAt (Elt Ideal) arg3.view (Rect.unit (s := S1024x1) ![0, 0] S256x1.size inb_S1024x1_S256x1_0_0).toLoadRect (harg3.unread x1)) (View.readAt (Elt Ideal) arg2.view (Rect.unit (s := S1024x8192) ![0, 0] S256x8192.size inb_S1024x8192_S256x8192_0_0).toLoadRect (harg2.unread x0)) (View.readAt (Elt Ideal) arg4.view (Rect.unit (s := S8192x256) ![0, 0] S8192x256.size inb_S8192x256_S8192x256_0_0).toLoadRect (harg4.unread x2)) (View.readAt (Elt Ideal) arg2.view (Rect.unit (s := S1024x8192) ![0, 0] S256x8192.size inb_S1024x8192_S256x8192_0_0).toLoadRect (harg2.unread x0)) (View.readAt (Elt Ideal) arg5.view (Rect.unit (s := S8192x256) ![0, 0] S8192x256.size inb_S8192x256_S8192x256_0_0).toLoadRect (harg5.unread x3)) (View.readAt (Elt Ideal) arg6.view (Rect.unit (s := S1x256) ![0, 0] S1x256.size inb_S1x256_S1x256_0_0).toLoadRect (harg6.unread x4)) (View.readAt (Elt Ideal) arg7.view (Rect.unit (s := S1x256) ![0, 0] S1x256.size inb_S1x256_S1x256_0_0).toLoadRect (harg7.unread x5))⟩

/-- The store of the running maxima of rows 0 to 255, from the maxima `acc` before. -/
def pa0 (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (acc : Vec Ideal S256x128 .f32) : View.Piece (Elt Ideal) S1024x128 .f32 :=
  ⟨Rect.unit (s := S1024x128) ![0, 0] S256x128.size inb_S1024x128_S256x128_0_0, k0_pay21 (k0_pay20 (View.readAt (Elt Ideal) arg3.view (Rect.unit (s := S1024x1) ![0, 0] S256x1.size inb_S1024x1_S256x1_0_0).toLoadRect (harg3.unread x1)) (View.readAt (Elt Ideal) arg2.view (Rect.unit (s := S1024x8192) ![0, 0] S256x8192.size inb_S1024x8192_S256x8192_0_0).toLoadRect (harg2.unread x0)) (View.readAt (Elt Ideal) arg4.view (Rect.unit (s := S8192x256) ![0, 0] S8192x256.size inb_S8192x256_S8192x256_0_0).toLoadRect (harg4.unread x2)) (View.readAt (Elt Ideal) arg2.view (Rect.unit (s := S1024x8192) ![0, 0] S256x8192.size inb_S1024x8192_S256x8192_0_0).toLoadRect (harg2.unread x0)) (View.readAt (Elt Ideal) arg5.view (Rect.unit (s := S8192x256) ![0, 0] S8192x256.size inb_S8192x256_S8192x256_0_0).toLoadRect (harg5.unread x3)) (View.readAt (Elt Ideal) arg6.view (Rect.unit (s := S1x256) ![0, 0] S1x256.size inb_S1x256_S1x256_0_0).toLoadRect (harg6.unread x4)) (View.readAt (Elt Ideal) arg7.view (Rect.unit (s := S1x256) ![0, 0] S1x256.size inb_S1x256_S1x256_0_0).toLoadRect (harg7.unread x5)) acc)⟩

/-- The store of the products of rows 256 to 511. -/
def pm256 (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) : View.Piece (Elt Ideal) S14x1024x256 .f32 :=
  ⟨Rect.unit (s := S14x1024x256) (k0_off2 i) S1x256x256.size (k0_off2_inb i), k0_pay23 (View.readAt (Elt Ideal) arg3.view (Rect.unit (s := S1024x1) ![256, 0] S256x1.size inb_S1024x1_S256x1_256_0).toLoadRect (harg3.unread x1)) (View.readAt (Elt Ideal) arg2.view (Rect.unit (s := S1024x8192) ![256, 0] S256x8192.size inb_S1024x8192_S256x8192_256_0).toLoadRect (harg2.unread x0)) (View.readAt (Elt Ideal) arg4.view (Rect.unit (s := S8192x256) ![0, 0] S8192x256.size inb_S8192x256_S8192x256_0_0).toLoadRect (harg4.unread x2)) (View.readAt (Elt Ideal) arg2.view (Rect.unit (s := S1024x8192) ![256, 0] S256x8192.size inb_S1024x8192_S256x8192_256_0).toLoadRect (harg2.unread x0)) (View.readAt (Elt Ideal) arg5.view (Rect.unit (s := S8192x256) ![0, 0] S8192x256.size inb_S8192x256_S8192x256_0_0).toLoadRect (harg5.unread x3)) (View.readAt (Elt Ideal) arg6.view (Rect.unit (s := S1x256) ![0, 0] S1x256.size inb_S1x256_S1x256_0_0).toLoadRect (harg6.unread x4)) (View.readAt (Elt Ideal) arg7.view (Rect.unit (s := S1x256) ![0, 0] S1x256.size inb_S1x256_S1x256_0_0).toLoadRect (harg7.unread x5))⟩

/-- The store of the running maxima of rows 256 to 511, from the maxima `acc` before. -/
def pa256 (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (acc : Vec Ideal S256x128 .f32) : View.Piece (Elt Ideal) S1024x128 .f32 :=
  ⟨Rect.unit (s := S1024x128) ![256, 0] S256x128.size inb_S1024x128_S256x128_256_0, k0_pay25 (k0_pay24 (View.readAt (Elt Ideal) arg3.view (Rect.unit (s := S1024x1) ![256, 0] S256x1.size inb_S1024x1_S256x1_256_0).toLoadRect (harg3.unread x1)) (View.readAt (Elt Ideal) arg2.view (Rect.unit (s := S1024x8192) ![256, 0] S256x8192.size inb_S1024x8192_S256x8192_256_0).toLoadRect (harg2.unread x0)) (View.readAt (Elt Ideal) arg4.view (Rect.unit (s := S8192x256) ![0, 0] S8192x256.size inb_S8192x256_S8192x256_0_0).toLoadRect (harg4.unread x2)) (View.readAt (Elt Ideal) arg2.view (Rect.unit (s := S1024x8192) ![256, 0] S256x8192.size inb_S1024x8192_S256x8192_256_0).toLoadRect (harg2.unread x0)) (View.readAt (Elt Ideal) arg5.view (Rect.unit (s := S8192x256) ![0, 0] S8192x256.size inb_S8192x256_S8192x256_0_0).toLoadRect (harg5.unread x3)) (View.readAt (Elt Ideal) arg6.view (Rect.unit (s := S1x256) ![0, 0] S1x256.size inb_S1x256_S1x256_0_0).toLoadRect (harg6.unread x4)) (View.readAt (Elt Ideal) arg7.view (Rect.unit (s := S1x256) ![0, 0] S1x256.size inb_S1x256_S1x256_0_0).toLoadRect (harg7.unread x5)) acc)⟩

/-- The store of the products of rows 512 to 767. -/
def pm512 (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) : View.Piece (Elt Ideal) S14x1024x256 .f32 :=
  ⟨Rect.unit (s := S14x1024x256) (k0_off3 i) S1x256x256.size (k0_off3_inb i), k0_pay27 (View.readAt (Elt Ideal) arg3.view (Rect.unit (s := S1024x1) ![512, 0] S256x1.size inb_S1024x1_S256x1_512_0).toLoadRect (harg3.unread x1)) (View.readAt (Elt Ideal) arg2.view (Rect.unit (s := S1024x8192) ![512, 0] S256x8192.size inb_S1024x8192_S256x8192_512_0).toLoadRect (harg2.unread x0)) (View.readAt (Elt Ideal) arg4.view (Rect.unit (s := S8192x256) ![0, 0] S8192x256.size inb_S8192x256_S8192x256_0_0).toLoadRect (harg4.unread x2)) (View.readAt (Elt Ideal) arg2.view (Rect.unit (s := S1024x8192) ![512, 0] S256x8192.size inb_S1024x8192_S256x8192_512_0).toLoadRect (harg2.unread x0)) (View.readAt (Elt Ideal) arg5.view (Rect.unit (s := S8192x256) ![0, 0] S8192x256.size inb_S8192x256_S8192x256_0_0).toLoadRect (harg5.unread x3)) (View.readAt (Elt Ideal) arg6.view (Rect.unit (s := S1x256) ![0, 0] S1x256.size inb_S1x256_S1x256_0_0).toLoadRect (harg6.unread x4)) (View.readAt (Elt Ideal) arg7.view (Rect.unit (s := S1x256) ![0, 0] S1x256.size inb_S1x256_S1x256_0_0).toLoadRect (harg7.unread x5))⟩

/-- The store of the running maxima of rows 512 to 767, from the maxima `acc` before. -/
def pa512 (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (acc : Vec Ideal S256x128 .f32) : View.Piece (Elt Ideal) S1024x128 .f32 :=
  ⟨Rect.unit (s := S1024x128) ![512, 0] S256x128.size inb_S1024x128_S256x128_512_0, k0_pay28 (View.readAt (Elt Ideal) arg3.view (Rect.unit (s := S1024x1) ![512, 0] S256x1.size inb_S1024x1_S256x1_512_0).toLoadRect (harg3.unread x1)) (View.readAt (Elt Ideal) arg2.view (Rect.unit (s := S1024x8192) ![512, 0] S256x8192.size inb_S1024x8192_S256x8192_512_0).toLoadRect (harg2.unread x0)) (View.readAt (Elt Ideal) arg4.view (Rect.unit (s := S8192x256) ![0, 0] S8192x256.size inb_S8192x256_S8192x256_0_0).toLoadRect (harg4.unread x2)) (View.readAt (Elt Ideal) arg2.view (Rect.unit (s := S1024x8192) ![512, 0] S256x8192.size inb_S1024x8192_S256x8192_512_0).toLoadRect (harg2.unread x0)) (View.readAt (Elt Ideal) arg5.view (Rect.unit (s := S8192x256) ![0, 0] S8192x256.size inb_S8192x256_S8192x256_0_0).toLoadRect (harg5.unread x3)) (View.readAt (Elt Ideal) arg6.view (Rect.unit (s := S1x256) ![0, 0] S1x256.size inb_S1x256_S1x256_0_0).toLoadRect (harg6.unread x4)) (View.readAt (Elt Ideal) arg7.view (Rect.unit (s := S1x256) ![0, 0] S1x256.size inb_S1x256_S1x256_0_0).toLoadRect (harg7.unread x5)) acc⟩

/-- The store of the products of rows 768 to 1023. -/
def pm768 (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) : View.Piece (Elt Ideal) S14x1024x256 .f32 :=
  ⟨Rect.unit (s := S14x1024x256) (k0_off4 i) S1x256x256.size (k0_off4_inb i), k0_pay30 (View.readAt (Elt Ideal) arg3.view (Rect.unit (s := S1024x1) ![768, 0] S256x1.size inb_S1024x1_S256x1_768_0).toLoadRect (harg3.unread x1)) (View.readAt (Elt Ideal) arg2.view (Rect.unit (s := S1024x8192) ![768, 0] S256x8192.size inb_S1024x8192_S256x8192_768_0).toLoadRect (harg2.unread x0)) (View.readAt (Elt Ideal) arg4.view (Rect.unit (s := S8192x256) ![0, 0] S8192x256.size inb_S8192x256_S8192x256_0_0).toLoadRect (harg4.unread x2)) (View.readAt (Elt Ideal) arg2.view (Rect.unit (s := S1024x8192) ![768, 0] S256x8192.size inb_S1024x8192_S256x8192_768_0).toLoadRect (harg2.unread x0)) (View.readAt (Elt Ideal) arg5.view (Rect.unit (s := S8192x256) ![0, 0] S8192x256.size inb_S8192x256_S8192x256_0_0).toLoadRect (harg5.unread x3)) (View.readAt (Elt Ideal) arg6.view (Rect.unit (s := S1x256) ![0, 0] S1x256.size inb_S1x256_S1x256_0_0).toLoadRect (harg6.unread x4)) (View.readAt (Elt Ideal) arg7.view (Rect.unit (s := S1x256) ![0, 0] S1x256.size inb_S1x256_S1x256_0_0).toLoadRect (harg7.unread x5))⟩

/-- The store of the running maxima of rows 768 to 1023, from the maxima `acc` before. -/
def pa768 (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (acc : Vec Ideal S256x128 .f32) : View.Piece (Elt Ideal) S1024x128 .f32 :=
  ⟨Rect.unit (s := S1024x128) ![768, 0] S256x128.size inb_S1024x128_S256x128_768_0, k0_pay31 (View.readAt (Elt Ideal) arg3.view (Rect.unit (s := S1024x1) ![768, 0] S256x1.size inb_S1024x1_S256x1_768_0).toLoadRect (harg3.unread x1)) (View.readAt (Elt Ideal) arg2.view (Rect.unit (s := S1024x8192) ![768, 0] S256x8192.size inb_S1024x8192_S256x8192_768_0).toLoadRect (harg2.unread x0)) (View.readAt (Elt Ideal) arg4.view (Rect.unit (s := S8192x256) ![0, 0] S8192x256.size inb_S8192x256_S8192x256_0_0).toLoadRect (harg4.unread x2)) (View.readAt (Elt Ideal) arg2.view (Rect.unit (s := S1024x8192) ![768, 0] S256x8192.size inb_S1024x8192_S256x8192_768_0).toLoadRect (harg2.unread x0)) (View.readAt (Elt Ideal) arg5.view (Rect.unit (s := S8192x256) ![0, 0] S8192x256.size inb_S8192x256_S8192x256_0_0).toLoadRect (harg5.unread x3)) (View.readAt (Elt Ideal) arg6.view (Rect.unit (s := S1x256) ![0, 0] S1x256.size inb_S1x256_S1x256_0_0).toLoadRect (harg6.unread x4)) (View.readAt (Elt Ideal) arg7.view (Rect.unit (s := S1x256) ![0, 0] S1x256.size inb_S1x256_S1x256_0_0).toLoadRect (harg7.unread x5)) acc⟩

/-- The store that zeroes the running maxima. -/
def pz : View.Piece (Elt Ideal) S1024x128 .f32 := ⟨Rect.unit (s := S1024x128) ![0, 0] S1024x128.size inb_S1024x128_S1024x128_0_0, (k0_pay17 (F := Ideal))⟩

/-- The four stores of products of one grid point, last first. -/
def L10s (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) : List (View.Piece (Elt Ideal) S14x1024x256 .f32) :=
  [pm768 i arg2 harg2 arg3 harg3 arg4 harg4 arg5 harg5 arg6 harg6 arg7 harg7 x0 x1 x2 x3 x4 x5, pm512 i arg2 harg2 arg3 harg3 arg4 harg4 arg5 harg5 arg6 harg6 arg7 harg7 x0 x1 x2 x3 x4 x5, pm256 i arg2 harg2 arg3 harg3 arg4 harg4 arg5 harg5 arg6 harg6 arg7 harg7 x0 x1 x2 x3 x4 x5, pm0 i arg2 harg2 arg3 harg3 arg4 harg4 arg5 harg5 arg6 harg6 arg7 harg7 x0 x1 x2 x3 x4 x5]

/-- The four stores of running maxima of one grid point, last first. -/
def L11s (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (acc0 acc256 acc512 acc768 : Vec Ideal S256x128 .f32) : List (View.Piece (Elt Ideal) S1024x128 .f32) :=
  [pa768 arg2 harg2 arg3 harg3 arg4 harg4 arg5 harg5 arg6 harg6 arg7 harg7 x0 x1 x2 x3 x4 x5 acc768, pa512 arg2 harg2 arg3 harg3 arg4 harg4 arg5 harg5 arg6 harg6 arg7 harg7 x0 x1 x2 x3 x4 x5 acc512, pa256 arg2 harg2 arg3 harg3 arg4 harg4 arg5 harg5 arg6 harg6 arg7 harg7 x0 x1 x2 x3 x4 x5 acc256, pa0 arg2 harg2 arg3 harg3 arg4 harg4 arg5 harg5 arg6 harg6 arg7 harg7 x0 x1 x2 x3 x4 x5 acc0]

/-- What a first column block reads back of rows 0 to 255 after zeroing. -/
def c0 (arg11 : Memref sig .tc .vmem S1024x128 .f32) : Vec Ideal S256x128 .f32 := (arg11.view.readCov [pz] (Rect.unit (s := S1024x128) ![0, 0] S256x128.size inb_S1024x128_S256x128_0_0).toLoadRect)
/-- What a first column block reads back of rows 256 to 511, after zeroing and the stores of the rows before. -/
def c256 (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg11 : Memref sig .tc .vmem S1024x128 .f32) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) : Vec Ideal S256x128 .f32 := (arg11.view.readCov [pa0 arg2 harg2 arg3 harg3 arg4 harg4 arg5 harg5 arg6 harg6 arg7 harg7 x0 x1 x2 x3 x4 x5 (c0 arg11), pz] (Rect.unit (s := S1024x128) ![256, 0] S256x128.size inb_S1024x128_S256x128_256_0).toLoadRect)
/-- What a first column block reads back of rows 512 to 767, after zeroing and the stores of the rows before. -/
def c512 (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg11 : Memref sig .tc .vmem S1024x128 .f32) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) : Vec Ideal S256x128 .f32 := (arg11.view.readCov [pa256 arg2 harg2 arg3 harg3 arg4 harg4 arg5 harg5 arg6 harg6 arg7 harg7 x0 x1 x2 x3 x4 x5 (c256 arg2 harg2 arg3 harg3 arg4 harg4 arg5 harg5 arg6 harg6 arg7 harg7 arg11 x0 x1 x2 x3 x4 x5), pa0 arg2 harg2 arg3 harg3 arg4 harg4 arg5 harg5 arg6 harg6 arg7 harg7 x0 x1 x2 x3 x4 x5 (c0 arg11), pz] (Rect.unit (s := S1024x128) ![512, 0] S256x128.size inb_S1024x128_S256x128_512_0).toLoadRect)
/-- What a first column block reads back of rows 768 to 1023, after zeroing and the stores of the rows before. -/
def c768 (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg11 : Memref sig .tc .vmem S1024x128 .f32) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) : Vec Ideal S256x128 .f32 := (arg11.view.readCov [pa512 arg2 harg2 arg3 harg3 arg4 harg4 arg5 harg5 arg6 harg6 arg7 harg7 x0 x1 x2 x3 x4 x5 (c512 arg2 harg2 arg3 harg3 arg4 harg4 arg5 harg5 arg6 harg6 arg7 harg7 arg11 x0 x1 x2 x3 x4 x5), pa256 arg2 harg2 arg3 harg3 arg4 harg4 arg5 harg5 arg6 harg6 arg7 harg7 x0 x1 x2 x3 x4 x5 (c256 arg2 harg2 arg3 harg3 arg4 harg4 arg5 harg5 arg6 harg6 arg7 harg7 arg11 x0 x1 x2 x3 x4 x5), pa0 arg2 harg2 arg3 harg3 arg4 harg4 arg5 harg5 arg6 harg6 arg7 harg7 x0 x1 x2 x3 x4 x5 (c0 arg11), pz] (Rect.unit (s := S1024x128) ![768, 0] S256x128.size inb_S1024x128_S256x128_768_0).toLoadRect)

/-- The stores of products that the run found (case A). -/
theorem L10_A (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h1 :  (Scalar.cmpi .ne (Scalar.extui (Scalar.cmpi .eq (BitVec.ofNat 32 (i 1).val) 0#32) : BitVec 32) 0#32 = 1#1)) (h2 : ¬ (k0_cond2 i = 1#1)) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (M : Vec Ideal S14x1024x256 .f32) (A : Vec Ideal S1024x128 .f32) : (runBodyA (F := Ideal) c i arg2 harg2 arg3 harg3 arg4 harg4 arg5 harg5 arg6 harg6 arg7 harg7 arg8 harg8 arg9 harg9 arg10 harg10 arg11 harg11 h1 h2 x0 x1 x2 x3 x4 x5 M A).1 = L10s i arg2 harg2 arg3 harg3 arg4 harg4 arg5 harg5 arg6 harg6 arg7 harg7 x0 x1 x2 x3 x4 x5 := rfl

/-- The stores of running maxima that the run found (case A). -/
theorem L11_A (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h1 :  (Scalar.cmpi .ne (Scalar.extui (Scalar.cmpi .eq (BitVec.ofNat 32 (i 1).val) 0#32) : BitVec 32) 0#32 = 1#1)) (h2 : ¬ (k0_cond2 i = 1#1)) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (M : Vec Ideal S14x1024x256 .f32) (A : Vec Ideal S1024x128 .f32) : (runBodyA (F := Ideal) c i arg2 harg2 arg3 harg3 arg4 harg4 arg5 harg5 arg6 harg6 arg7 harg7 arg8 harg8 arg9 harg9 arg10 harg10 arg11 harg11 h1 h2 x0 x1 x2 x3 x4 x5 M A).2.1 = L11s arg2 harg2 arg3 harg3 arg4 harg4 arg5 harg5 arg6 harg6 arg7 harg7 x0 x1 x2 x3 x4 x5 (c0 arg11) (c256 arg2 harg2 arg3 harg3 arg4 harg4 arg5 harg5 arg6 harg6 arg7 harg7 arg11 x0 x1 x2 x3 x4 x5) (c512 arg2 harg2 arg3 harg3 arg4 harg4 arg5 harg5 arg6 harg6 arg7 harg7 arg11 x0 x1 x2 x3 x4 x5) (c768 arg2 harg2 arg3 harg3 arg4 harg4 arg5 harg5 arg6 harg6 arg7 harg7 arg11 x0 x1 x2 x3 x4 x5) ++ [pz] := rfl

/-- The stores of products that the run found (case B). -/
theorem L10_B (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h1 : ¬ (Scalar.cmpi .ne (Scalar.extui (Scalar.cmpi .eq (BitVec.ofNat 32 (i 1).val) 0#32) : BitVec 32) 0#32 = 1#1)) (h2 : ¬ (k0_cond2 i = 1#1)) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (M : Vec Ideal S14x1024x256 .f32) (A : Vec Ideal S1024x128 .f32) : (runBodyB (F := Ideal) c i arg2 harg2 arg3 harg3 arg4 harg4 arg5 harg5 arg6 harg6 arg7 harg7 arg8 harg8 arg9 harg9 arg10 harg10 arg11 harg11 h1 h2 x0 x1 x2 x3 x4 x5 M A).1 = L10s i arg2 harg2 arg3 harg3 arg4 harg4 arg5 harg5 arg6 harg6 arg7 harg7 x0 x1 x2 x3 x4 x5 := rfl

/-- The stores of running maxima that the run found (case B). -/
theorem L11_B (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h1 : ¬ (Scalar.cmpi .ne (Scalar.extui (Scalar.cmpi .eq (BitVec.ofNat 32 (i 1).val) 0#32) : BitVec 32) 0#32 = 1#1)) (h2 : ¬ (k0_cond2 i = 1#1)) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (M : Vec Ideal S14x1024x256 .f32) (A : Vec Ideal S1024x128 .f32) : (runBodyB (F := Ideal) c i arg2 harg2 arg3 harg3 arg4 harg4 arg5 harg5 arg6 harg6 arg7 harg7 arg8 harg8 arg9 harg9 arg10 harg10 arg11 harg11 h1 h2 x0 x1 x2 x3 x4 x5 M A).2.1 = L11s arg2 harg2 arg3 harg3 arg4 harg4 arg5 harg5 arg6 harg6 arg7 harg7 x0 x1 x2 x3 x4 x5 (View.readAt (Elt Ideal) arg11.view (Rect.unit (s := S1024x128) ![0, 0] S256x128.size inb_S1024x128_S256x128_0_0).toLoadRect (harg11.unread A)) (View.readAt (Elt Ideal) arg11.view (Rect.unit (s := S1024x128) ![256, 0] S256x128.size inb_S1024x128_S256x128_256_0).toLoadRect (harg11.unread A)) (View.readAt (Elt Ideal) arg11.view (Rect.unit (s := S1024x128) ![512, 0] S256x128.size inb_S1024x128_S256x128_512_0).toLoadRect (harg11.unread A)) (View.readAt (Elt Ideal) arg11.view (Rect.unit (s := S1024x128) ![768, 0] S256x128.size inb_S1024x128_S256x128_768_0).toLoadRect (harg11.unread A)) := rfl

/-- The stores of products that the run found (case C). -/
theorem L10_C (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h1 : ¬ (Scalar.cmpi .ne (Scalar.extui (Scalar.cmpi .eq (BitVec.ofNat 32 (i 1).val) 0#32) : BitVec 32) 0#32 = 1#1)) (h2 :  (k0_cond2 i = 1#1)) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (M : Vec Ideal S14x1024x256 .f32) (A : Vec Ideal S1024x128 .f32) : (runBodyC (F := Ideal) c i arg2 harg2 arg3 harg3 arg4 harg4 arg5 harg5 arg6 harg6 arg7 harg7 arg8 harg8 arg9 harg9 arg10 harg10 arg11 harg11 h1 h2 x0 x1 x2 x3 x4 x5 M A).2.2.1 = L10s i arg2 harg2 arg3 harg3 arg4 harg4 arg5 harg5 arg6 harg6 arg7 harg7 x0 x1 x2 x3 x4 x5 := rfl

/-- The stores of running maxima that the run found (case C). -/
theorem L11_C (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h1 : ¬ (Scalar.cmpi .ne (Scalar.extui (Scalar.cmpi .eq (BitVec.ofNat 32 (i 1).val) 0#32) : BitVec 32) 0#32 = 1#1)) (h2 :  (k0_cond2 i = 1#1)) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (M : Vec Ideal S14x1024x256 .f32) (A : Vec Ideal S1024x128 .f32) : (runBodyC (F := Ideal) c i arg2 harg2 arg3 harg3 arg4 harg4 arg5 harg5 arg6 harg6 arg7 harg7 arg8 harg8 arg9 harg9 arg10 harg10 arg11 harg11 h1 h2 x0 x1 x2 x3 x4 x5 M A).2.2.2.1 = L11s arg2 harg2 arg3 harg3 arg4 harg4 arg5 harg5 arg6 harg6 arg7 harg7 x0 x1 x2 x3 x4 x5 (View.readAt (Elt Ideal) arg11.view (Rect.unit (s := S1024x128) ![0, 0] S256x128.size inb_S1024x128_S256x128_0_0).toLoadRect (harg11.unread A)) (View.readAt (Elt Ideal) arg11.view (Rect.unit (s := S1024x128) ![256, 0] S256x128.size inb_S1024x128_S256x128_256_0).toLoadRect (harg11.unread A)) (View.readAt (Elt Ideal) arg11.view (Rect.unit (s := S1024x128) ![512, 0] S256x128.size inb_S1024x128_S256x128_512_0).toLoadRect (harg11.unread A)) (View.readAt (Elt Ideal) arg11.view (Rect.unit (s := S1024x128) ![768, 0] S256x128.size inb_S1024x128_S256x128_768_0).toLoadRect (harg11.unread A)) := rfl
end Cert.Proof.GateUpIdealStep

end
-- ==== Proof.GateUpIdealReads.lean ====
/- The scratch buffers of the gate/up kernel after one grid point, read entry by entry. -/
module

public import proofs.«01_k».proof.Proof.GateUpIdealStep
public import Idealize.ShloMosaic.Lib.Pipeline.ValueKit.Tiles

@[expose] public section

set_option maxRecDepth 16384

noncomputable section

namespace Cert.Proof.GateUpIdealReads

open Cert.Proof.GateUpIdealBlock Cert.Proof.GateUpIdealStep
open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-- Where an element of a unit-stride rectangle lies. -/
theorem emb_val (s : Shape) (off size : Fin s.rank → ℕ) (inb : ∀ a, off a + size a ≤ s.size a) (x : (Rect.unit (s := s) off size inb).shape.Idx) (a : Fin s.rank) :
    ((Rect.unit (s := s) off size inb).emb x a).val = off a + (x a).val := Rect.idx_unit_val off size inb x a

/-- The elements of a unit-stride rectangle. -/
theorem mem_unit (s : Shape) (off size : Fin s.rank → ℕ) (inb : ∀ a, off a + size a ≤ s.size a) (y : s.Idx) :
    y ∈ (Rect.unit (s := s) off size inb).set ↔ ∀ a, off a ≤ (y a).val ∧ (y a).val < off a + size a := Rect.mem_set_unit

/-- The products are stored at row 0 of the block's own slab. -/
theorem off_eq (i : grid0.Coords) : k0_off1 i = ![(i 1).val, 0, 0] ∧ k0_off2 i = ![(i 1).val, 256, 0] ∧ k0_off3 i = ![(i 1).val, 512, 0] ∧ k0_off4 i = ![(i 1).val, 768, 0] := by
  revert i; decide +kernel

/-- The stored products of rows 0 to 255 are the block's. -/
theorem pm0_at (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (x : S1x256x256.Idx) :
    (pm0 i arg2 harg2 arg3 harg3 arg4 harg4 arg5 harg5 arg6 harg6 arg7 harg7 x0 x1 x2 x3 x4 x5).2 x = mB x0 x1 x2 x3 x4 x5 ((pm0 i arg2 harg2 arg3 harg3 arg4 harg4 arg5 harg5 arg6 harg6 arg7 harg7 x0 x1 x2 x3 x4 x5).1.emb x 1) ((pm0 i arg2 harg2 arg3 harg3 arg4 harg4 arg5 harg5 arg6 harg6 arg7 harg7 x0 x1 x2 x3 x4 x5).1.emb x 2) := by
  have e1 : ((pm0 i arg2 harg2 arg3 harg3 arg4 harg4 arg5 harg5 arg6 harg6 arg7 harg7 x0 x1 x2 x3 x4 x5).1.emb x 1).val = 0 + (x 1).val := by
    refine (emb_val S14x1024x256 (k0_off1 i) S1x256x256.size (k0_off1_inb i) x 1).trans ?_
    exact congrArg (fun n : ℕ => n + (x 1).val) (congrFun ((off_eq i).1) 1)
  have e2 : ((pm0 i arg2 harg2 arg3 harg3 arg4 harg4 arg5 harg5 arg6 harg6 arg7 harg7 x0 x1 x2 x3 x4 x5).1.emb x 2).val = (x 2).val := by
    refine (emb_val S14x1024x256 (k0_off1 i) S1x256x256.size (k0_off1_inb i) x 2).trans ?_
    exact (congrArg (fun n : ℕ => n + (x 2).val) (congrFun ((off_eq i).1) 2)).trans (Nat.zero_add _)
  refine (store_m (View.readAt (Elt Ideal) arg3.view (Rect.unit (s := S1024x1) ![0, 0] S256x1.size inb_S1024x1_S256x1_0_0).toLoadRect (harg3.unread x1)) (View.readAt (Elt Ideal) arg2.view (Rect.unit (s := S1024x8192) ![0, 0] S256x8192.size inb_S1024x8192_S256x8192_0_0).toLoadRect (harg2.unread x0)) (View.readAt (Elt Ideal) arg4.view (Rect.unit (s := S8192x256) ![0, 0] S8192x256.size inb_S8192x256_S8192x256_0_0).toLoadRect (harg4.unread x2)) (View.readAt (Elt Ideal) arg2.view (Rect.unit (s := S1024x8192) ![0, 0] S256x8192.size inb_S1024x8192_S256x8192_0_0).toLoadRect (harg2.unread x0)) (View.readAt (Elt Ideal) arg5.view (Rect.unit (s := S8192x256) ![0, 0] S8192x256.size inb_S8192x256_S8192x256_0_0).toLoadRect (harg5.unread x3)) (View.readAt (Elt Ideal) arg6.view (Rect.unit (s := S1x256) ![0, 0] S1x256.size inb_S1x256_S1x256_0_0).toLoadRect (harg6.unread x4)) (View.readAt (Elt Ideal) arg7.view (Rect.unit (s := S1x256) ![0, 0] S1x256.size inb_S1x256_S1x256_0_0).toLoadRect (harg7.unread x5)) x).trans ?_
  simp only [View.readAt_eq_ld, harg2.read_unread, harg3.read_unread, harg4.read_unread, harg5.read_unread, harg6.read_unread, harg7.read_unread]
  rw [chunk x0 x1 x2 x3 x4 x5 0 (by decide) _ _ _ _ (x 1) (x 2)]
  exact congr (congrArg _ (Fin.ext e1.symm)) (Fin.ext e2.symm)

/-- The stored running maxima of rows 0 to 255. -/
theorem pa0_at (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (acc : Vec Ideal S256x128 .f32) (A : Fin 1024 → Fin 128 → EReal)
    (h : ∀ x : S256x128.Idx, acc x = A ⟨0 + (x 0).val, Nat.lt_of_lt_of_le (Nat.add_lt_add_left (x 0).isLt 0) (by decide)⟩ (x 1))
    (x : S256x128.Idx) :
    (pa0 arg2 harg2 arg3 harg3 arg4 harg4 arg5 harg5 arg6 harg6 arg7 harg7 x0 x1 x2 x3 x4 x5 acc).2 x = aB x0 x1 x2 x3 x4 x5 A ((pa0 arg2 harg2 arg3 harg3 arg4 harg4 arg5 harg5 arg6 harg6 arg7 harg7 x0 x1 x2 x3 x4 x5 acc).1.emb x 0) ((pa0 arg2 harg2 arg3 harg3 arg4 harg4 arg5 harg5 arg6 harg6 arg7 harg7 x0 x1 x2 x3 x4 x5 acc).1.emb x 1) := by
  have e0 : (⟨0 + (x 0).val, Nat.lt_of_lt_of_le (Nat.add_lt_add_left (x 0).isLt 0) (by decide)⟩ : Fin 1024) = (pa0 arg2 harg2 arg3 harg3 arg4 harg4 arg5 harg5 arg6 harg6 arg7 harg7 x0 x1 x2 x3 x4 x5 acc).1.emb x 0 :=
    Fin.ext (emb_val S1024x128 ![0, 0] S256x128.size inb_S1024x128_S256x128_0_0 x 0).symm
  have e1 : x 1 = (pa0 arg2 harg2 arg3 harg3 arg4 harg4 arg5 harg5 arg6 harg6 arg7 harg7 x0 x1 x2 x3 x4 x5 acc).1.emb x 1 :=
    Fin.ext ((emb_val S1024x128 ![0, 0] S256x128.size inb_S1024x128_S256x128_0_0 x 1).trans (Nat.zero_add _)).symm
  refine (store_a (View.readAt (Elt Ideal) arg3.view (Rect.unit (s := S1024x1) ![0, 0] S256x1.size inb_S1024x1_S256x1_0_0).toLoadRect (harg3.unread x1)) (View.readAt (Elt Ideal) arg2.view (Rect.unit (s := S1024x8192) ![0, 0] S256x8192.size inb_S1024x8192_S256x8192_0_0).toLoadRect (harg2.unread x0)) (View.readAt (Elt Ideal) arg4.view (Rect.unit (s := S8192x256) ![0, 0] S8192x256.size inb_S8192x256_S8192x256_0_0).toLoadRect (harg4.unread x2)) (View.readAt (Elt Ideal) arg2.view (Rect.unit (s := S1024x8192) ![0, 0] S256x8192.size inb_S1024x8192_S256x8192_0_0).toLoadRect (harg2.unread x0)) (View.readAt (Elt Ideal) arg5.view (Rect.unit (s := S8192x256) ![0, 0] S8192x256.size inb_S8192x256_S8192x256_0_0).toLoadRect (harg5.unread x3)) (View.readAt (Elt Ideal) arg6.view (Rect.unit (s := S1x256) ![0, 0] S1x256.size inb_S1x256_S1x256_0_0).toLoadRect (harg6.unread x4)) (View.readAt (Elt Ideal) arg7.view (Rect.unit (s := S1x256) ![0, 0] S1x256.size inb_S1x256_S1x256_0_0).toLoadRect (harg7.unread x5)) acc x).trans ?_
  rw [h x, ← e0, ← e1]
  simp only [View.readAt_eq_ld, harg2.read_unread, harg3.read_unread, harg4.read_unread, harg5.read_unread, harg6.read_unread, harg7.read_unread]
  rw [chunk x0 x1 x2 x3 x4 x5 0 (by decide) _ _ _ _ (x 0), chunk x0 x1 x2 x3 x4 x5 0 (by decide) _ _ _ _ (x 0)]
  rfl

/-- The stored products of rows 256 to 511 are the block's. -/
theorem pm256_at (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (x : S1x256x256.Idx) :
    (pm256 i arg2 harg2 arg3 harg3 arg4 harg4 arg5 harg5 arg6 harg6 arg7 harg7 x0 x1 x2 x3 x4 x5).2 x = mB x0 x1 x2 x3 x4 x5 ((pm256 i arg2 harg2 arg3 harg3 arg4 harg4 arg5 harg5 arg6 harg6 arg7 harg7 x0 x1 x2 x3 x4 x5).1.emb x 1) ((pm256 i arg2 harg2 arg3 harg3 arg4 harg4 arg5 harg5 arg6 harg6 arg7 harg7 x0 x1 x2 x3 x4 x5).1.emb x 2) := by
  have e1 : ((pm256 i arg2 harg2 arg3 harg3 arg4 harg4 arg5 harg5 arg6 harg6 arg7 harg7 x0 x1 x2 x3 x4 x5).1.emb x 1).val = 256 + (x 1).val := by
    refine (emb_val S14x1024x256 (k0_off2 i) S1x256x256.size (k0_off2_inb i) x 1).trans ?_
    exact congrArg (fun n : ℕ => n + (x 1).val) (congrFun ((off_eq i).2.1) 1)
  have e2 : ((pm256 i arg2 harg2 arg3 harg3 arg4 harg4 arg5 harg5 arg6 harg6 arg7 harg7 x0 x1 x2 x3 x4 x5).1.emb x 2).val = (x 2).val := by
    refine (emb_val S14x1024x256 (k0_off2 i) S1x256x256.size (k0_off2_inb i) x 2).trans ?_
    exact (congrArg (fun n : ℕ => n + (x 2).val) (congrFun ((off_eq i).2.1) 2)).trans (Nat.zero_add _)
  refine (store_m (View.readAt (Elt Ideal) arg3.view (Rect.unit (s := S1024x1) ![256, 0] S256x1.size inb_S1024x1_S256x1_256_0).toLoadRect (harg3.unread x1)) (View.readAt (Elt Ideal) arg2.view (Rect.unit (s := S1024x8192) ![256, 0] S256x8192.size inb_S1024x8192_S256x8192_256_0).toLoadRect (harg2.unread x0)) (View.readAt (Elt Ideal) arg4.view (Rect.unit (s := S8192x256) ![0, 0] S8192x256.size inb_S8192x256_S8192x256_0_0).toLoadRect (harg4.unread x2)) (View.readAt (Elt Ideal) arg2.view (Rect.unit (s := S1024x8192) ![256, 0] S256x8192.size inb_S1024x8192_S256x8192_256_0).toLoadRect (harg2.unread x0)) (View.readAt (Elt Ideal) arg5.view (Rect.unit (s := S8192x256) ![0, 0] S8192x256.size inb_S8192x256_S8192x256_0_0).toLoadRect (harg5.unread x3)) (View.readAt (Elt Ideal) arg6.view (Rect.unit (s := S1x256) ![0, 0] S1x256.size inb_S1x256_S1x256_0_0).toLoadRect (harg6.unread x4)) (View.readAt (Elt Ideal) arg7.view (Rect.unit (s := S1x256) ![0, 0] S1x256.size inb_S1x256_S1x256_0_0).toLoadRect (harg7.unread x5)) x).trans ?_
  simp only [View.readAt_eq_ld, harg2.read_unread, harg3.read_unread, harg4.read_unread, harg5.read_unread, harg6.read_unread, harg7.read_unread]
  rw [chunk x0 x1 x2 x3 x4 x5 256 (by decide) _ _ _ _ (x 1) (x 2)]
  exact congr (congrArg _ (Fin.ext e1.symm)) (Fin.ext e2.symm)

/-- The stored running maxima of rows 256 to 511. -/
theorem pa256_at (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (acc : Vec Ideal S256x128 .f32) (A : Fin 1024 → Fin 128 → EReal)
    (h : ∀ x : S256x128.Idx, acc x = A ⟨256 + (x 0).val, Nat.lt_of_lt_of_le (Nat.add_lt_add_left (x 0).isLt 256) (by decide)⟩ (x 1))
    (x : S256x128.Idx) :
    (pa256 arg2 harg2 arg3 harg3 arg4 harg4 arg5 harg5 arg6 harg6 arg7 harg7 x0 x1 x2 x3 x4 x5 acc).2 x = aB x0 x1 x2 x3 x4 x5 A ((pa256 arg2 harg2 arg3 harg3 arg4 harg4 arg5 harg5 arg6 harg6 arg7 harg7 x0 x1 x2 x3 x4 x5 acc).1.emb x 0) ((pa256 arg2 harg2 arg3 harg3 arg4 harg4 arg5 harg5 arg6 harg6 arg7 harg7 x0 x1 x2 x3 x4 x5 acc).1.emb x 1) := by
  have e0 : (⟨256 + (x 0).val, Nat.lt_of_lt_of_le (Nat.add_lt_add_left (x 0).isLt 256) (by decide)⟩ : Fin 1024) = (pa256 arg2 harg2 arg3 harg3 arg4 harg4 arg5 harg5 arg6 harg6 arg7 harg7 x0 x1 x2 x3 x4 x5 acc).1.emb x 0 :=
    Fin.ext (emb_val S1024x128 ![256, 0] S256x128.size inb_S1024x128_S256x128_256_0 x 0).symm
  have e1 : x 1 = (pa256 arg2 harg2 arg3 harg3 arg4 harg4 arg5 harg5 arg6 harg6 arg7 harg7 x0 x1 x2 x3 x4 x5 acc).1.emb x 1 :=
    Fin.ext ((emb_val S1024x128 ![256, 0] S256x128.size inb_S1024x128_S256x128_256_0 x 1).trans (Nat.zero_add _)).symm
  refine (store_a (View.readAt (Elt Ideal) arg3.view (Rect.unit (s := S1024x1) ![256, 0] S256x1.size inb_S1024x1_S256x1_256_0).toLoadRect (harg3.unread x1)) (View.readAt (Elt Ideal) arg2.view (Rect.unit (s := S1024x8192) ![256, 0] S256x8192.size inb_S1024x8192_S256x8192_256_0).toLoadRect (harg2.unread x0)) (View.readAt (Elt Ideal) arg4.view (Rect.unit (s := S8192x256) ![0, 0] S8192x256.size inb_S8192x256_S8192x256_0_0).toLoadRect (harg4.unread x2)) (View.readAt (Elt Ideal) arg2.view (Rect.unit (s := S1024x8192) ![256, 0] S256x8192.size inb_S1024x8192_S256x8192_256_0).toLoadRect (harg2.unread x0)) (View.readAt (Elt Ideal) arg5.view (Rect.unit (s := S8192x256) ![0, 0] S8192x256.size inb_S8192x256_S8192x256_0_0).toLoadRect (harg5.unread x3)) (View.readAt (Elt Ideal) arg6.view (Rect.unit (s := S1x256) ![0, 0] S1x256.size inb_S1x256_S1x256_0_0).toLoadRect (harg6.unread x4)) (View.readAt (Elt Ideal) arg7.view (Rect.unit (s := S1x256) ![0, 0] S1x256.size inb_S1x256_S1x256_0_0).toLoadRect (harg7.unread x5)) acc x).trans ?_
  rw [h x, ← e0, ← e1]
  simp only [View.readAt_eq_ld, harg2.read_unread, harg3.read_unread, harg4.read_unread, harg5.read_unread, harg6.read_unread, harg7.read_unread]
  rw [chunk x0 x1 x2 x3 x4 x5 256 (by decide) _ _ _ _ (x 0), chunk x0 x1 x2 x3 x4 x5 256 (by decide) _ _ _ _ (x 0)]
  rfl

/-- The stored products of rows 512 to 767 are the block's. -/
theorem pm512_at (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (x : S1x256x256.Idx) :
    (pm512 i arg2 harg2 arg3 harg3 arg4 harg4 arg5 harg5 arg6 harg6 arg7 harg7 x0 x1 x2 x3 x4 x5).2 x = mB x0 x1 x2 x3 x4 x5 ((pm512 i arg2 harg2 arg3 harg3 arg4 harg4 arg5 harg5 arg6 harg6 arg7 harg7 x0 x1 x2 x3 x4 x5).1.emb x 1) ((pm512 i arg2 harg2 arg3 harg3 arg4 harg4 arg5 harg5 arg6 harg6 arg7 harg7 x0 x1 x2 x3 x4 x5).1.emb x 2) := by
  have e1 : ((pm512 i arg2 harg2 arg3 harg3 arg4 harg4 arg5 harg5 arg6 harg6 arg7 harg7 x0 x1 x2 x3 x4 x5).1.emb x 1).val = 512 + (x 1).val := by
    refine (emb_val S14x1024x256 (k0_off3 i) S1x256x256.size (k0_off3_inb i) x 1).trans ?_
    exact congrArg (fun n : ℕ => n + (x 1).val) (congrFun ((off_eq i).2.2.1) 1)
  have e2 : ((pm512 i arg2 harg2 arg3 harg3 arg4 harg4 arg5 harg5 arg6 harg6 arg7 harg7 x0 x1 x2 x3 x4 x5).1.emb x 2).val = (x 2).val := by
    refine (emb_val S14x1024x256 (k0_off3 i) S1x256x256.size (k0_off3_inb i) x 2).trans ?_
    exact (congrArg (fun n : ℕ => n + (x 2).val) (congrFun ((off_eq i).2.2.1) 2)).trans (Nat.zero_add _)
  refine (store_m (View.readAt (Elt Ideal) arg3.view (Rect.unit (s := S1024x1) ![512, 0] S256x1.size inb_S1024x1_S256x1_512_0).toLoadRect (harg3.unread x1)) (View.readAt (Elt Ideal) arg2.view (Rect.unit (s := S1024x8192) ![512, 0] S256x8192.size inb_S1024x8192_S256x8192_512_0).toLoadRect (harg2.unread x0)) (View.readAt (Elt Ideal) arg4.view (Rect.unit (s := S8192x256) ![0, 0] S8192x256.size inb_S8192x256_S8192x256_0_0).toLoadRect (harg4.unread x2)) (View.readAt (Elt Ideal) arg2.view (Rect.unit (s := S1024x8192) ![512, 0] S256x8192.size inb_S1024x8192_S256x8192_512_0).toLoadRect (harg2.unread x0)) (View.readAt (Elt Ideal) arg5.view (Rect.unit (s := S8192x256) ![0, 0] S8192x256.size inb_S8192x256_S8192x256_0_0).toLoadRect (harg5.unread x3)) (View.readAt (Elt Ideal) arg6.view (Rect.unit (s := S1x256) ![0, 0] S1x256.size inb_S1x256_S1x256_0_0).toLoadRect (harg6.unread x4)) (View.readAt (Elt Ideal) arg7.view (Rect.unit (s := S1x256) ![0, 0] S1x256.size inb_S1x256_S1x256_0_0).toLoadRect (harg7.unread x5)) x).trans ?_
  simp only [View.readAt_eq_ld, harg2.read_unread, harg3.read_unread, harg4.read_unread, harg5.read_unread, harg6.read_unread, harg7.read_unread]
  rw [chunk x0 x1 x2 x3 x4 x5 512 (by decide) _ _ _ _ (x 1) (x 2)]
  exact congr (congrArg _ (Fin.ext e1.symm)) (Fin.ext e2.symm)

/-- The stored running maxima of rows 512 to 767. -/
theorem pa512_at (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (acc : Vec Ideal S256x128 .f32) (A : Fin 1024 → Fin 128 → EReal)
    (h : ∀ x : S256x128.Idx, acc x = A ⟨512 + (x 0).val, Nat.lt_of_lt_of_le (Nat.add_lt_add_left (x 0).isLt 512) (by decide)⟩ (x 1))
    (x : S256x128.Idx) :
    (pa512 arg2 harg2 arg3 harg3 arg4 harg4 arg5 harg5 arg6 harg6 arg7 harg7 x0 x1 x2 x3 x4 x5 acc).2 x = aB x0 x1 x2 x3 x4 x5 A ((pa512 arg2 harg2 arg3 harg3 arg4 harg4 arg5 harg5 arg6 harg6 arg7 harg7 x0 x1 x2 x3 x4 x5 acc).1.emb x 0) ((pa512 arg2 harg2 arg3 harg3 arg4 harg4 arg5 harg5 arg6 harg6 arg7 harg7 x0 x1 x2 x3 x4 x5 acc).1.emb x 1) := by
  have e0 : (⟨512 + (x 0).val, Nat.lt_of_lt_of_le (Nat.add_lt_add_left (x 0).isLt 512) (by decide)⟩ : Fin 1024) = (pa512 arg2 harg2 arg3 harg3 arg4 harg4 arg5 harg5 arg6 harg6 arg7 harg7 x0 x1 x2 x3 x4 x5 acc).1.emb x 0 :=
    Fin.ext (emb_val S1024x128 ![512, 0] S256x128.size inb_S1024x128_S256x128_512_0 x 0).symm
  have e1 : x 1 = (pa512 arg2 harg2 arg3 harg3 arg4 harg4 arg5 harg5 arg6 harg6 arg7 harg7 x0 x1 x2 x3 x4 x5 acc).1.emb x 1 :=
    Fin.ext ((emb_val S1024x128 ![512, 0] S256x128.size inb_S1024x128_S256x128_512_0 x 1).trans (Nat.zero_add _)).symm
  refine (store_a (View.readAt (Elt Ideal) arg3.view (Rect.unit (s := S1024x1) ![512, 0] S256x1.size inb_S1024x1_S256x1_512_0).toLoadRect (harg3.unread x1)) (View.readAt (Elt Ideal) arg2.view (Rect.unit (s := S1024x8192) ![512, 0] S256x8192.size inb_S1024x8192_S256x8192_512_0).toLoadRect (harg2.unread x0)) (View.readAt (Elt Ideal) arg4.view (Rect.unit (s := S8192x256) ![0, 0] S8192x256.size inb_S8192x256_S8192x256_0_0).toLoadRect (harg4.unread x2)) (View.readAt (Elt Ideal) arg2.view (Rect.unit (s := S1024x8192) ![512, 0] S256x8192.size inb_S1024x8192_S256x8192_512_0).toLoadRect (harg2.unread x0)) (View.readAt (Elt Ideal) arg5.view (Rect.unit (s := S8192x256) ![0, 0] S8192x256.size inb_S8192x256_S8192x256_0_0).toLoadRect (harg5.unread x3)) (View.readAt (Elt Ideal) arg6.view (Rect.unit (s := S1x256) ![0, 0] S1x256.size inb_S1x256_S1x256_0_0).toLoadRect (harg6.unread x4)) (View.readAt (Elt Ideal) arg7.view (Rect.unit (s := S1x256) ![0, 0] S1x256.size inb_S1x256_S1x256_0_0).toLoadRect (harg7.unread x5)) acc x).trans ?_
  rw [h x, ← e0, ← e1]
  simp only [View.readAt_eq_ld, harg2.read_unread, harg3.read_unread, harg4.read_unread, harg5.read_unread, harg6.read_unread, harg7.read_unread]
  rw [chunk x0 x1 x2 x3 x4 x5 512 (by decide) _ _ _ _ (x 0), chunk x0 x1 x2 x3 x4 x5 512 (by decide) _ _ _ _ (x 0)]
  rfl

/-- The stored products of rows 768 to 1023 are the block's. -/
theorem pm768_at (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (x : S1x256x256.Idx) :
    (pm768 i arg2 harg2 arg3 harg3 arg4 harg4 arg5 harg5 arg6 harg6 arg7 harg7 x0 x1 x2 x3 x4 x5).2 x = mB x0 x1 x2 x3 x4 x5 ((pm768 i arg2 harg2 arg3 harg3 arg4 harg4 arg5 harg5 arg6 harg6 arg7 harg7 x0 x1 x2 x3 x4 x5).1.emb x 1) ((pm768 i arg2 harg2 arg3 harg3 arg4 harg4 arg5 harg5 arg6 harg6 arg7 harg7 x0 x1 x2 x3 x4 x5).1.emb x 2) := by
  have e1 : ((pm768 i arg2 harg2 arg3 harg3 arg4 harg4 arg5 harg5 arg6 harg6 arg7 harg7 x0 x1 x2 x3 x4 x5).1.emb x 1).val = 768 + (x 1).val := by
    refine (emb_val S14x1024x256 (k0_off4 i) S1x256x256.size (k0_off4_inb i) x 1).trans ?_
    exact congrArg (fun n : ℕ => n + (x 1).val) (congrFun ((off_eq i).2.2.2) 1)
  have e2 : ((pm768 i arg2 harg2 arg3 harg3 arg4 harg4 arg5 harg5 arg6 harg6 arg7 harg7 x0 x1 x2 x3 x4 x5).1.emb x 2).val = (x 2).val := by
    refine (emb_val S14x1024x256 (k0_off4 i) S1x256x256.size (k0_off4_inb i) x 2).trans ?_
    exact (congrArg (fun n : ℕ => n + (x 2).val) (congrFun ((off_eq i).2.2.2) 2)).trans (Nat.zero_add _)
  refine (store_m (View.readAt (Elt Ideal) arg3.view (Rect.unit (s := S1024x1) ![768, 0] S256x1.size inb_S1024x1_S256x1_768_0).toLoadRect (harg3.unread x1)) (View.readAt (Elt Ideal) arg2.view (Rect.unit (s := S1024x8192) ![768, 0] S256x8192.size inb_S1024x8192_S256x8192_768_0).toLoadRect (harg2.unread x0)) (View.readAt (Elt Ideal) arg4.view (Rect.unit (s := S8192x256) ![0, 0] S8192x256.size inb_S8192x256_S8192x256_0_0).toLoadRect (harg4.unread x2)) (View.readAt (Elt Ideal) arg2.view (Rect.unit (s := S1024x8192) ![768, 0] S256x8192.size inb_S1024x8192_S256x8192_768_0).toLoadRect (harg2.unread x0)) (View.readAt (Elt Ideal) arg5.view (Rect.unit (s := S8192x256) ![0, 0] S8192x256.size inb_S8192x256_S8192x256_0_0).toLoadRect (harg5.unread x3)) (View.readAt (Elt Ideal) arg6.view (Rect.unit (s := S1x256) ![0, 0] S1x256.size inb_S1x256_S1x256_0_0).toLoadRect (harg6.unread x4)) (View.readAt (Elt Ideal) arg7.view (Rect.unit (s := S1x256) ![0, 0] S1x256.size inb_S1x256_S1x256_0_0).toLoadRect (harg7.unread x5)) x).trans ?_
  simp only [View.readAt_eq_ld, harg2.read_unread, harg3.read_unread, harg4.read_unread, harg5.read_unread, harg6.read_unread, harg7.read_unread]
  rw [chunk x0 x1 x2 x3 x4 x5 768 (by decide) _ _ _ _ (x 1) (x 2)]
  exact congr (congrArg _ (Fin.ext e1.symm)) (Fin.ext e2.symm)

/-- The stored running maxima of rows 768 to 1023. -/
theorem pa768_at (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (acc : Vec Ideal S256x128 .f32) (A : Fin 1024 → Fin 128 → EReal)
    (h : ∀ x : S256x128.Idx, acc x = A ⟨768 + (x 0).val, Nat.lt_of_lt_of_le (Nat.add_lt_add_left (x 0).isLt 768) (by decide)⟩ (x 1))
    (x : S256x128.Idx) :
    (pa768 arg2 harg2 arg3 harg3 arg4 harg4 arg5 harg5 arg6 harg6 arg7 harg7 x0 x1 x2 x3 x4 x5 acc).2 x = aB x0 x1 x2 x3 x4 x5 A ((pa768 arg2 harg2 arg3 harg3 arg4 harg4 arg5 harg5 arg6 harg6 arg7 harg7 x0 x1 x2 x3 x4 x5 acc).1.emb x 0) ((pa768 arg2 harg2 arg3 harg3 arg4 harg4 arg5 harg5 arg6 harg6 arg7 harg7 x0 x1 x2 x3 x4 x5 acc).1.emb x 1) := by
  have e0 : (⟨768 + (x 0).val, Nat.lt_of_lt_of_le (Nat.add_lt_add_left (x 0).isLt 768) (by decide)⟩ : Fin 1024) = (pa768 arg2 harg2 arg3 harg3 arg4 harg4 arg5 harg5 arg6 harg6 arg7 harg7 x0 x1 x2 x3 x4 x5 acc).1.emb x 0 :=
    Fin.ext (emb_val S1024x128 ![768, 0] S256x128.size inb_S1024x128_S256x128_768_0 x 0).symm
  have e1 : x 1 = (pa768 arg2 harg2 arg3 harg3 arg4 harg4 arg5 harg5 arg6 harg6 arg7 harg7 x0 x1 x2 x3 x4 x5 acc).1.emb x 1 :=
    Fin.ext ((emb_val S1024x128 ![768, 0] S256x128.size inb_S1024x128_S256x128_768_0 x 1).trans (Nat.zero_add _)).symm
  refine (store_a (View.readAt (Elt Ideal) arg3.view (Rect.unit (s := S1024x1) ![768, 0] S256x1.size inb_S1024x1_S256x1_768_0).toLoadRect (harg3.unread x1)) (View.readAt (Elt Ideal) arg2.view (Rect.unit (s := S1024x8192) ![768, 0] S256x8192.size inb_S1024x8192_S256x8192_768_0).toLoadRect (harg2.unread x0)) (View.readAt (Elt Ideal) arg4.view (Rect.unit (s := S8192x256) ![0, 0] S8192x256.size inb_S8192x256_S8192x256_0_0).toLoadRect (harg4.unread x2)) (View.readAt (Elt Ideal) arg2.view (Rect.unit (s := S1024x8192) ![768, 0] S256x8192.size inb_S1024x8192_S256x8192_768_0).toLoadRect (harg2.unread x0)) (View.readAt (Elt Ideal) arg5.view (Rect.unit (s := S8192x256) ![0, 0] S8192x256.size inb_S8192x256_S8192x256_0_0).toLoadRect (harg5.unread x3)) (View.readAt (Elt Ideal) arg6.view (Rect.unit (s := S1x256) ![0, 0] S1x256.size inb_S1x256_S1x256_0_0).toLoadRect (harg6.unread x4)) (View.readAt (Elt Ideal) arg7.view (Rect.unit (s := S1x256) ![0, 0] S1x256.size inb_S1x256_S1x256_0_0).toLoadRect (harg7.unread x5)) acc x).trans ?_
  rw [h x, ← e0, ← e1]
  simp only [View.readAt_eq_ld, harg2.read_unread, harg3.read_unread, harg4.read_unread, harg5.read_unread, harg6.read_unread, harg7.read_unread]
  rw [chunk x0 x1 x2 x3 x4 x5 768 (by decide) _ _ _ _ (x 0), chunk x0 x1 x2 x3 x4 x5 768 (by decide) _ _ _ _ (x 0)]
  rfl

/-- A slab of products after the stores of its own grid point. -/
theorem L10s_hit (arg10 : Memref sig .tc .vmem S14x1024x256 .f32) (f : arg10.view.ty.Contents (Elt Ideal)) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (y : S14x1024x256.Idx) (h : (y 0).val = (i 1).val) :
    arg10.view.read (Elt Ideal) (arg10.view.writes (Elt Ideal) f (L10s i arg2 harg2 arg3 harg3 arg4 harg4 arg5 harg5 arg6 harg6 arg7 harg7 x0 x1 x2 x3 x4 x5)) y = mB x0 x1 x2 x3 x4 x5 (y 1) (y 2) := by
  refine View.read_writes_apply_of_pieces (Val := Elt Ideal) (e := .f32) arg10.view f (fun y : S14x1024x256.Idx => (mB x0 x1 x2 x3 x4 x5 (y 1) (y 2) : Elt Ideal .f32)) _ ?_ y ?_
  · intro p hp x
    simp only [L10s, List.mem_cons, List.not_mem_nil, or_false] at hp
    rcases hp with rfl | rfl | rfl | rfl
    · exact pm768_at ..
    · exact pm512_at ..
    · exact pm256_at ..
    · exact pm0_at ..
  · have h1 := (y 1).isLt
    have h2 := (y 2).isLt
    have g1 : (y 1).val < 1024 := h1
    have g2 : (y 2).val < 256 := h2
    rcases (by omega : (y 1).val < 256 ∨ (256 ≤ (y 1).val ∧ (y 1).val < 512) ∨ (512 ≤ (y 1).val ∧ (y 1).val < 768) ∨ 768 ≤ (y 1).val) with q | q | q | q
    · refine ⟨pm0 i arg2 harg2 arg3 harg3 arg4 harg4 arg5 harg5 arg6 harg6 arg7 harg7 x0 x1 x2 x3 x4 x5, by simp [L10s], (mem_unit S14x1024x256 (k0_off1 i) S1x256x256.size (k0_off1_inb i) y).2 ?_⟩
      rw [((off_eq i).1)]
      intro a
      fin_cases a
      · exact ⟨h.ge, h.le.trans_lt (Nat.lt_succ_self _)⟩
      · show 0 ≤ (y 1).val ∧ (y 1).val < 0 + 256; omega
      · exact ⟨Nat.zero_le _, by show (y 2).val < 0 + 256; omega⟩
    · refine ⟨pm256 i arg2 harg2 arg3 harg3 arg4 harg4 arg5 harg5 arg6 harg6 arg7 harg7 x0 x1 x2 x3 x4 x5, by simp [L10s], (mem_unit S14x1024x256 (k0_off2 i) S1x256x256.size (k0_off2_inb i) y).2 ?_⟩
      rw [((off_eq i).2.1)]
      intro a
      fin_cases a
      · exact ⟨h.ge, h.le.trans_lt (Nat.lt_succ_self _)⟩
      · show 256 ≤ (y 1).val ∧ (y 1).val < 256 + 256; omega
      · exact ⟨Nat.zero_le _, by show (y 2).val < 0 + 256; omega⟩
    · refine ⟨pm512 i arg2 harg2 arg3 harg3 arg4 harg4 arg5 harg5 arg6 harg6 arg7 harg7 x0 x1 x2 x3 x4 x5, by simp [L10s], (mem_unit S14x1024x256 (k0_off3 i) S1x256x256.size (k0_off3_inb i) y).2 ?_⟩
      rw [((off_eq i).2.2.1)]
      intro a
      fin_cases a
      · exact ⟨h.ge, h.le.trans_lt (Nat.lt_succ_self _)⟩
      · show 512 ≤ (y 1).val ∧ (y 1).val < 512 + 256; omega
      · exact ⟨Nat.zero_le _, by show (y 2).val < 0 + 256; omega⟩
    · refine ⟨pm768 i arg2 harg2 arg3 harg3 arg4 harg4 arg5 harg5 arg6 harg6 arg7 harg7 x0 x1 x2 x3 x4 x5, by simp [L10s], (mem_unit S14x1024x256 (k0_off4 i) S1x256x256.size (k0_off4_inb i) y).2 ?_⟩
      rw [((off_eq i).2.2.2)]
      intro a
      fin_cases a
      · exact ⟨h.ge, h.le.trans_lt (Nat.lt_succ_self _)⟩
      · show 768 ≤ (y 1).val ∧ (y 1).val < 768 + 256; omega
      · exact ⟨Nat.zero_le _, by show (y 2).val < 0 + 256; omega⟩

/-- The other slabs are untouched. -/
theorem L10s_miss (arg10 : Memref sig .tc .vmem S14x1024x256 .f32) (f : arg10.view.ty.Contents (Elt Ideal)) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (y : S14x1024x256.Idx) (h : (y 0).val ≠ (i 1).val) :
    arg10.view.read (Elt Ideal) (arg10.view.writes (Elt Ideal) f (L10s i arg2 harg2 arg3 harg3 arg4 harg4 arg5 harg5 arg6 harg6 arg7 harg7 x0 x1 x2 x3 x4 x5)) y = arg10.view.read (Elt Ideal) f y := by
  refine View.read_writes_apply_of_forall_not_mem _ _ y _ ?_
  intro p hp hm
  simp only [L10s, List.mem_cons, List.not_mem_nil, or_false] at hp
  rcases hp with rfl | rfl | rfl | rfl
  · have q := (mem_unit S14x1024x256 (k0_off4 i) S1x256x256.size (k0_off4_inb i) y).1 hm 0
    have o : k0_off4 i 0 = (i 1).val := congrFun ((off_eq i).2.2.2) 0
    have q1 : k0_off4 i 0 ≤ (y 0).val := q.1
    have q2 : (y 0).val < k0_off4 i 0 + 1 := q.2
    omega
  · have q := (mem_unit S14x1024x256 (k0_off3 i) S1x256x256.size (k0_off3_inb i) y).1 hm 0
    have o : k0_off3 i 0 = (i 1).val := congrFun ((off_eq i).2.2.1) 0
    have q1 : k0_off3 i 0 ≤ (y 0).val := q.1
    have q2 : (y 0).val < k0_off3 i 0 + 1 := q.2
    omega
  · have q := (mem_unit S14x1024x256 (k0_off2 i) S1x256x256.size (k0_off2_inb i) y).1 hm 0
    have o : k0_off2 i 0 = (i 1).val := congrFun ((off_eq i).2.1) 0
    have q1 : k0_off2 i 0 ≤ (y 0).val := q.1
    have q2 : (y 0).val < k0_off2 i 0 + 1 := q.2
    omega
  · have q := (mem_unit S14x1024x256 (k0_off1 i) S1x256x256.size (k0_off1_inb i) y).1 hm 0
    have o : k0_off1 i 0 = (i 1).val := congrFun ((off_eq i).1) 0
    have q1 : k0_off1 i 0 ≤ (y 0).val := q.1
    have q2 : (y 0).val < k0_off1 i 0 + 1 := q.2
    omega

/-- The running maxima after one grid point. -/
theorem L11s_read (arg11 : Memref sig .tc .vmem S1024x128 .f32) (f : arg11.view.ty.Contents (Elt Ideal)) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (acc0 acc256 acc512 acc768 : Vec Ideal S256x128 .f32) (A : Fin 1024 → Fin 128 → EReal)
    (h0 : ∀ x : S256x128.Idx, acc0 x = A ⟨0 + (x 0).val, Nat.lt_of_lt_of_le (Nat.add_lt_add_left (x 0).isLt 0) (by decide)⟩ (x 1))
    (h256 : ∀ x : S256x128.Idx, acc256 x = A ⟨256 + (x 0).val, Nat.lt_of_lt_of_le (Nat.add_lt_add_left (x 0).isLt 256) (by decide)⟩ (x 1))
    (h512 : ∀ x : S256x128.Idx, acc512 x = A ⟨512 + (x 0).val, Nat.lt_of_lt_of_le (Nat.add_lt_add_left (x 0).isLt 512) (by decide)⟩ (x 1))
    (h768 : ∀ x : S256x128.Idx, acc768 x = A ⟨768 + (x 0).val, Nat.lt_of_lt_of_le (Nat.add_lt_add_left (x 0).isLt 768) (by decide)⟩ (x 1))
    (y : S1024x128.Idx) :
    arg11.view.read (Elt Ideal) (arg11.view.writes (Elt Ideal) f (L11s arg2 harg2 arg3 harg3 arg4 harg4 arg5 harg5 arg6 harg6 arg7 harg7 x0 x1 x2 x3 x4 x5 acc0 acc256 acc512 acc768)) y = aB x0 x1 x2 x3 x4 x5 A (y 0) (y 1) := by
  refine View.read_writes_apply_of_pieces (Val := Elt Ideal) (e := .f32) arg11.view f (fun y : S1024x128.Idx => (aB x0 x1 x2 x3 x4 x5 A (y 0) (y 1) : Elt Ideal .f32)) _ ?_ y ?_
  · intro p hp x
    simp only [L11s, List.mem_cons, List.not_mem_nil, or_false] at hp
    rcases hp with rfl | rfl | rfl | rfl
    · exact pa768_at arg2 harg2 arg3 harg3 arg4 harg4 arg5 harg5 arg6 harg6 arg7 harg7 x0 x1 x2 x3 x4 x5 acc768 A h768 x
    · exact pa512_at arg2 harg2 arg3 harg3 arg4 harg4 arg5 harg5 arg6 harg6 arg7 harg7 x0 x1 x2 x3 x4 x5 acc512 A h512 x
    · exact pa256_at arg2 harg2 arg3 harg3 arg4 harg4 arg5 harg5 arg6 harg6 arg7 harg7 x0 x1 x2 x3 x4 x5 acc256 A h256 x
    · exact pa0_at arg2 harg2 arg3 harg3 arg4 harg4 arg5 harg5 arg6 harg6 arg7 harg7 x0 x1 x2 x3 x4 x5 acc0 A h0 x
  · have g1 : (y 0).val < 1024 := (y 0).isLt
    have g2 : (y 1).val < 128 := (y 1).isLt
    rcases (by omega : (y 0).val < 256 ∨ (256 ≤ (y 0).val ∧ (y 0).val < 512) ∨ (512 ≤ (y 0).val ∧ (y 0).val < 768) ∨ 768 ≤ (y 0).val) with q | q | q | q
    · refine ⟨pa0 arg2 harg2 arg3 harg3 arg4 harg4 arg5 harg5 arg6 harg6 arg7 harg7 x0 x1 x2 x3 x4 x5 acc0, by simp [L11s], (mem_unit S1024x128 ![0, 0] S256x128.size inb_S1024x128_S256x128_0_0 y).2 ?_⟩
      intro a
      fin_cases a
      · show 0 ≤ (y 0).val ∧ (y 0).val < 0 + 256; omega
      · exact ⟨Nat.zero_le _, by show (y 1).val < 0 + 128; omega⟩
    · refine ⟨pa256 arg2 harg2 arg3 harg3 arg4 harg4 arg5 harg5 arg6 harg6 arg7 harg7 x0 x1 x2 x3 x4 x5 acc256, by simp [L11s], (mem_unit S1024x128 ![256, 0] S256x128.size inb_S1024x128_S256x128_256_0 y).2 ?_⟩
      intro a
      fin_cases a
      · show 256 ≤ (y 0).val ∧ (y 0).val < 256 + 256; omega
      · exact ⟨Nat.zero_le _, by show (y 1).val < 0 + 128; omega⟩
    · refine ⟨pa512 arg2 harg2 arg3 harg3 arg4 harg4 arg5 harg5 arg6 harg6 arg7 harg7 x0 x1 x2 x3 x4 x5 acc512, by simp [L11s], (mem_unit S1024x128 ![512, 0] S256x128.size inb_S1024x128_S256x128_512_0 y).2 ?_⟩
      intro a
      fin_cases a
      · show 512 ≤ (y 0).val ∧ (y 0).val < 512 + 256; omega
      · exact ⟨Nat.zero_le _, by show (y 1).val < 0 + 128; omega⟩
    · refine ⟨pa768 arg2 harg2 arg3 harg3 arg4 harg4 arg5 harg5 arg6 harg6 arg7 harg7 x0 x1 x2 x3 x4 x5 acc768, by simp [L11s], (mem_unit S1024x128 ![768, 0] S256x128.size inb_S1024x128_S256x128_768_0 y).2 ?_⟩
      intro a
      fin_cases a
      · show 768 ≤ (y 0).val ∧ (y 0).val < 768 + 256; omega
      · exact ⟨Nat.zero_le _, by show (y 1).val < 0 + 128; omega⟩

/-- The zeroing store writes zeroes. -/
theorem pz_at (x : pz.1.shape.Idx) : pz.2 x = (0 : EReal) := by
  show (k0_pay17 (F := Ideal)) x = _
  unfold k0_pay17
  exact Ideal.ofBits_zero_f32

/-- Rows read back after zeroing, when the stores since lie in other rows. -/
theorem zero_back (arg11 : Memref sig .tc .vmem S1024x128 .f32) (L : List (View.Piece (Elt Ideal) S1024x128 .f32)) (o : ℕ) (inb : ∀ a, (![o, 0] : Fin 2 → ℕ) a + S256x128.size a ≤ S1024x128.size a)
    (h : ∀ p ∈ L, ∀ y ∈ p.1.set, (y 0).val < o) (x : S256x128.Idx) :
    arg11.view.readCov (L ++ [pz]) (Rect.unit (s := S1024x128) ![o, 0] S256x128.size inb).toLoadRect x = (0 : EReal) := by
  unfold View.readCov
  rw [View.writes_append, View.readAt_apply, View.read_writes_apply_of_forall_not_mem]
  · refine (View.read_writes_apply_of_pieces (Val := Elt Ideal) (e := .f32) arg11.view arg11.view.junk (fun _ : S1024x128.Idx => ((0 : EReal) : Elt Ideal .f32)) [pz] ?_ _ ⟨pz, by simp, ?_⟩)
    · intro p hp x
      obtain rfl := List.mem_singleton.1 hp
      exact pz_at x
    · refine (mem_unit S1024x128 ![0, 0] S1024x128.size inb_S1024x128_S1024x128_0_0 _).2 ?_
      intro a
      refine ⟨by fin_cases a <;> exact Nat.zero_le _, ?_⟩
      have q := (((Rect.unit (s := S1024x128) ![o, 0] S256x128.size inb).toLoadRect.idx x) a).isLt
      fin_cases a <;> exact q.trans_le (Nat.le_add_left _ _)
  · intro p hp hm
    have q := h p hp _ hm
    rw [show (((Rect.unit (s := S1024x128) ![o, 0] S256x128.size inb).toLoadRect.idx x) 0).val = o + (x 0).val from emb_val S1024x128 ![o, 0] S256x128.size inb x 0] at q
    omega

/-- The stores to rows 0 to 255 lie below row 256. -/
theorem pa0_lt (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (acc : Vec Ideal S256x128 .f32) (y : S1024x128.Idx) (h : y ∈ (pa0 arg2 harg2 arg3 harg3 arg4 harg4 arg5 harg5 arg6 harg6 arg7 harg7 x0 x1 x2 x3 x4 x5 acc).1.set) : (y 0).val < 256 := by
  have q := ((mem_unit S1024x128 ![0, 0] S256x128.size inb_S1024x128_S256x128_0_0 y).1 h 0).2
  exact q
/-- The stores to rows 256 to 511 lie below row 512. -/
theorem pa256_lt (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (acc : Vec Ideal S256x128 .f32) (y : S1024x128.Idx) (h : y ∈ (pa256 arg2 harg2 arg3 harg3 arg4 harg4 arg5 harg5 arg6 harg6 arg7 harg7 x0 x1 x2 x3 x4 x5 acc).1.set) : (y 0).val < 512 := by
  have q := ((mem_unit S1024x128 ![256, 0] S256x128.size inb_S1024x128_S256x128_256_0 y).1 h 0).2
  exact q
/-- The stores to rows 512 to 767 lie below row 768. -/
theorem pa512_lt (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (acc : Vec Ideal S256x128 .f32) (y : S1024x128.Idx) (h : y ∈ (pa512 arg2 harg2 arg3 harg3 arg4 harg4 arg5 harg5 arg6 harg6 arg7 harg7 x0 x1 x2 x3 x4 x5 acc).1.set) : (y 0).val < 768 := by
  have q := ((mem_unit S1024x128 ![512, 0] S256x128.size inb_S1024x128_S256x128_512_0 y).1 h 0).2
  exact q
/-- The stores to rows 768 to 1023 lie below row 1024. -/
theorem pa768_lt (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (acc : Vec Ideal S256x128 .f32) (y : S1024x128.Idx) (h : y ∈ (pa768 arg2 harg2 arg3 harg3 arg4 harg4 arg5 harg5 arg6 harg6 arg7 harg7 x0 x1 x2 x3 x4 x5 acc).1.set) : (y 0).val < 1024 := by
  have q := ((mem_unit S1024x128 ![768, 0] S256x128.size inb_S1024x128_S256x128_768_0 y).1 h 0).2
  exact q

/-- A first column block starts rows 0 to 255 from zero. -/
theorem c0_eq (arg11 : Memref sig .tc .vmem S1024x128 .f32) (x : S256x128.Idx) : c0 arg11 x = (0 : EReal) := by
  refine zero_back arg11 [] 0 _ ?_ x
  intro p hp y hy
  simp only [List.mem_cons, List.not_mem_nil, or_false] at hp
  try exact hp.elim

/-- A first column block starts rows 256 to 511 from zero. -/
theorem c256_eq (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg11 : Memref sig .tc .vmem S1024x128 .f32) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (x : S256x128.Idx) : c256 arg2 harg2 arg3 harg3 arg4 harg4 arg5 harg5 arg6 harg6 arg7 harg7 arg11 x0 x1 x2 x3 x4 x5 x = (0 : EReal) := by
  refine zero_back arg11 [pa0 arg2 harg2 arg3 harg3 arg4 harg4 arg5 harg5 arg6 harg6 arg7 harg7 x0 x1 x2 x3 x4 x5 (c0 arg11)] 256 _ ?_ x
  intro p hp y hy
  simp only [List.mem_cons, List.not_mem_nil, or_false] at hp
  rcases hp with rfl
  · exact (pa0_lt arg2 harg2 arg3 harg3 arg4 harg4 arg5 harg5 arg6 harg6 arg7 harg7 x0 x1 x2 x3 x4 x5 _ y hy).trans_le (by decide)

/-- A first column block starts rows 512 to 767 from zero. -/
theorem c512_eq (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg11 : Memref sig .tc .vmem S1024x128 .f32) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (x : S256x128.Idx) : c512 arg2 harg2 arg3 harg3 arg4 harg4 arg5 harg5 arg6 harg6 arg7 harg7 arg11 x0 x1 x2 x3 x4 x5 x = (0 : EReal) := by
  refine zero_back arg11 [pa256 arg2 harg2 arg3 harg3 arg4 harg4 arg5 harg5 arg6 harg6 arg7 harg7 x0 x1 x2 x3 x4 x5 (c256 arg2 harg2 arg3 harg3 arg4 harg4 arg5 harg5 arg6 harg6 arg7 harg7 arg11 x0 x1 x2 x3 x4 x5), pa0 arg2 harg2 arg3 harg3 arg4 harg4 arg5 harg5 arg6 harg6 arg7 harg7 x0 x1 x2 x3 x4 x5 (c0 arg11)] 512 _ ?_ x
  intro p hp y hy
  simp only [List.mem_cons, List.not_mem_nil, or_false] at hp
  rcases hp with rfl | rfl
  · exact (pa256_lt arg2 harg2 arg3 harg3 arg4 harg4 arg5 harg5 arg6 harg6 arg7 harg7 x0 x1 x2 x3 x4 x5 _ y hy).trans_le (by decide)
  · exact (pa0_lt arg2 harg2 arg3 harg3 arg4 harg4 arg5 harg5 arg6 harg6 arg7 harg7 x0 x1 x2 x3 x4 x5 _ y hy).trans_le (by decide)

/-- A first column block starts rows 768 to 1023 from zero. -/
theorem c768_eq (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg11 : Memref sig .tc .vmem S1024x128 .f32) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (x : S256x128.Idx) : c768 arg2 harg2 arg3 harg3 arg4 harg4 arg5 harg5 arg6 harg6 arg7 harg7 arg11 x0 x1 x2 x3 x4 x5 x = (0 : EReal) := by
  refine zero_back arg11 [pa512 arg2 harg2 arg3 harg3 arg4 harg4 arg5 harg5 arg6 harg6 arg7 harg7 x0 x1 x2 x3 x4 x5 (c512 arg2 harg2 arg3 harg3 arg4 harg4 arg5 harg5 arg6 harg6 arg7 harg7 arg11 x0 x1 x2 x3 x4 x5), pa256 arg2 harg2 arg3 harg3 arg4 harg4 arg5 harg5 arg6 harg6 arg7 harg7 x0 x1 x2 x3 x4 x5 (c256 arg2 harg2 arg3 harg3 arg4 harg4 arg5 harg5 arg6 harg6 arg7 harg7 arg11 x0 x1 x2 x3 x4 x5), pa0 arg2 harg2 arg3 harg3 arg4 harg4 arg5 harg5 arg6 harg6 arg7 harg7 x0 x1 x2 x3 x4 x5 (c0 arg11)] 768 _ ?_ x
  intro p hp y hy
  simp only [List.mem_cons, List.not_mem_nil, or_false] at hp
  rcases hp with rfl | rfl | rfl
  · exact (pa512_lt arg2 harg2 arg3 harg3 arg4 harg4 arg5 harg5 arg6 harg6 arg7 harg7 x0 x1 x2 x3 x4 x5 _ y hy).trans_le (by decide)
  · exact (pa256_lt arg2 harg2 arg3 harg3 arg4 harg4 arg5 harg5 arg6 harg6 arg7 harg7 x0 x1 x2 x3 x4 x5 _ y hy).trans_le (by decide)
  · exact (pa0_lt arg2 harg2 arg3 harg3 arg4 harg4 arg5 harg5 arg6 harg6 arg7 harg7 x0 x1 x2 x3 x4 x5 _ y hy).trans_le (by decide)
end Cert.Proof.GateUpIdealReads

end
-- ==== Proof.GateUpIdealOut.lean ====
/- What the last column block of the gate/up kernel writes out: the scale of every row and the codes of every product, read from the two scratch buffers. -/
module

public import proofs.«01_k».proof.Proof.GateUpIdealReads

@[expose] public section

set_option maxRecDepth 16384

noncomputable section

namespace Cert.Proof.GateUpIdealOut

open Cert.Proof.GateUpIdealBlock Cert.Proof.GateUpIdealReads
open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-- The scale of row `r`, from the running maxima. -/
def scB (A : Vec Ideal S1024x128 .f32) (r : Fin 1024) : EReal :=
  if 0 < Finset.fold max (Ideal.ofBits FTy.f32 4286578688#32) (fun l => A (ix2 r l)) Finset.univ then
    Ideal.div (Finset.fold max (Ideal.ofBits FTy.f32 4286578688#32) (fun l => A (ix2 r l)) Finset.univ) (Ideal.ofBits FTy.f32 1138753536#32)
  else 1

/-- The code at row `r` and column `q`: the product over the row's scale, clipped. -/
def cdB (M : Vec Ideal S14x1024x256 .f32) (A : Vec Ideal S1024x128 .f32) (r : Fin 1024) (q : Fin 3584) : EReal :=
  min (Ideal.ofBits FTy.f32 1138753536#32) (max (Ideal.ofBits FTy.f32 3286237184#32)
    (Ideal.div (M (ix3 ⟨q.val / 256, by omega⟩ r ⟨q.val % 256, by omega⟩)) (scB A r)))

/-- The scale of a row of a loaded group. -/
theorem pay3_at (v : Vec Ideal S32x128 .f32) (x : S32x1.Idx) :
    k0_pay3 v x = if 0 < Finset.fold max (Ideal.ofBits FTy.f32 4286578688#32) (fun l => v (ix2 (x 0) l)) Finset.univ then
      Ideal.div (Finset.fold max (Ideal.ofBits FTy.f32 4286578688#32) (fun l => v (ix2 (x 0) l)) Finset.univ) (Ideal.ofBits FTy.f32 1138753536#32)
    else 1 := by
  idx_vars x
  pointwise [k0_pay3]

/-- A code of a loaded group. -/
theorem pay6_at (w : FVec Ideal S32x1 .f32) (v : Vec Ideal S1x32x256 .f32) (x : S32x256.Idx) :
    k0_pay6 w v x = min (Ideal.ofBits FTy.f32 1138753536#32) (max (Ideal.ofBits FTy.f32 3286237184#32)
      (Ideal.div (v (ix3 0 (x 0) (x 1))) (w (ix2 (x 0) 0)))) := by
  idx_vars x
  pointwise [k0_pay6]

/-- The groups of 32 rows: where they load and store. -/
theorem trips_eq : k0_t1_loop.trips = 32 := by decide +kernel
/-- A closed form of an offset. -/
theorem off5_eq (k : Fin k0_t1_loop.trips) : k0_off5 k = ![32 * k.val, 0] := by revert k; decide +kernel
/-- A closed form of an offset. -/
theorem off6_eq (k : Fin k0_t1_loop.trips) : k0_off6 k = ![32 * k.val, 0] := by revert k; decide +kernel
/-- A closed form of an offset. -/
theorem off7_eq (k : Fin k0_t1_loop.trips) : k0_off7 k = ![0, 32 * k.val, 0] := by revert k; decide +kernel
/-- A closed form of an offset. -/
theorem off9_eq (k : Fin k0_t1_loop.trips) : k0_off9 k = ![1, 32 * k.val, 0] := by revert k; decide +kernel
/-- A closed form of an offset. -/
theorem off11_eq (k : Fin k0_t1_loop.trips) : k0_off11 k = ![2, 32 * k.val, 0] := by revert k; decide +kernel
/-- A closed form of an offset. -/
theorem off13_eq (k : Fin k0_t1_loop.trips) : k0_off13 k = ![3, 32 * k.val, 0] := by revert k; decide +kernel
/-- A closed form of an offset. -/
theorem off15_eq (k : Fin k0_t1_loop.trips) : k0_off15 k = ![4, 32 * k.val, 0] := by revert k; decide +kernel
/-- A closed form of an offset. -/
theorem off17_eq (k : Fin k0_t1_loop.trips) : k0_off17 k = ![5, 32 * k.val, 0] := by revert k; decide +kernel
/-- A closed form of an offset. -/
theorem off19_eq (k : Fin k0_t1_loop.trips) : k0_off19 k = ![6, 32 * k.val, 0] := by revert k; decide +kernel
/-- A closed form of an offset. -/
theorem off21_eq (k : Fin k0_t1_loop.trips) : k0_off21 k = ![7, 32 * k.val, 0] := by revert k; decide +kernel
/-- A closed form of an offset. -/
theorem off23_eq (k : Fin k0_t1_loop.trips) : k0_off23 k = ![8, 32 * k.val, 0] := by revert k; decide +kernel
/-- A closed form of an offset. -/
theorem off25_eq (k : Fin k0_t1_loop.trips) : k0_off25 k = ![9, 32 * k.val, 0] := by revert k; decide +kernel
/-- A closed form of an offset. -/
theorem off27_eq (k : Fin k0_t1_loop.trips) : k0_off27 k = ![10, 32 * k.val, 0] := by revert k; decide +kernel
/-- A closed form of an offset. -/
theorem off29_eq (k : Fin k0_t1_loop.trips) : k0_off29 k = ![11, 32 * k.val, 0] := by revert k; decide +kernel
/-- A closed form of an offset. -/
theorem off31_eq (k : Fin k0_t1_loop.trips) : k0_off31 k = ![12, 32 * k.val, 0] := by revert k; decide +kernel
/-- A closed form of an offset. -/
theorem off33_eq (k : Fin k0_t1_loop.trips) : k0_off33 k = ![13, 32 * k.val, 0] := by revert k; decide +kernel
/-- A closed form of an offset. -/
theorem off8_eq (k : Fin k0_t1_loop.trips) : k0_off8 k = ![32 * k.val, 0] := by revert k; decide +kernel
/-- A closed form of an offset. -/
theorem off10_eq (k : Fin k0_t1_loop.trips) : k0_off10 k = ![32 * k.val, 256] := by revert k; decide +kernel
/-- A closed form of an offset. -/
theorem off12_eq (k : Fin k0_t1_loop.trips) : k0_off12 k = ![32 * k.val, 512] := by revert k; decide +kernel
/-- A closed form of an offset. -/
theorem off14_eq (k : Fin k0_t1_loop.trips) : k0_off14 k = ![32 * k.val, 768] := by revert k; decide +kernel
/-- A closed form of an offset. -/
theorem off16_eq (k : Fin k0_t1_loop.trips) : k0_off16 k = ![32 * k.val, 1024] := by revert k; decide +kernel
/-- A closed form of an offset. -/
theorem off18_eq (k : Fin k0_t1_loop.trips) : k0_off18 k = ![32 * k.val, 1280] := by revert k; decide +kernel
/-- A closed form of an offset. -/
theorem off20_eq (k : Fin k0_t1_loop.trips) : k0_off20 k = ![32 * k.val, 1536] := by revert k; decide +kernel
/-- A closed form of an offset. -/
theorem off22_eq (k : Fin k0_t1_loop.trips) : k0_off22 k = ![32 * k.val, 1792] := by revert k; decide +kernel
/-- A closed form of an offset. -/
theorem off24_eq (k : Fin k0_t1_loop.trips) : k0_off24 k = ![32 * k.val, 2048] := by revert k; decide +kernel
/-- A closed form of an offset. -/
theorem off26_eq (k : Fin k0_t1_loop.trips) : k0_off26 k = ![32 * k.val, 2304] := by revert k; decide +kernel
/-- A closed form of an offset. -/
theorem off28_eq (k : Fin k0_t1_loop.trips) : k0_off28 k = ![32 * k.val, 2560] := by revert k; decide +kernel
/-- A closed form of an offset. -/
theorem off30_eq (k : Fin k0_t1_loop.trips) : k0_off30 k = ![32 * k.val, 2816] := by revert k; decide +kernel
/-- A closed form of an offset. -/
theorem off32_eq (k : Fin k0_t1_loop.trips) : k0_off32 k = ![32 * k.val, 3072] := by revert k; decide +kernel
/-- A closed form of an offset. -/
theorem off34_eq (k : Fin k0_t1_loop.trips) : k0_off34 k = ![32 * k.val, 3328] := by revert k; decide +kernel

/-- The store of the scales of one group. -/
def ps (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) : View.Piece (Elt Ideal) S1024x1 .f32 :=
  ⟨Rect.unit (s := S1024x1) (k0_off6 k) S32x1.size (k0_off6_inb i k h2), k0_pay3 (View.readAt (Elt Ideal) arg11.view (Rect.unit (s := S1024x128) (k0_off5 k) S32x128.size (k0_off5_inb i k h2)).toLoadRect X11)⟩
/-- The store of the codes of one group in column block 0. -/
def pc0 (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) : View.Piece (Elt Ideal) S1024x3584 .fp8e4m3 :=
  ⟨Rect.unit (s := S1024x3584) (k0_off8 k) S32x256.size (k0_off8_inb i k h2), k0_pay6 (k0_pay3 (View.readAt (Elt Ideal) arg11.view (Rect.unit (s := S1024x128) (k0_off5 k) S32x128.size (k0_off5_inb i k h2)).toLoadRect X11)) (View.readAt (Elt Ideal) arg10.view (Rect.unit (s := S14x1024x256) (k0_off7 k) S1x32x256.size (k0_off7_inb i k h2)).toLoadRect X10)⟩
/-- The store of the codes of one group in column block 1. -/
def pc1 (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) : View.Piece (Elt Ideal) S1024x3584 .fp8e4m3 :=
  ⟨Rect.unit (s := S1024x3584) (k0_off10 k) S32x256.size (k0_off10_inb i k h2), k0_pay6 (k0_pay3 (View.readAt (Elt Ideal) arg11.view (Rect.unit (s := S1024x128) (k0_off5 k) S32x128.size (k0_off5_inb i k h2)).toLoadRect X11)) (View.readAt (Elt Ideal) arg10.view (Rect.unit (s := S14x1024x256) (k0_off9 k) S1x32x256.size (k0_off9_inb i k h2)).toLoadRect X10)⟩
/-- The store of the codes of one group in column block 2. -/
def pc2 (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) : View.Piece (Elt Ideal) S1024x3584 .fp8e4m3 :=
  ⟨Rect.unit (s := S1024x3584) (k0_off12 k) S32x256.size (k0_off12_inb i k h2), k0_pay6 (k0_pay3 (View.readAt (Elt Ideal) arg11.view (Rect.unit (s := S1024x128) (k0_off5 k) S32x128.size (k0_off5_inb i k h2)).toLoadRect X11)) (View.readAt (Elt Ideal) arg10.view (Rect.unit (s := S14x1024x256) (k0_off11 k) S1x32x256.size (k0_off11_inb i k h2)).toLoadRect X10)⟩
/-- The store of the codes of one group in column block 3. -/
def pc3 (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) : View.Piece (Elt Ideal) S1024x3584 .fp8e4m3 :=
  ⟨Rect.unit (s := S1024x3584) (k0_off14 k) S32x256.size (k0_off14_inb i k h2), k0_pay6 (k0_pay3 (View.readAt (Elt Ideal) arg11.view (Rect.unit (s := S1024x128) (k0_off5 k) S32x128.size (k0_off5_inb i k h2)).toLoadRect X11)) (View.readAt (Elt Ideal) arg10.view (Rect.unit (s := S14x1024x256) (k0_off13 k) S1x32x256.size (k0_off13_inb i k h2)).toLoadRect X10)⟩
/-- The store of the codes of one group in column block 4. -/
def pc4 (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) : View.Piece (Elt Ideal) S1024x3584 .fp8e4m3 :=
  ⟨Rect.unit (s := S1024x3584) (k0_off16 k) S32x256.size (k0_off16_inb i k h2), k0_pay6 (k0_pay3 (View.readAt (Elt Ideal) arg11.view (Rect.unit (s := S1024x128) (k0_off5 k) S32x128.size (k0_off5_inb i k h2)).toLoadRect X11)) (View.readAt (Elt Ideal) arg10.view (Rect.unit (s := S14x1024x256) (k0_off15 k) S1x32x256.size (k0_off15_inb i k h2)).toLoadRect X10)⟩
/-- The store of the codes of one group in column block 5. -/
def pc5 (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) : View.Piece (Elt Ideal) S1024x3584 .fp8e4m3 :=
  ⟨Rect.unit (s := S1024x3584) (k0_off18 k) S32x256.size (k0_off18_inb i k h2), k0_pay6 (k0_pay3 (View.readAt (Elt Ideal) arg11.view (Rect.unit (s := S1024x128) (k0_off5 k) S32x128.size (k0_off5_inb i k h2)).toLoadRect X11)) (View.readAt (Elt Ideal) arg10.view (Rect.unit (s := S14x1024x256) (k0_off17 k) S1x32x256.size (k0_off17_inb i k h2)).toLoadRect X10)⟩
/-- The store of the codes of one group in column block 6. -/
def pc6 (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) : View.Piece (Elt Ideal) S1024x3584 .fp8e4m3 :=
  ⟨Rect.unit (s := S1024x3584) (k0_off20 k) S32x256.size (k0_off20_inb i k h2), k0_pay6 (k0_pay3 (View.readAt (Elt Ideal) arg11.view (Rect.unit (s := S1024x128) (k0_off5 k) S32x128.size (k0_off5_inb i k h2)).toLoadRect X11)) (View.readAt (Elt Ideal) arg10.view (Rect.unit (s := S14x1024x256) (k0_off19 k) S1x32x256.size (k0_off19_inb i k h2)).toLoadRect X10)⟩
/-- The store of the codes of one group in column block 7. -/
def pc7 (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) : View.Piece (Elt Ideal) S1024x3584 .fp8e4m3 :=
  ⟨Rect.unit (s := S1024x3584) (k0_off22 k) S32x256.size (k0_off22_inb i k h2), k0_pay6 (k0_pay3 (View.readAt (Elt Ideal) arg11.view (Rect.unit (s := S1024x128) (k0_off5 k) S32x128.size (k0_off5_inb i k h2)).toLoadRect X11)) (View.readAt (Elt Ideal) arg10.view (Rect.unit (s := S14x1024x256) (k0_off21 k) S1x32x256.size (k0_off21_inb i k h2)).toLoadRect X10)⟩
/-- The store of the codes of one group in column block 8. -/
def pc8 (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) : View.Piece (Elt Ideal) S1024x3584 .fp8e4m3 :=
  ⟨Rect.unit (s := S1024x3584) (k0_off24 k) S32x256.size (k0_off24_inb i k h2), k0_pay6 (k0_pay3 (View.readAt (Elt Ideal) arg11.view (Rect.unit (s := S1024x128) (k0_off5 k) S32x128.size (k0_off5_inb i k h2)).toLoadRect X11)) (View.readAt (Elt Ideal) arg10.view (Rect.unit (s := S14x1024x256) (k0_off23 k) S1x32x256.size (k0_off23_inb i k h2)).toLoadRect X10)⟩
/-- The store of the codes of one group in column block 9. -/
def pc9 (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) : View.Piece (Elt Ideal) S1024x3584 .fp8e4m3 :=
  ⟨Rect.unit (s := S1024x3584) (k0_off26 k) S32x256.size (k0_off26_inb i k h2), k0_pay6 (k0_pay3 (View.readAt (Elt Ideal) arg11.view (Rect.unit (s := S1024x128) (k0_off5 k) S32x128.size (k0_off5_inb i k h2)).toLoadRect X11)) (View.readAt (Elt Ideal) arg10.view (Rect.unit (s := S14x1024x256) (k0_off25 k) S1x32x256.size (k0_off25_inb i k h2)).toLoadRect X10)⟩
/-- The store of the codes of one group in column block 10. -/
def pc10 (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) : View.Piece (Elt Ideal) S1024x3584 .fp8e4m3 :=
  ⟨Rect.unit (s := S1024x3584) (k0_off28 k) S32x256.size (k0_off28_inb i k h2), k0_pay6 (k0_pay3 (View.readAt (Elt Ideal) arg11.view (Rect.unit (s := S1024x128) (k0_off5 k) S32x128.size (k0_off5_inb i k h2)).toLoadRect X11)) (View.readAt (Elt Ideal) arg10.view (Rect.unit (s := S14x1024x256) (k0_off27 k) S1x32x256.size (k0_off27_inb i k h2)).toLoadRect X10)⟩
/-- The store of the codes of one group in column block 11. -/
def pc11 (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) : View.Piece (Elt Ideal) S1024x3584 .fp8e4m3 :=
  ⟨Rect.unit (s := S1024x3584) (k0_off30 k) S32x256.size (k0_off30_inb i k h2), k0_pay6 (k0_pay3 (View.readAt (Elt Ideal) arg11.view (Rect.unit (s := S1024x128) (k0_off5 k) S32x128.size (k0_off5_inb i k h2)).toLoadRect X11)) (View.readAt (Elt Ideal) arg10.view (Rect.unit (s := S14x1024x256) (k0_off29 k) S1x32x256.size (k0_off29_inb i k h2)).toLoadRect X10)⟩
/-- The store of the codes of one group in column block 12. -/
def pc12 (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) : View.Piece (Elt Ideal) S1024x3584 .fp8e4m3 :=
  ⟨Rect.unit (s := S1024x3584) (k0_off32 k) S32x256.size (k0_off32_inb i k h2), k0_pay6 (k0_pay3 (View.readAt (Elt Ideal) arg11.view (Rect.unit (s := S1024x128) (k0_off5 k) S32x128.size (k0_off5_inb i k h2)).toLoadRect X11)) (View.readAt (Elt Ideal) arg10.view (Rect.unit (s := S14x1024x256) (k0_off31 k) S1x32x256.size (k0_off31_inb i k h2)).toLoadRect X10)⟩
/-- The store of the codes of one group in column block 13. -/
def pc13 (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) : View.Piece (Elt Ideal) S1024x3584 .fp8e4m3 :=
  ⟨Rect.unit (s := S1024x3584) (k0_off34 k) S32x256.size (k0_off34_inb i k h2), k0_pay6 (k0_pay3 (View.readAt (Elt Ideal) arg11.view (Rect.unit (s := S1024x128) (k0_off5 k) S32x128.size (k0_off5_inb i k h2)).toLoadRect X11)) (View.readAt (Elt Ideal) arg10.view (Rect.unit (s := S14x1024x256) (k0_off33 k) S1x32x256.size (k0_off33_inb i k h2)).toLoadRect X10)⟩

/-- What one trip of the loop stores. -/
theorem trip_pieces (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) :
    (tripL_k0_t1 (F := Ideal) Variants.none c none i arg2 harg2 arg3 harg3 arg4 harg4 arg5 harg5 arg6 harg6 arg7 harg7 arg8 harg8 arg9 harg9 arg10 harg10 arg11 harg11 h2 X10 X11 k).1 = [pc13 c i arg2 harg2 arg3 harg3 arg4 harg4 arg5 harg5 arg6 harg6 arg7 harg7 arg8 harg8 arg9 harg9 arg10 harg10 arg11 harg11 h2 X10 X11 k, pc12 c i arg2 harg2 arg3 harg3 arg4 harg4 arg5 harg5 arg6 harg6 arg7 harg7 arg8 harg8 arg9 harg9 arg10 harg10 arg11 harg11 h2 X10 X11 k, pc11 c i arg2 harg2 arg3 harg3 arg4 harg4 arg5 harg5 arg6 harg6 arg7 harg7 arg8 harg8 arg9 harg9 arg10 harg10 arg11 harg11 h2 X10 X11 k, pc10 c i arg2 harg2 arg3 harg3 arg4 harg4 arg5 harg5 arg6 harg6 arg7 harg7 arg8 harg8 arg9 harg9 arg10 harg10 arg11 harg11 h2 X10 X11 k, pc9 c i arg2 harg2 arg3 harg3 arg4 harg4 arg5 harg5 arg6 harg6 arg7 harg7 arg8 harg8 arg9 harg9 arg10 harg10 arg11 harg11 h2 X10 X11 k, pc8 c i arg2 harg2 arg3 harg3 arg4 harg4 arg5 harg5 arg6 harg6 arg7 harg7 arg8 harg8 arg9 harg9 arg10 harg10 arg11 harg11 h2 X10 X11 k, pc7 c i arg2 harg2 arg3 harg3 arg4 harg4 arg5 harg5 arg6 harg6 arg7 harg7 arg8 harg8 arg9 harg9 arg10 harg10 arg11 harg11 h2 X10 X11 k, pc6 c i arg2 harg2 arg3 harg3 arg4 harg4 arg5 harg5 arg6 harg6 arg7 harg7 arg8 harg8 arg9 harg9 arg10 harg10 arg11 harg11 h2 X10 X11 k, pc5 c i arg2 harg2 arg3 harg3 arg4 harg4 arg5 harg5 arg6 harg6 arg7 harg7 arg8 harg8 arg9 harg9 arg10 harg10 arg11 harg11 h2 X10 X11 k, pc4 c i arg2 harg2 arg3 harg3 arg4 harg4 arg5 harg5 arg6 harg6 arg7 harg7 arg8 harg8 arg9 harg9 arg10 harg10 arg11 harg11 h2 X10 X11 k, pc3 c i arg2 harg2 arg3 harg3 arg4 harg4 arg5 harg5 arg6 harg6 arg7 harg7 arg8 harg8 arg9 harg9 arg10 harg10 arg11 harg11 h2 X10 X11 k, pc2 c i arg2 harg2 arg3 harg3 arg4 harg4 arg5 harg5 arg6 harg6 arg7 harg7 arg8 harg8 arg9 harg9 arg10 harg10 arg11 harg11 h2 X10 X11 k, pc1 c i arg2 harg2 arg3 harg3 arg4 harg4 arg5 harg5 arg6 harg6 arg7 harg7 arg8 harg8 arg9 harg9 arg10 harg10 arg11 harg11 h2 X10 X11 k, pc0 c i arg2 harg2 arg3 harg3 arg4 harg4 arg5 harg5 arg6 harg6 arg7 harg7 arg8 harg8 arg9 harg9 arg10 harg10 arg11 harg11 h2 X10 X11 k]
      ∧ (tripL_k0_t1 (F := Ideal) Variants.none c none i arg2 harg2 arg3 harg3 arg4 harg4 arg5 harg5 arg6 harg6 arg7 harg7 arg8 harg8 arg9 harg9 arg10 harg10 arg11 harg11 h2 X10 X11 k).2 = [ps c i arg2 harg2 arg3 harg3 arg4 harg4 arg5 harg5 arg6 harg6 arg7 harg7 arg8 harg8 arg9 harg9 arg10 harg10 arg11 harg11 h2 X10 X11 k] := by
  unfold tripL_k0_t1 trip_k0_t1
  exact ⟨rfl, rfl⟩

/-- A stored scale is the row's. -/
theorem sc_at (X11 : Vec Ideal S1024x128 .f32) (k : ℕ)
    (o5 : Fin 2 → ℕ) (i5 : ∀ a, o5 a + S32x128.size a ≤ S1024x128.size a) (h5 : o5 = ![32 * k, 0])
    (o6 : Fin 2 → ℕ) (i6 : ∀ a, o6 a + S32x1.size a ≤ S1024x1.size a) (h6 : o6 = ![32 * k, 0]) (x : S32x1.Idx) :
    k0_pay3 (View.ld X11 (Rect.unit (s := S1024x128) o5 S32x128.size i5)) x = scB X11 ((Rect.unit (s := S1024x1) o6 S32x1.size i6).emb x 0) := by
  have e0 : ((Rect.unit (s := S1024x1) o6 S32x1.size i6).emb x 0).val = 32 * k + (x 0).val :=
    (emb_val S1024x1 o6 S32x1.size i6 x 0).trans (congrArg (fun n : ℕ => n + (x 0).val) (congrFun h6 0))
  generalize (Rect.unit (s := S1024x1) o6 S32x1.size i6).emb x 0 = r at e0 ⊢
  refine (pay3_at _ x).trans ?_
  have e : ∀ l : Fin 128, View.ld X11 (Rect.unit (s := S1024x128) o5 S32x128.size i5) (ix2 (x 0) l) = X11 (ix2 r l) := by
    intro l
    refine View.ld_unit_apply_of X11 o5 S32x128.size i5 (ix2 (x 0) l) _ ?_
    intro a
    subst h5
    fin_cases a
    · exact e0
    · exact (Nat.zero_add _).symm
  simp only [e]
  rfl

/-- A scale stored by one trip is the row's. -/
theorem ps_at (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) (x : S32x1.Idx) :
    (ps c i arg2 harg2 arg3 harg3 arg4 harg4 arg5 harg5 arg6 harg6 arg7 harg7 arg8 harg8 arg9 harg9 arg10 harg10 arg11 harg11 h2 X10 X11 k).2 x = scB (arg11.view.read (Elt Ideal) X11) ((ps c i arg2 harg2 arg3 harg3 arg4 harg4 arg5 harg5 arg6 harg6 arg7 harg7 arg8 harg8 arg9 harg9 arg10 harg10 arg11 harg11 h2 X10 X11 k).1.emb x 0) :=
  sc_at (arg11.view.read (Elt Ideal) X11) k.val _ (k0_off5_inb i k h2) (off5_eq k) _ (k0_off6_inb i k h2) (off6_eq k) x

/-- A stored code is the one of its row and column. -/
theorem enc_at (X11 : Vec Ideal S1024x128 .f32) (X10 : Vec Ideal S14x1024x256 .f32) (k j : ℕ) (hk : k < 32) (hj : j < 14)
    (o5 : Fin 2 → ℕ) (i5 : ∀ a, o5 a + S32x128.size a ≤ S1024x128.size a) (h5 : o5 = ![32 * k, 0])
    (o7 : Fin 3 → ℕ) (i7 : ∀ a, o7 a + S1x32x256.size a ≤ S14x1024x256.size a) (h7 : o7 = ![j, 32 * k, 0])
    (o8 : Fin 2 → ℕ) (i8 : ∀ a, o8 a + S32x256.size a ≤ S1024x3584.size a) (h8 : o8 = ![32 * k, 256 * j]) (x : S32x256.Idx) :
    k0_pay6 (k0_pay3 (View.ld X11 (Rect.unit (s := S1024x128) o5 S32x128.size i5))) (View.ld X10 (Rect.unit (s := S14x1024x256) o7 S1x32x256.size i7)) x
      = cdB X10 X11 ((Rect.unit (s := S1024x3584) o8 S32x256.size i8).emb x 0) ((Rect.unit (s := S1024x3584) o8 S32x256.size i8).emb x 1) := by
  have e0 : ((Rect.unit (s := S1024x3584) o8 S32x256.size i8).emb x 0).val = 32 * k + (x 0).val :=
    (emb_val S1024x3584 o8 S32x256.size i8 x 0).trans (congrArg (fun n : ℕ => n + (x 0).val) (congrFun h8 0))
  have e1 : ((Rect.unit (s := S1024x3584) o8 S32x256.size i8).emb x 1).val = 256 * j + (x 1).val :=
    (emb_val S1024x3584 o8 S32x256.size i8 x 1).trans (congrArg (fun n : ℕ => n + (x 1).val) (congrFun h8 1))
  have b1 : (x 1).val < 256 := (x 1).isLt
  generalize (Rect.unit (s := S1024x3584) o8 S32x256.size i8).emb x 0 = r at e0 ⊢
  generalize (Rect.unit (s := S1024x3584) o8 S32x256.size i8).emb x 1 = q at e1 ⊢
  refine (pay6_at _ _ x).trans ?_
  have e : ∀ l : Fin 128, View.ld X11 (Rect.unit (s := S1024x128) o5 S32x128.size i5) (ix2 (x 0) l) = X11 (ix2 r l) := by
    intro l
    refine View.ld_unit_apply_of X11 o5 S32x128.size i5 (ix2 (x 0) l) _ ?_
    intro a
    subst h5
    fin_cases a
    · exact e0
    · exact (Nat.zero_add _).symm
  have em : View.ld X10 (Rect.unit (s := S14x1024x256) o7 S1x32x256.size i7) (ix3 0 (x 0) (x 1)) = X10 (ix3 ⟨q.val / 256, by have := q.isLt; change q.val < 3584 at this; omega⟩ r ⟨q.val % 256, by omega⟩) := by
    refine View.ld_unit_apply_of X10 o7 S1x32x256.size i7 (ix3 0 (x 0) (x 1)) _ ?_
    intro a
    subst h7
    fin_cases a
    · show q.val / 256 = j + 0; omega
    · exact e0
    · show q.val % 256 = 0 + (x 1).val; omega
  rw [em, pay3_at]
  have e' : ∀ l : Fin 128, View.ld X11 (Rect.unit (s := S1024x128) o5 S32x128.size i5) (ix2 ((ix2 (x 0) (0 : Fin 1) : S32x1.Idx) 0) l) = X11 (ix2 r l) := e
  simp only [e']
  rfl

/-- A code stored in column block 0 is the one of its row and column. -/
theorem pc0_at (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) (x : S32x256.Idx) :
    (pc0 c i arg2 harg2 arg3 harg3 arg4 harg4 arg5 harg5 arg6 harg6 arg7 harg7 arg8 harg8 arg9 harg9 arg10 harg10 arg11 harg11 h2 X10 X11 k).2 x = cdB (arg10.view.read (Elt Ideal) X10) (arg11.view.read (Elt Ideal) X11) ((pc0 c i arg2 harg2 arg3 harg3 arg4 harg4 arg5 harg5 arg6 harg6 arg7 harg7 arg8 harg8 arg9 harg9 arg10 harg10 arg11 harg11 h2 X10 X11 k).1.emb x 0) ((pc0 c i arg2 harg2 arg3 harg3 arg4 harg4 arg5 harg5 arg6 harg6 arg7 harg7 arg8 harg8 arg9 harg9 arg10 harg10 arg11 harg11 h2 X10 X11 k).1.emb x 1) :=
  enc_at (arg11.view.read (Elt Ideal) X11) (arg10.view.read (Elt Ideal) X10) k.val 0 (lt_of_lt_of_eq k.isLt trips_eq) (by decide) _ (k0_off5_inb i k h2) (off5_eq k) _ (k0_off7_inb i k h2) (off7_eq k) _ (k0_off8_inb i k h2) (off8_eq k) x
/-- A code stored in column block 1 is the one of its row and column. -/
theorem pc1_at (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) (x : S32x256.Idx) :
    (pc1 c i arg2 harg2 arg3 harg3 arg4 harg4 arg5 harg5 arg6 harg6 arg7 harg7 arg8 harg8 arg9 harg9 arg10 harg10 arg11 harg11 h2 X10 X11 k).2 x = cdB (arg10.view.read (Elt Ideal) X10) (arg11.view.read (Elt Ideal) X11) ((pc1 c i arg2 harg2 arg3 harg3 arg4 harg4 arg5 harg5 arg6 harg6 arg7 harg7 arg8 harg8 arg9 harg9 arg10 harg10 arg11 harg11 h2 X10 X11 k).1.emb x 0) ((pc1 c i arg2 harg2 arg3 harg3 arg4 harg4 arg5 harg5 arg6 harg6 arg7 harg7 arg8 harg8 arg9 harg9 arg10 harg10 arg11 harg11 h2 X10 X11 k).1.emb x 1) :=
  enc_at (arg11.view.read (Elt Ideal) X11) (arg10.view.read (Elt Ideal) X10) k.val 1 (lt_of_lt_of_eq k.isLt trips_eq) (by decide) _ (k0_off5_inb i k h2) (off5_eq k) _ (k0_off9_inb i k h2) (off9_eq k) _ (k0_off10_inb i k h2) (off10_eq k) x
/-- A code stored in column block 2 is the one of its row and column. -/
theorem pc2_at (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) (x : S32x256.Idx) :
    (pc2 c i arg2 harg2 arg3 harg3 arg4 harg4 arg5 harg5 arg6 harg6 arg7 harg7 arg8 harg8 arg9 harg9 arg10 harg10 arg11 harg11 h2 X10 X11 k).2 x = cdB (arg10.view.read (Elt Ideal) X10) (arg11.view.read (Elt Ideal) X11) ((pc2 c i arg2 harg2 arg3 harg3 arg4 harg4 arg5 harg5 arg6 harg6 arg7 harg7 arg8 harg8 arg9 harg9 arg10 harg10 arg11 harg11 h2 X10 X11 k).1.emb x 0) ((pc2 c i arg2 harg2 arg3 harg3 arg4 harg4 arg5 harg5 arg6 harg6 arg7 harg7 arg8 harg8 arg9 harg9 arg10 harg10 arg11 harg11 h2 X10 X11 k).1.emb x 1) :=
  enc_at (arg11.view.read (Elt Ideal) X11) (arg10.view.read (Elt Ideal) X10) k.val 2 (lt_of_lt_of_eq k.isLt trips_eq) (by decide) _ (k0_off5_inb i k h2) (off5_eq k) _ (k0_off11_inb i k h2) (off11_eq k) _ (k0_off12_inb i k h2) (off12_eq k) x
/-- A code stored in column block 3 is the one of its row and column. -/
theorem pc3_at (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) (x : S32x256.Idx) :
    (pc3 c i arg2 harg2 arg3 harg3 arg4 harg4 arg5 harg5 arg6 harg6 arg7 harg7 arg8 harg8 arg9 harg9 arg10 harg10 arg11 harg11 h2 X10 X11 k).2 x = cdB (arg10.view.read (Elt Ideal) X10) (arg11.view.read (Elt Ideal) X11) ((pc3 c i arg2 harg2 arg3 harg3 arg4 harg4 arg5 harg5 arg6 harg6 arg7 harg7 arg8 harg8 arg9 harg9 arg10 harg10 arg11 harg11 h2 X10 X11 k).1.emb x 0) ((pc3 c i arg2 harg2 arg3 harg3 arg4 harg4 arg5 harg5 arg6 harg6 arg7 harg7 arg8 harg8 arg9 harg9 arg10 harg10 arg11 harg11 h2 X10 X11 k).1.emb x 1) :=
  enc_at (arg11.view.read (Elt Ideal) X11) (arg10.view.read (Elt Ideal) X10) k.val 3 (lt_of_lt_of_eq k.isLt trips_eq) (by decide) _ (k0_off5_inb i k h2) (off5_eq k) _ (k0_off13_inb i k h2) (off13_eq k) _ (k0_off14_inb i k h2) (off14_eq k) x
/-- A code stored in column block 4 is the one of its row and column. -/
theorem pc4_at (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) (x : S32x256.Idx) :
    (pc4 c i arg2 harg2 arg3 harg3 arg4 harg4 arg5 harg5 arg6 harg6 arg7 harg7 arg8 harg8 arg9 harg9 arg10 harg10 arg11 harg11 h2 X10 X11 k).2 x = cdB (arg10.view.read (Elt Ideal) X10) (arg11.view.read (Elt Ideal) X11) ((pc4 c i arg2 harg2 arg3 harg3 arg4 harg4 arg5 harg5 arg6 harg6 arg7 harg7 arg8 harg8 arg9 harg9 arg10 harg10 arg11 harg11 h2 X10 X11 k).1.emb x 0) ((pc4 c i arg2 harg2 arg3 harg3 arg4 harg4 arg5 harg5 arg6 harg6 arg7 harg7 arg8 harg8 arg9 harg9 arg10 harg10 arg11 harg11 h2 X10 X11 k).1.emb x 1) :=
  enc_at (arg11.view.read (Elt Ideal) X11) (arg10.view.read (Elt Ideal) X10) k.val 4 (lt_of_lt_of_eq k.isLt trips_eq) (by decide) _ (k0_off5_inb i k h2) (off5_eq k) _ (k0_off15_inb i k h2) (off15_eq k) _ (k0_off16_inb i k h2) (off16_eq k) x
/-- A code stored in column block 5 is the one of its row and column. -/
theorem pc5_at (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) (x : S32x256.Idx) :
    (pc5 c i arg2 harg2 arg3 harg3 arg4 harg4 arg5 harg5 arg6 harg6 arg7 harg7 arg8 harg8 arg9 harg9 arg10 harg10 arg11 harg11 h2 X10 X11 k).2 x = cdB (arg10.view.read (Elt Ideal) X10) (arg11.view.read (Elt Ideal) X11) ((pc5 c i arg2 harg2 arg3 harg3 arg4 harg4 arg5 harg5 arg6 harg6 arg7 harg7 arg8 harg8 arg9 harg9 arg10 harg10 arg11 harg11 h2 X10 X11 k).1.emb x 0) ((pc5 c i arg2 harg2 arg3 harg3 arg4 harg4 arg5 harg5 arg6 harg6 arg7 harg7 arg8 harg8 arg9 harg9 arg10 harg10 arg11 harg11 h2 X10 X11 k).1.emb x 1) :=
  enc_at (arg11.view.read (Elt Ideal) X11) (arg10.view.read (Elt Ideal) X10) k.val 5 (lt_of_lt_of_eq k.isLt trips_eq) (by decide) _ (k0_off5_inb i k h2) (off5_eq k) _ (k0_off17_inb i k h2) (off17_eq k) _ (k0_off18_inb i k h2) (off18_eq k) x
/-- A code stored in column block 6 is the one of its row and column. -/
theorem pc6_at (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) (x : S32x256.Idx) :
    (pc6 c i arg2 harg2 arg3 harg3 arg4 harg4 arg5 harg5 arg6 harg6 arg7 harg7 arg8 harg8 arg9 harg9 arg10 harg10 arg11 harg11 h2 X10 X11 k).2 x = cdB (arg10.view.read (Elt Ideal) X10) (arg11.view.read (Elt Ideal) X11) ((pc6 c i arg2 harg2 arg3 harg3 arg4 harg4 arg5 harg5 arg6 harg6 arg7 harg7 arg8 harg8 arg9 harg9 arg10 harg10 arg11 harg11 h2 X10 X11 k).1.emb x 0) ((pc6 c i arg2 harg2 arg3 harg3 arg4 harg4 arg5 harg5 arg6 harg6 arg7 harg7 arg8 harg8 arg9 harg9 arg10 harg10 arg11 harg11 h2 X10 X11 k).1.emb x 1) :=
  enc_at (arg11.view.read (Elt Ideal) X11) (arg10.view.read (Elt Ideal) X10) k.val 6 (lt_of_lt_of_eq k.isLt trips_eq) (by decide) _ (k0_off5_inb i k h2) (off5_eq k) _ (k0_off19_inb i k h2) (off19_eq k) _ (k0_off20_inb i k h2) (off20_eq k) x
/-- A code stored in column block 7 is the one of its row and column. -/
theorem pc7_at (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) (x : S32x256.Idx) :
    (pc7 c i arg2 harg2 arg3 harg3 arg4 harg4 arg5 harg5 arg6 harg6 arg7 harg7 arg8 harg8 arg9 harg9 arg10 harg10 arg11 harg11 h2 X10 X11 k).2 x = cdB (arg10.view.read (Elt Ideal) X10) (arg11.view.read (Elt Ideal) X11) ((pc7 c i arg2 harg2 arg3 harg3 arg4 harg4 arg5 harg5 arg6 harg6 arg7 harg7 arg8 harg8 arg9 harg9 arg10 harg10 arg11 harg11 h2 X10 X11 k).1.emb x 0) ((pc7 c i arg2 harg2 arg3 harg3 arg4 harg4 arg5 harg5 arg6 harg6 arg7 harg7 arg8 harg8 arg9 harg9 arg10 harg10 arg11 harg11 h2 X10 X11 k).1.emb x 1) :=
  enc_at (arg11.view.read (Elt Ideal) X11) (arg10.view.read (Elt Ideal) X10) k.val 7 (lt_of_lt_of_eq k.isLt trips_eq) (by decide) _ (k0_off5_inb i k h2) (off5_eq k) _ (k0_off21_inb i k h2) (off21_eq k) _ (k0_off22_inb i k h2) (off22_eq k) x
/-- A code stored in column block 8 is the one of its row and column. -/
theorem pc8_at (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) (x : S32x256.Idx) :
    (pc8 c i arg2 harg2 arg3 harg3 arg4 harg4 arg5 harg5 arg6 harg6 arg7 harg7 arg8 harg8 arg9 harg9 arg10 harg10 arg11 harg11 h2 X10 X11 k).2 x = cdB (arg10.view.read (Elt Ideal) X10) (arg11.view.read (Elt Ideal) X11) ((pc8 c i arg2 harg2 arg3 harg3 arg4 harg4 arg5 harg5 arg6 harg6 arg7 harg7 arg8 harg8 arg9 harg9 arg10 harg10 arg11 harg11 h2 X10 X11 k).1.emb x 0) ((pc8 c i arg2 harg2 arg3 harg3 arg4 harg4 arg5 harg5 arg6 harg6 arg7 harg7 arg8 harg8 arg9 harg9 arg10 harg10 arg11 harg11 h2 X10 X11 k).1.emb x 1) :=
  enc_at (arg11.view.read (Elt Ideal) X11) (arg10.view.read (Elt Ideal) X10) k.val 8 (lt_of_lt_of_eq k.isLt trips_eq) (by decide) _ (k0_off5_inb i k h2) (off5_eq k) _ (k0_off23_inb i k h2) (off23_eq k) _ (k0_off24_inb i k h2) (off24_eq k) x
/-- A code stored in column block 9 is the one of its row and column. -/
theorem pc9_at (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) (x : S32x256.Idx) :
    (pc9 c i arg2 harg2 arg3 harg3 arg4 harg4 arg5 harg5 arg6 harg6 arg7 harg7 arg8 harg8 arg9 harg9 arg10 harg10 arg11 harg11 h2 X10 X11 k).2 x = cdB (arg10.view.read (Elt Ideal) X10) (arg11.view.read (Elt Ideal) X11) ((pc9 c i arg2 harg2 arg3 harg3 arg4 harg4 arg5 harg5 arg6 harg6 arg7 harg7 arg8 harg8 arg9 harg9 arg10 harg10 arg11 harg11 h2 X10 X11 k).1.emb x 0) ((pc9 c i arg2 harg2 arg3 harg3 arg4 harg4 arg5 harg5 arg6 harg6 arg7 harg7 arg8 harg8 arg9 harg9 arg10 harg10 arg11 harg11 h2 X10 X11 k).1.emb x 1) :=
  enc_at (arg11.view.read (Elt Ideal) X11) (arg10.view.read (Elt Ideal) X10) k.val 9 (lt_of_lt_of_eq k.isLt trips_eq) (by decide) _ (k0_off5_inb i k h2) (off5_eq k) _ (k0_off25_inb i k h2) (off25_eq k) _ (k0_off26_inb i k h2) (off26_eq k) x
/-- A code stored in column block 10 is the one of its row and column. -/
theorem pc10_at (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) (x : S32x256.Idx) :
    (pc10 c i arg2 harg2 arg3 harg3 arg4 harg4 arg5 harg5 arg6 harg6 arg7 harg7 arg8 harg8 arg9 harg9 arg10 harg10 arg11 harg11 h2 X10 X11 k).2 x = cdB (arg10.view.read (Elt Ideal) X10) (arg11.view.read (Elt Ideal) X11) ((pc10 c i arg2 harg2 arg3 harg3 arg4 harg4 arg5 harg5 arg6 harg6 arg7 harg7 arg8 harg8 arg9 harg9 arg10 harg10 arg11 harg11 h2 X10 X11 k).1.emb x 0) ((pc10 c i arg2 harg2 arg3 harg3 arg4 harg4 arg5 harg5 arg6 harg6 arg7 harg7 arg8 harg8 arg9 harg9 arg10 harg10 arg11 harg11 h2 X10 X11 k).1.emb x 1) :=
  enc_at (arg11.view.read (Elt Ideal) X11) (arg10.view.read (Elt Ideal) X10) k.val 10 (lt_of_lt_of_eq k.isLt trips_eq) (by decide) _ (k0_off5_inb i k h2) (off5_eq k) _ (k0_off27_inb i k h2) (off27_eq k) _ (k0_off28_inb i k h2) (off28_eq k) x
/-- A code stored in column block 11 is the one of its row and column. -/
theorem pc11_at (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) (x : S32x256.Idx) :
    (pc11 c i arg2 harg2 arg3 harg3 arg4 harg4 arg5 harg5 arg6 harg6 arg7 harg7 arg8 harg8 arg9 harg9 arg10 harg10 arg11 harg11 h2 X10 X11 k).2 x = cdB (arg10.view.read (Elt Ideal) X10) (arg11.view.read (Elt Ideal) X11) ((pc11 c i arg2 harg2 arg3 harg3 arg4 harg4 arg5 harg5 arg6 harg6 arg7 harg7 arg8 harg8 arg9 harg9 arg10 harg10 arg11 harg11 h2 X10 X11 k).1.emb x 0) ((pc11 c i arg2 harg2 arg3 harg3 arg4 harg4 arg5 harg5 arg6 harg6 arg7 harg7 arg8 harg8 arg9 harg9 arg10 harg10 arg11 harg11 h2 X10 X11 k).1.emb x 1) :=
  enc_at (arg11.view.read (Elt Ideal) X11) (arg10.view.read (Elt Ideal) X10) k.val 11 (lt_of_lt_of_eq k.isLt trips_eq) (by decide) _ (k0_off5_inb i k h2) (off5_eq k) _ (k0_off29_inb i k h2) (off29_eq k) _ (k0_off30_inb i k h2) (off30_eq k) x
/-- A code stored in column block 12 is the one of its row and column. -/
theorem pc12_at (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) (x : S32x256.Idx) :
    (pc12 c i arg2 harg2 arg3 harg3 arg4 harg4 arg5 harg5 arg6 harg6 arg7 harg7 arg8 harg8 arg9 harg9 arg10 harg10 arg11 harg11 h2 X10 X11 k).2 x = cdB (arg10.view.read (Elt Ideal) X10) (arg11.view.read (Elt Ideal) X11) ((pc12 c i arg2 harg2 arg3 harg3 arg4 harg4 arg5 harg5 arg6 harg6 arg7 harg7 arg8 harg8 arg9 harg9 arg10 harg10 arg11 harg11 h2 X10 X11 k).1.emb x 0) ((pc12 c i arg2 harg2 arg3 harg3 arg4 harg4 arg5 harg5 arg6 harg6 arg7 harg7 arg8 harg8 arg9 harg9 arg10 harg10 arg11 harg11 h2 X10 X11 k).1.emb x 1) :=
  enc_at (arg11.view.read (Elt Ideal) X11) (arg10.view.read (Elt Ideal) X10) k.val 12 (lt_of_lt_of_eq k.isLt trips_eq) (by decide) _ (k0_off5_inb i k h2) (off5_eq k) _ (k0_off31_inb i k h2) (off31_eq k) _ (k0_off32_inb i k h2) (off32_eq k) x
/-- A code stored in column block 13 is the one of its row and column. -/
theorem pc13_at (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (k : Fin k0_t1_loop.trips) (x : S32x256.Idx) :
    (pc13 c i arg2 harg2 arg3 harg3 arg4 harg4 arg5 harg5 arg6 harg6 arg7 harg7 arg8 harg8 arg9 harg9 arg10 harg10 arg11 harg11 h2 X10 X11 k).2 x = cdB (arg10.view.read (Elt Ideal) X10) (arg11.view.read (Elt Ideal) X11) ((pc13 c i arg2 harg2 arg3 harg3 arg4 harg4 arg5 harg5 arg6 harg6 arg7 harg7 arg8 harg8 arg9 harg9 arg10 harg10 arg11 harg11 h2 X10 X11 k).1.emb x 0) ((pc13 c i arg2 harg2 arg3 harg3 arg4 harg4 arg5 harg5 arg6 harg6 arg7 harg7 arg8 harg8 arg9 harg9 arg10 harg10 arg11 harg11 h2 X10 X11 k).1.emb x 1) :=
  enc_at (arg11.view.read (Elt Ideal) X11) (arg10.view.read (Elt Ideal) X10) k.val 13 (lt_of_lt_of_eq k.isLt trips_eq) (by decide) _ (k0_off5_inb i k h2) (off5_eq k) _ (k0_off33_inb i k h2) (off33_eq k) _ (k0_off34_inb i k h2) (off34_eq k) x

/-- Every code stored by the trips before `n` is the one of its row and column. -/
theorem pb_codes (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (n : ℕ) (hn : n ≤ 32) : ∀ p ∈ (pb_k0_t1 (F := Ideal) Variants.none c none i arg2 harg2 arg3 harg3 arg4 harg4 arg5 harg5 arg6 harg6 arg7 harg7 arg8 harg8 arg9 harg9 arg10 harg10 arg11 harg11 h2 X10 X11 n).1, ∀ x : p.1.shape.Idx, p.2 x = cdB (arg10.view.read (Elt Ideal) X10) (arg11.view.read (Elt Ideal) X11) (p.1.emb x 0) (p.1.emb x 1) := by
  induction n with
  | zero => intro p hp; exact absurd hp List.not_mem_nil
  | succ n ih =>
    have hs := pb_k0_t1_succ (F := Ideal) Variants.none c none i arg2 harg2 arg3 harg3 arg4 harg4 arg5 harg5 arg6 harg6 arg7 harg7 arg8 harg8 arg9 harg9 arg10 harg10 arg11 harg11 h2 X10 X11 ⟨n, lt_of_lt_of_eq hn trips_eq.symm⟩
    intro p hp x
    rw [hs] at hp
    rcases List.mem_append.1 hp with hp | hp
    · rw [(trip_pieces c i arg2 harg2 arg3 harg3 arg4 harg4 arg5 harg5 arg6 harg6 arg7 harg7 arg8 harg8 arg9 harg9 arg10 harg10 arg11 harg11 h2 X10 X11 _).1] at hp
      simp only [List.mem_cons, List.not_mem_nil, or_false] at hp
      rcases hp with rfl | rfl | rfl | rfl | rfl | rfl | rfl | rfl | rfl | rfl | rfl | rfl | rfl | rfl
      · exact pc13_at c i arg2 harg2 arg3 harg3 arg4 harg4 arg5 harg5 arg6 harg6 arg7 harg7 arg8 harg8 arg9 harg9 arg10 harg10 arg11 harg11 h2 X10 X11 _ x
      · exact pc12_at c i arg2 harg2 arg3 harg3 arg4 harg4 arg5 harg5 arg6 harg6 arg7 harg7 arg8 harg8 arg9 harg9 arg10 harg10 arg11 harg11 h2 X10 X11 _ x
      · exact pc11_at c i arg2 harg2 arg3 harg3 arg4 harg4 arg5 harg5 arg6 harg6 arg7 harg7 arg8 harg8 arg9 harg9 arg10 harg10 arg11 harg11 h2 X10 X11 _ x
      · exact pc10_at c i arg2 harg2 arg3 harg3 arg4 harg4 arg5 harg5 arg6 harg6 arg7 harg7 arg8 harg8 arg9 harg9 arg10 harg10 arg11 harg11 h2 X10 X11 _ x
      · exact pc9_at c i arg2 harg2 arg3 harg3 arg4 harg4 arg5 harg5 arg6 harg6 arg7 harg7 arg8 harg8 arg9 harg9 arg10 harg10 arg11 harg11 h2 X10 X11 _ x
      · exact pc8_at c i arg2 harg2 arg3 harg3 arg4 harg4 arg5 harg5 arg6 harg6 arg7 harg7 arg8 harg8 arg9 harg9 arg10 harg10 arg11 harg11 h2 X10 X11 _ x
      · exact pc7_at c i arg2 harg2 arg3 harg3 arg4 harg4 arg5 harg5 arg6 harg6 arg7 harg7 arg8 harg8 arg9 harg9 arg10 harg10 arg11 harg11 h2 X10 X11 _ x
      · exact pc6_at c i arg2 harg2 arg3 harg3 arg4 harg4 arg5 harg5 arg6 harg6 arg7 harg7 arg8 harg8 arg9 harg9 arg10 harg10 arg11 harg11 h2 X10 X11 _ x
      · exact pc5_at c i arg2 harg2 arg3 harg3 arg4 harg4 arg5 harg5 arg6 harg6 arg7 harg7 arg8 harg8 arg9 harg9 arg10 harg10 arg11 harg11 h2 X10 X11 _ x
      · exact pc4_at c i arg2 harg2 arg3 harg3 arg4 harg4 arg5 harg5 arg6 harg6 arg7 harg7 arg8 harg8 arg9 harg9 arg10 harg10 arg11 harg11 h2 X10 X11 _ x
      · exact pc3_at c i arg2 harg2 arg3 harg3 arg4 harg4 arg5 harg5 arg6 harg6 arg7 harg7 arg8 harg8 arg9 harg9 arg10 harg10 arg11 harg11 h2 X10 X11 _ x
      · exact pc2_at c i arg2 harg2 arg3 harg3 arg4 harg4 arg5 harg5 arg6 harg6 arg7 harg7 arg8 harg8 arg9 harg9 arg10 harg10 arg11 harg11 h2 X10 X11 _ x
      · exact pc1_at c i arg2 harg2 arg3 harg3 arg4 harg4 arg5 harg5 arg6 harg6 arg7 harg7 arg8 harg8 arg9 harg9 arg10 harg10 arg11 harg11 h2 X10 X11 _ x
      · exact pc0_at c i arg2 harg2 arg3 harg3 arg4 harg4 arg5 harg5 arg6 harg6 arg7 harg7 arg8 harg8 arg9 harg9 arg10 harg10 arg11 harg11 h2 X10 X11 _ x
    · exact ih (Nat.le_of_succ_le hn) p hp x

/-- Every scale stored by the trips before `n` is its row's. -/
theorem pb_scales (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (n : ℕ) (hn : n ≤ 32) : ∀ p ∈ (pb_k0_t1 (F := Ideal) Variants.none c none i arg2 harg2 arg3 harg3 arg4 harg4 arg5 harg5 arg6 harg6 arg7 harg7 arg8 harg8 arg9 harg9 arg10 harg10 arg11 harg11 h2 X10 X11 n).2, ∀ x : p.1.shape.Idx, p.2 x = scB (arg11.view.read (Elt Ideal) X11) (p.1.emb x 0) := by
  induction n with
  | zero => intro p hp; exact absurd hp List.not_mem_nil
  | succ n ih =>
    have hs := pb_k0_t1_succ (F := Ideal) Variants.none c none i arg2 harg2 arg3 harg3 arg4 harg4 arg5 harg5 arg6 harg6 arg7 harg7 arg8 harg8 arg9 harg9 arg10 harg10 arg11 harg11 h2 X10 X11 ⟨n, lt_of_lt_of_eq hn trips_eq.symm⟩
    intro p hp x
    rw [hs] at hp
    rcases List.mem_append.1 hp with hp | hp
    · rw [(trip_pieces c i arg2 harg2 arg3 harg3 arg4 harg4 arg5 harg5 arg6 harg6 arg7 harg7 arg8 harg8 arg9 harg9 arg10 harg10 arg11 harg11 h2 X10 X11 _).2] at hp
      obtain rfl := List.mem_singleton.1 hp
      exact ps_at c i arg2 harg2 arg3 harg3 arg4 harg4 arg5 harg5 arg6 harg6 arg7 harg7 arg8 harg8 arg9 harg9 arg10 harg10 arg11 harg11 h2 X10 X11 _ x
    · exact ih (Nat.le_of_succ_le hn) p hp x

/-- The trips before `n` store the codes of every row below `32 n`. -/
theorem pb_codes_cover (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (n : ℕ) (hn : n ≤ 32) (y : S1024x3584.Idx) (hy : (y 0).val < 32 * n) : ∃ p ∈ (pb_k0_t1 (F := Ideal) Variants.none c none i arg2 harg2 arg3 harg3 arg4 harg4 arg5 harg5 arg6 harg6 arg7 harg7 arg8 harg8 arg9 harg9 arg10 harg10 arg11 harg11 h2 X10 X11 n).1, y ∈ p.1.set := by
  induction n with
  | zero => omega
  | succ n ih =>
    have hs := pb_k0_t1_succ (F := Ideal) Variants.none c none i arg2 harg2 arg3 harg3 arg4 harg4 arg5 harg5 arg6 harg6 arg7 harg7 arg8 harg8 arg9 harg9 arg10 harg10 arg11 harg11 h2 X10 X11 ⟨n, lt_of_lt_of_eq hn trips_eq.symm⟩
    rw [hs]
    by_cases hlt : (y 0).val < 32 * n
    · obtain ⟨p, hp, hm⟩ := ih (Nat.le_of_succ_le hn) hlt
      exact ⟨p, List.mem_append_right _ hp, hm⟩
    · rw [(trip_pieces c i arg2 harg2 arg3 harg3 arg4 harg4 arg5 harg5 arg6 harg6 arg7 harg7 arg8 harg8 arg9 harg9 arg10 harg10 arg11 harg11 h2 X10 X11 _).1]
      have g1 : (y 1).val < 3584 := (y 1).isLt
      obtain ⟨j, hj, hlo, hhi⟩ : ∃ j, j < 14 ∧ 256 * j ≤ (y 1).val ∧ (y 1).val < 256 * j + 256 := ⟨(y 1).val / 256, by omega, by omega, by omega⟩
      have key : ∀ (o : Fin 2 → ℕ) (inb : ∀ a, o a + S32x256.size a ≤ S1024x3584.size a), o = ![32 * n, 256 * j] → y ∈ (Rect.unit (s := S1024x3584) o S32x256.size inb).set := by
        intro o inb ho
        subst ho
        refine (mem_unit S1024x3584 _ S32x256.size inb y).2 ?_
        intro a
        fin_cases a
        · show 32 * n ≤ (y 0).val ∧ (y 0).val < 32 * n + 32; omega
        · exact ⟨hlo, hhi⟩
      interval_cases j
      · exact ⟨pc0 c i arg2 harg2 arg3 harg3 arg4 harg4 arg5 harg5 arg6 harg6 arg7 harg7 arg8 harg8 arg9 harg9 arg10 harg10 arg11 harg11 h2 X10 X11 ⟨n, lt_of_lt_of_eq hn trips_eq.symm⟩, List.mem_append_left _ (by simp), key _ (k0_off8_inb i _ h2) (off8_eq _)⟩
      · exact ⟨pc1 c i arg2 harg2 arg3 harg3 arg4 harg4 arg5 harg5 arg6 harg6 arg7 harg7 arg8 harg8 arg9 harg9 arg10 harg10 arg11 harg11 h2 X10 X11 ⟨n, lt_of_lt_of_eq hn trips_eq.symm⟩, List.mem_append_left _ (by simp), key _ (k0_off10_inb i _ h2) (off10_eq _)⟩
      · exact ⟨pc2 c i arg2 harg2 arg3 harg3 arg4 harg4 arg5 harg5 arg6 harg6 arg7 harg7 arg8 harg8 arg9 harg9 arg10 harg10 arg11 harg11 h2 X10 X11 ⟨n, lt_of_lt_of_eq hn trips_eq.symm⟩, List.mem_append_left _ (by simp), key _ (k0_off12_inb i _ h2) (off12_eq _)⟩
      · exact ⟨pc3 c i arg2 harg2 arg3 harg3 arg4 harg4 arg5 harg5 arg6 harg6 arg7 harg7 arg8 harg8 arg9 harg9 arg10 harg10 arg11 harg11 h2 X10 X11 ⟨n, lt_of_lt_of_eq hn trips_eq.symm⟩, List.mem_append_left _ (by simp), key _ (k0_off14_inb i _ h2) (off14_eq _)⟩
      · exact ⟨pc4 c i arg2 harg2 arg3 harg3 arg4 harg4 arg5 harg5 arg6 harg6 arg7 harg7 arg8 harg8 arg9 harg9 arg10 harg10 arg11 harg11 h2 X10 X11 ⟨n, lt_of_lt_of_eq hn trips_eq.symm⟩, List.mem_append_left _ (by simp), key _ (k0_off16_inb i _ h2) (off16_eq _)⟩
      · exact ⟨pc5 c i arg2 harg2 arg3 harg3 arg4 harg4 arg5 harg5 arg6 harg6 arg7 harg7 arg8 harg8 arg9 harg9 arg10 harg10 arg11 harg11 h2 X10 X11 ⟨n, lt_of_lt_of_eq hn trips_eq.symm⟩, List.mem_append_left _ (by simp), key _ (k0_off18_inb i _ h2) (off18_eq _)⟩
      · exact ⟨pc6 c i arg2 harg2 arg3 harg3 arg4 harg4 arg5 harg5 arg6 harg6 arg7 harg7 arg8 harg8 arg9 harg9 arg10 harg10 arg11 harg11 h2 X10 X11 ⟨n, lt_of_lt_of_eq hn trips_eq.symm⟩, List.mem_append_left _ (by simp), key _ (k0_off20_inb i _ h2) (off20_eq _)⟩
      · exact ⟨pc7 c i arg2 harg2 arg3 harg3 arg4 harg4 arg5 harg5 arg6 harg6 arg7 harg7 arg8 harg8 arg9 harg9 arg10 harg10 arg11 harg11 h2 X10 X11 ⟨n, lt_of_lt_of_eq hn trips_eq.symm⟩, List.mem_append_left _ (by simp), key _ (k0_off22_inb i _ h2) (off22_eq _)⟩
      · exact ⟨pc8 c i arg2 harg2 arg3 harg3 arg4 harg4 arg5 harg5 arg6 harg6 arg7 harg7 arg8 harg8 arg9 harg9 arg10 harg10 arg11 harg11 h2 X10 X11 ⟨n, lt_of_lt_of_eq hn trips_eq.symm⟩, List.mem_append_left _ (by simp), key _ (k0_off24_inb i _ h2) (off24_eq _)⟩
      · exact ⟨pc9 c i arg2 harg2 arg3 harg3 arg4 harg4 arg5 harg5 arg6 harg6 arg7 harg7 arg8 harg8 arg9 harg9 arg10 harg10 arg11 harg11 h2 X10 X11 ⟨n, lt_of_lt_of_eq hn trips_eq.symm⟩, List.mem_append_left _ (by simp), key _ (k0_off26_inb i _ h2) (off26_eq _)⟩
      · exact ⟨pc10 c i arg2 harg2 arg3 harg3 arg4 harg4 arg5 harg5 arg6 harg6 arg7 harg7 arg8 harg8 arg9 harg9 arg10 harg10 arg11 harg11 h2 X10 X11 ⟨n, lt_of_lt_of_eq hn trips_eq.symm⟩, List.mem_append_left _ (by simp), key _ (k0_off28_inb i _ h2) (off28_eq _)⟩
      · exact ⟨pc11 c i arg2 harg2 arg3 harg3 arg4 harg4 arg5 harg5 arg6 harg6 arg7 harg7 arg8 harg8 arg9 harg9 arg10 harg10 arg11 harg11 h2 X10 X11 ⟨n, lt_of_lt_of_eq hn trips_eq.symm⟩, List.mem_append_left _ (by simp), key _ (k0_off30_inb i _ h2) (off30_eq _)⟩
      · exact ⟨pc12 c i arg2 harg2 arg3 harg3 arg4 harg4 arg5 harg5 arg6 harg6 arg7 harg7 arg8 harg8 arg9 harg9 arg10 harg10 arg11 harg11 h2 X10 X11 ⟨n, lt_of_lt_of_eq hn trips_eq.symm⟩, List.mem_append_left _ (by simp), key _ (k0_off32_inb i _ h2) (off32_eq _)⟩
      · exact ⟨pc13 c i arg2 harg2 arg3 harg3 arg4 harg4 arg5 harg5 arg6 harg6 arg7 harg7 arg8 harg8 arg9 harg9 arg10 harg10 arg11 harg11 h2 X10 X11 ⟨n, lt_of_lt_of_eq hn trips_eq.symm⟩, List.mem_append_left _ (by simp), key _ (k0_off34_inb i _ h2) (off34_eq _)⟩

/-- The trips before `n` store the scale of every row below `32 n`. -/
theorem pb_scales_cover (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (n : ℕ) (hn : n ≤ 32) (y : S1024x1.Idx) (hy : (y 0).val < 32 * n) : ∃ p ∈ (pb_k0_t1 (F := Ideal) Variants.none c none i arg2 harg2 arg3 harg3 arg4 harg4 arg5 harg5 arg6 harg6 arg7 harg7 arg8 harg8 arg9 harg9 arg10 harg10 arg11 harg11 h2 X10 X11 n).2, y ∈ p.1.set := by
  induction n with
  | zero => omega
  | succ n ih =>
    have hs := pb_k0_t1_succ (F := Ideal) Variants.none c none i arg2 harg2 arg3 harg3 arg4 harg4 arg5 harg5 arg6 harg6 arg7 harg7 arg8 harg8 arg9 harg9 arg10 harg10 arg11 harg11 h2 X10 X11 ⟨n, lt_of_lt_of_eq hn trips_eq.symm⟩
    rw [hs]
    by_cases hlt : (y 0).val < 32 * n
    · obtain ⟨p, hp, hm⟩ := ih (Nat.le_of_succ_le hn) hlt
      exact ⟨p, List.mem_append_right _ hp, hm⟩
    · rw [(trip_pieces c i arg2 harg2 arg3 harg3 arg4 harg4 arg5 harg5 arg6 harg6 arg7 harg7 arg8 harg8 arg9 harg9 arg10 harg10 arg11 harg11 h2 X10 X11 _).2]
      have g1 : (y 1).val < 1 := (y 1).isLt
      refine ⟨ps c i arg2 harg2 arg3 harg3 arg4 harg4 arg5 harg5 arg6 harg6 arg7 harg7 arg8 harg8 arg9 harg9 arg10 harg10 arg11 harg11 h2 X10 X11 ⟨n, lt_of_lt_of_eq hn trips_eq.symm⟩, List.mem_append_left _ (by simp), ?_⟩
      refine (mem_unit S1024x1 _ S32x1.size (k0_off6_inb i _ h2) y).2 ?_
      rw [off6_eq]
      intro a
      fin_cases a
      · show 32 * n ≤ (y 0).val ∧ (y 0).val < 32 * n + 32; omega
      · show 0 ≤ (y 1).val ∧ (y 1).val < 0 + 1; omega

/-- The block of codes after the loop. -/
theorem codes_read (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (f : arg8.view.ty.Contents (Elt Ideal)) (y : S1024x3584.Idx) :
    arg8.view.read (Elt Ideal) (arg8.view.writes (Elt Ideal) f (pb_k0_t1 (F := Ideal) Variants.none c none i arg2 harg2 arg3 harg3 arg4 harg4 arg5 harg5 arg6 harg6 arg7 harg7 arg8 harg8 arg9 harg9 arg10 harg10 arg11 harg11 h2 X10 X11 k0_t1_loop.trips).1) y
      = cdB (arg10.view.read (Elt Ideal) X10) (arg11.view.read (Elt Ideal) X11) (y 0) (y 1) := by
  rw [trips_eq]
  exact View.read_writes_apply_of_pieces (Val := Elt Ideal) (e := .fp8e4m3) arg8.view f (fun y : S1024x3584.Idx => (cdB (arg10.view.read (Elt Ideal) X10) (arg11.view.read (Elt Ideal) X11) (y 0) (y 1) : Elt Ideal .fp8e4m3)) _
    (pb_codes c i arg2 harg2 arg3 harg3 arg4 harg4 arg5 harg5 arg6 harg6 arg7 harg7 arg8 harg8 arg9 harg9 arg10 harg10 arg11 harg11 h2 X10 X11 32 le_rfl) y (pb_codes_cover c i arg2 harg2 arg3 harg3 arg4 harg4 arg5 harg5 arg6 harg6 arg7 harg7 arg8 harg8 arg9 harg9 arg10 harg10 arg11 harg11 h2 X10 X11 32 le_rfl y (y 0).isLt)

/-- The scales after the loop. -/
theorem scales_read (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h2 : k0_cond2 i = 1#1) (X10 : arg10.view.ty.Contents (Elt Ideal)) (X11 : arg11.view.ty.Contents (Elt Ideal)) (f : arg9.view.ty.Contents (Elt Ideal)) (y : S1024x1.Idx) :
    arg9.view.read (Elt Ideal) (arg9.view.writes (Elt Ideal) f (pb_k0_t1 (F := Ideal) Variants.none c none i arg2 harg2 arg3 harg3 arg4 harg4 arg5 harg5 arg6 harg6 arg7 harg7 arg8 harg8 arg9 harg9 arg10 harg10 arg11 harg11 h2 X10 X11 k0_t1_loop.trips).2) y
      = scB (arg11.view.read (Elt Ideal) X11) (y 0) := by
  rw [trips_eq]
  exact View.read_writes_apply_of_pieces (Val := Elt Ideal) (e := .f32) arg9.view f (fun y : S1024x1.Idx => (scB (arg11.view.read (Elt Ideal) X11) (y 0) : Elt Ideal .f32)) _
    (pb_scales c i arg2 harg2 arg3 harg3 arg4 harg4 arg5 harg5 arg6 harg6 arg7 harg7 arg8 harg8 arg9 harg9 arg10 harg10 arg11 harg11 h2 X10 X11 32 le_rfl) y (pb_scales_cover c i arg2 harg2 arg3 harg3 arg4 harg4 arg5 harg5 arg6 harg6 arg7 harg7 arg8 harg8 arg9 harg9 arg10 harg10 arg11 harg11 h2 X10 X11 32 le_rfl y (y 0).isLt)
end Cert.Proof.GateUpIdealOut

end
-- ==== Proof.GateUpIdealInv.lean ====
/- What the gate/up kernel's scratch buffers hold as the grid runs: the products and the running maxima of the column blocks done so far, of whole arrays. -/
module

public import proofs.«01_k».proof.Proof.GateUpMath
public import proofs.«01_k».proof.Proof.GateUpIdealPoints
public import proofs.«01_k».proof.Proof.GateUpIdealOut

@[expose] public section

set_option maxRecDepth 16384

noncomputable section

namespace Cert.Proof.GateUpIdealInv

open Cert.Proof.GateUpIdealBlock Cert.Proof.GateUpMath Cert.Proof.GateUpIdealPoints Cert.Proof.GateUpIdealOut
open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

/-- The row of the whole array that row `r` of grid point `n`'s tile is. -/
def row (n : ℕ) (r : Fin 1024) : Fin 4096 := ⟨(1024 * (n / 14) + r.val) % 4096, Nat.mod_lt _ (by decide)⟩

/-- The grid has 56 points. -/
theorem N_eq : cfg0.N = 56 := by decide +kernel

/-- A block's grid point is below 56. -/
theorem t_lt (t : Fin cfg0.N) : t.val < 56 := lt_of_lt_of_eq t.isLt N_eq

/-- The row, as a number. -/
theorem row_val (t : Fin cfg0.N) (r : Fin 1024) : (row t.val r).val = 1024 * (t.val / 14) + r.val := by
  have h := t_lt t
  show (1024 * (t.val / 14) + r.val) % 4096 = _; omega

/-- The second grid coordinate is the column block. -/
theorem coord1 : ∀ t : Fin cfg0.N, (grid0.coords t 1).val = t.val % 14 := by decide +kernel
/-- Where window 0's block lies. -/
theorem idx0 : ∀ t : Fin cfg0.N, win0_0.index t 0 = t.val / 14 ∧ win0_0.index t 1 = 0 := by decide +kernel
/-- Where window 1's block lies. -/
theorem idx1 : ∀ t : Fin cfg0.N, win0_1.index t 0 = t.val / 14 ∧ win0_1.index t 1 = 0 := by decide +kernel
/-- Where window 2's block lies. -/
theorem idx2 : ∀ t : Fin cfg0.N, win0_2.index t 0 = 0 ∧ win0_2.index t 1 = t.val % 14 := by decide +kernel
/-- Where window 3's block lies. -/
theorem idx3 : ∀ t : Fin cfg0.N, win0_3.index t 0 = 0 ∧ win0_3.index t 1 = t.val % 14 := by decide +kernel
/-- Where window 4's block lies. -/
theorem idx4 : ∀ t : Fin cfg0.N, win0_4.index t 0 = 0 ∧ win0_4.index t 1 = t.val % 14 := by decide +kernel
/-- Where window 5's block lies. -/
theorem idx5 : ∀ t : Fin cfg0.N, win0_5.index t 0 = 0 ∧ win0_5.index t 1 = t.val % 14 := by decide +kernel
/-- Where window 6's block lies. -/
theorem idx6 : ∀ t : Fin cfg0.N, win0_6.index t 0 = t.val / 14 ∧ win0_6.index t 1 = 0 := by decide +kernel
/-- Where window 7's block lies. -/
theorem idx7 : ∀ t : Fin cfg0.N, win0_7.index t 0 = t.val / 14 ∧ win0_7.index t 1 = 0 := by decide +kernel
/-- Rows of the activations. -/
theorem iblk0_at (c : Dev nD) (t : Fin cfg0.N) (a : Fin 1024) (b : Fin 8192) : iblk m c 0 t (ix2 a b) = V m c main_arg0 (ix2 (row t.val a) b) := by
  unfold iblk
  rw [View.read_apply]
  show V m c main_arg0 _ = _
  congr 1
  funext k
  apply Fin.ext
  match k with
  | ⟨0, _⟩ =>
    show win0_0.index t 0 * 1024 + 1 * a.val = _
    rw [(idx0 t).1]
    exact (by rw [Nat.one_mul, Nat.mul_comm] : t.val / 14 * 1024 + 1 * a.val = 1024 * (t.val / 14) + a.val).trans (row_val t a).symm
  | ⟨1, _⟩ =>
    show win0_0.index t 1 * 8192 + 1 * b.val = _
    rw [(idx0 t).2]
    exact (by omega : 0 * 8192 + 1 * b.val = b.val)
/-- Rows of the activations' scales. -/
theorem iblk1_at (c : Dev nD) (t : Fin cfg0.N) (a : Fin 1024) (b : Fin 1) : iblk m c 1 t (ix2 a b) = V m c main_arg1 (ix2 (row t.val a) b) := by
  unfold iblk
  rw [View.read_apply]
  show V m c main_arg1 _ = _
  congr 1
  funext k
  apply Fin.ext
  match k with
  | ⟨0, _⟩ =>
    show win0_1.index t 0 * 1024 + 1 * a.val = _
    rw [(idx1 t).1]
    exact (by rw [Nat.one_mul, Nat.mul_comm] : t.val / 14 * 1024 + 1 * a.val = 1024 * (t.val / 14) + a.val).trans (row_val t a).symm
  | ⟨1, _⟩ =>
    show win0_1.index t 1 * 1 + 1 * b.val = _
    rw [(idx1 t).2]
    exact (by omega : 0 * 1 + 1 * b.val = b.val)
/-- Columns of the weights or their scales. -/
theorem iblk2_at (c : Dev nD) (t : Fin cfg0.N) (a : Fin 8192) (b : Fin 256) : iblk m c 2 t (ix2 a b) = V m c main_arg2 (ix2 a ⟨(256 * (t.val % 14) + b.val) % 3584, Nat.mod_lt _ (by decide)⟩) := by
  unfold iblk
  rw [View.read_apply]
  show V m c main_arg2 _ = _
  congr 1
  funext k
  apply Fin.ext
  match k with
  | ⟨0, _⟩ =>
    show win0_2.index t 0 * 8192 + 1 * a.val = _
    rw [(idx2 t).1]
    exact (by omega : 0 * 8192 + 1 * a.val = a.val)
  | ⟨1, _⟩ =>
    show win0_2.index t 1 * 256 + 1 * b.val = _
    rw [(idx2 t).2]
    exact (by have h := t_lt t; omega : t.val % 14 * 256 + 1 * b.val = (256 * (t.val % 14) + b.val) % 3584)
/-- Columns of the weights or their scales. -/
theorem iblk3_at (c : Dev nD) (t : Fin cfg0.N) (a : Fin 8192) (b : Fin 256) : iblk m c 3 t (ix2 a b) = V m c main_arg3 (ix2 a ⟨(256 * (t.val % 14) + b.val) % 3584, Nat.mod_lt _ (by decide)⟩) := by
  unfold iblk
  rw [View.read_apply]
  show V m c main_arg3 _ = _
  congr 1
  funext k
  apply Fin.ext
  match k with
  | ⟨0, _⟩ =>
    show win0_3.index t 0 * 8192 + 1 * a.val = _
    rw [(idx3 t).1]
    exact (by omega : 0 * 8192 + 1 * a.val = a.val)
  | ⟨1, _⟩ =>
    show win0_3.index t 1 * 256 + 1 * b.val = _
    rw [(idx3 t).2]
    exact (by have h := t_lt t; omega : t.val % 14 * 256 + 1 * b.val = (256 * (t.val % 14) + b.val) % 3584)
/-- Columns of the weights or their scales. -/
theorem iblk4_at (c : Dev nD) (t : Fin cfg0.N) (a : Fin 1) (b : Fin 256) : iblk m c 4 t (ix2 a b) = V m c main_arg4 (ix2 a ⟨(256 * (t.val % 14) + b.val) % 3584, Nat.mod_lt _ (by decide)⟩) := by
  unfold iblk
  rw [View.read_apply]
  show V m c main_arg4 _ = _
  congr 1
  funext k
  apply Fin.ext
  match k with
  | ⟨0, _⟩ =>
    show win0_4.index t 0 * 1 + 1 * a.val = _
    rw [(idx4 t).1]
    exact (by omega : 0 * 1 + 1 * a.val = a.val)
  | ⟨1, _⟩ =>
    show win0_4.index t 1 * 256 + 1 * b.val = _
    rw [(idx4 t).2]
    exact (by have h := t_lt t; omega : t.val % 14 * 256 + 1 * b.val = (256 * (t.val % 14) + b.val) % 3584)
/-- Columns of the weights or their scales. -/
theorem iblk5_at (c : Dev nD) (t : Fin cfg0.N) (a : Fin 1) (b : Fin 256) : iblk m c 5 t (ix2 a b) = V m c main_arg5 (ix2 a ⟨(256 * (t.val % 14) + b.val) % 3584, Nat.mod_lt _ (by decide)⟩) := by
  unfold iblk
  rw [View.read_apply]
  show V m c main_arg5 _ = _
  congr 1
  funext k
  apply Fin.ext
  match k with
  | ⟨0, _⟩ =>
    show win0_5.index t 0 * 1 + 1 * a.val = _
    rw [(idx5 t).1]
    exact (by omega : 0 * 1 + 1 * a.val = a.val)
  | ⟨1, _⟩ =>
    show win0_5.index t 1 * 256 + 1 * b.val = _
    rw [(idx5 t).2]
    exact (by have h := t_lt t; omega : t.val % 14 * 256 + 1 * b.val = (256 * (t.val % 14) + b.val) % 3584)

/-- A block's products are the whole arrays' at the block's place. -/
theorem mB_eq (c : Dev nD) (t : Fin cfg0.N) (r : Fin 1024) (l : Fin 256) :
    mB (iblk m c 0 t) (iblk m c 1 t) (iblk m c 2 t) (iblk m c 3 t) (iblk m c 4 t) (iblk m c 5 t) r l = mN (V m c main_arg0) (V m c main_arg1) (V m c main_arg2) (V m c main_arg3) (V m c main_arg4) (V m c main_arg5) (row t.val r) (256 * (t.val % 14) + l.val) := by
  unfold mB mN mV
  simp only [iblk0_at, iblk1_at, iblk2_at, iblk3_at, iblk4_at, iblk5_at]

/-- What the scratch buffers hold before grid point `n`: the products and running maxima of the row tile's column blocks before. -/
def Inv (c : Dev nD) (n : ℕ) (M : Vec Ideal S14x1024x256 .f32) (A : Vec Ideal S1024x128 .f32) : Prop :=
  (∀ (j : Fin 14) (r : Fin 1024) (l : Fin 256), j.val < n % 14 → M (ix3 j r l) = mN (V m c main_arg0) (V m c main_arg1) (V m c main_arg2) (V m c main_arg3) (V m c main_arg4) (V m c main_arg5) (row n r) (256 * j.val + l.val))
    ∧ (n % 14 ≠ 0 → ∀ (r : Fin 1024) (l : Fin 128), A (ix2 r l) = aV (V m c main_arg0) (V m c main_arg1) (V m c main_arg2) (V m c main_arg3) (V m c main_arg4) (V m c main_arg5) (row n r) (n % 14) l)

/-- The tile's row is the same at the next point, but after the last column block. -/
theorem row_succ (n : ℕ) (h : n % 14 ≠ 13) (r : Fin 1024) : row (n + 1) r = row n r := by
  refine Fin.ext ?_
  show (1024 * ((n + 1) / 14) + r.val) % 4096 = (1024 * (n / 14) + r.val) % 4096
  rw [show (n + 1) / 14 = n / 14 by omega]

/-- The products after a grid point. -/
def mNext (t : Fin cfg0.N) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (M : Vec Ideal S14x1024x256 .f32) : Vec Ideal S14x1024x256 .f32 :=
  fun z => if (z 0).val = (grid0.coords t 1).val then mB x0 x1 x2 x3 x4 x5 (z 1) (z 2) else M z

/-- The products after grid point `t` are those of the column blocks up to its own. -/
theorem prod_next (c : Dev nD) (t : Fin cfg0.N) (M : Vec Ideal S14x1024x256 .f32) (A : Vec Ideal S1024x128 .f32) (h : Inv m c t.val M A)
    (j : Fin 14) (r : Fin 1024) (l : Fin 256) (hj : j.val ≤ t.val % 14) :
    mNext t (iblk m c 0 t) (iblk m c 1 t) (iblk m c 2 t) (iblk m c 3 t) (iblk m c 4 t) (iblk m c 5 t) M (ix3 j r l) = mN (V m c main_arg0) (V m c main_arg1) (V m c main_arg2) (V m c main_arg3) (V m c main_arg4) (V m c main_arg5) (row t.val r) (256 * j.val + l.val) := by
  unfold mNext
  rw [coord1]
  by_cases e : j.val = t.val % 14
  · refine (if_pos e).trans ?_
    refine (mB_eq m c t r l).trans ?_
    rw [e]
  · refine (if_neg e).trans ?_
    exact h.1 j r l (by omega)

/-- The running maxima after grid point `t`. -/
theorem max_next (c : Dev nD) (t : Fin cfg0.N) (B : Fin 1024 → Fin 128 → EReal) (h : ∀ r l, B r l = aV (V m c main_arg0) (V m c main_arg1) (V m c main_arg2) (V m c main_arg3) (V m c main_arg4) (V m c main_arg5) (row t.val r) (t.val % 14) l)
    (r : Fin 1024) (l : Fin 128) : aB (iblk m c 0 t) (iblk m c 1 t) (iblk m c 2 t) (iblk m c 3 t) (iblk m c 4 t) (iblk m c 5 t) B r l = aV (V m c main_arg0) (V m c main_arg1) (V m c main_arg2) (V m c main_arg3) (V m c main_arg4) (V m c main_arg5) (row t.val r) (t.val % 14 + 1) l := by
  unfold aB
  rw [mB_eq, mB_eq, h, aV]

/-- The invariant is kept, from any running maxima that were right. -/
theorem inv_next (c : Dev nD) (t : Fin cfg0.N) (M : Vec Ideal S14x1024x256 .f32) (A : Vec Ideal S1024x128 .f32) (h : Inv m c t.val M A)
    (hl : t.val % 14 ≠ 13) (B : Fin 1024 → Fin 128 → EReal) (hB : ∀ r l, B r l = aV (V m c main_arg0) (V m c main_arg1) (V m c main_arg2) (V m c main_arg3) (V m c main_arg4) (V m c main_arg5) (row t.val r) (t.val % 14) l) :
    Inv m c (t.val + 1) (mNext t (iblk m c 0 t) (iblk m c 1 t) (iblk m c 2 t) (iblk m c 3 t) (iblk m c 4 t) (iblk m c 5 t) M) (fun z => aB (iblk m c 0 t) (iblk m c 1 t) (iblk m c 2 t) (iblk m c 3 t) (iblk m c 4 t) (iblk m c 5 t) B (z 0) (z 1)) := by
  have e : (t.val + 1) % 14 = t.val % 14 + 1 := by omega
  refine ⟨fun j r l hj => ?_, fun _ r l => ?_⟩
  · rw [row_succ _ hl]
    exact prod_next m c t M A h j r l (by omega)
  · rw [row_succ _ hl, e]
    exact max_next m c t B hB r l

/-- After the last column block nothing is asked. -/
theorem inv_last (c : Dev nD) (n : ℕ) (hl : n % 14 = 13) (M : Vec Ideal S14x1024x256 .f32) (A : Vec Ideal S1024x128 .f32) : Inv m c (n + 1) M A :=
  ⟨fun j r l hj => absurd hj (by omega), fun h => absurd (by omega) h⟩

/-- At the start nothing is asked. -/
theorem inv_zero (c : Dev nD) (M : Vec Ideal S14x1024x256 .f32) (A : Vec Ideal S1024x128 .f32) : Inv m c 0 M A :=
  ⟨fun j r l hj => absurd hj (by omega), fun h => absurd rfl h⟩

/-- The scales written at the last column block are those of the whole arrays. -/
theorem scB_last (c : Dev nD) (t : Fin cfg0.N) (M : Vec Ideal S14x1024x256 .f32) (A : Vec Ideal S1024x128 .f32) (h : Inv m c t.val M A)
    (hl : t.val % 14 = 13) (r : Fin 1024) :
    scB (fun z => aB (iblk m c 0 t) (iblk m c 1 t) (iblk m c 2 t) (iblk m c 3 t) (iblk m c 4 t) (iblk m c 5 t) (fun r l => A (ix2 r l)) (z 0) (z 1)) r = scV (V m c main_arg0) (V m c main_arg1) (V m c main_arg2) (V m c main_arg3) (V m c main_arg4) (V m c main_arg5) (row t.val r) := by
  have e : ∀ l : Fin 128, aB (iblk m c 0 t) (iblk m c 1 t) (iblk m c 2 t) (iblk m c 3 t) (iblk m c 4 t) (iblk m c 5 t) (fun r l => A (ix2 r l)) r l = aV (V m c main_arg0) (V m c main_arg1) (V m c main_arg2) (V m c main_arg3) (V m c main_arg4) (V m c main_arg5) (row t.val r) 14 l := by
    intro l
    rw [max_next m c t (fun r l => A (ix2 r l)) (h.2 (by omega)) r l, hl]
  unfold scB scV
  rw [← mx_eq]
  change (if 0 < Finset.fold max (Ideal.ofBits FTy.f32 4286578688#32) (fun l : Fin 128 => aB (iblk m c 0 t) (iblk m c 1 t) (iblk m c 2 t) (iblk m c 3 t) (iblk m c 4 t) (iblk m c 5 t) (fun r l => A (ix2 r l)) r l) Finset.univ then
    Ideal.div (Finset.fold max (Ideal.ofBits FTy.f32 4286578688#32) (fun l : Fin 128 => aB (iblk m c 0 t) (iblk m c 1 t) (iblk m c 2 t) (iblk m c 3 t) (iblk m c 4 t) (iblk m c 5 t) (fun r l => A (ix2 r l)) r l) Finset.univ) (Ideal.ofBits FTy.f32 1138753536#32) else 1) = _
  simp only [e]

/-- The codes written at the last column block are those of the whole arrays. -/
theorem cdB_last (c : Dev nD) (t : Fin cfg0.N) (M : Vec Ideal S14x1024x256 .f32) (A : Vec Ideal S1024x128 .f32) (h : Inv m c t.val M A)
    (hl : t.val % 14 = 13) (r : Fin 1024) (q : Fin 3584) :
    cdB (mNext t (iblk m c 0 t) (iblk m c 1 t) (iblk m c 2 t) (iblk m c 3 t) (iblk m c 4 t) (iblk m c 5 t) M) (fun z => aB (iblk m c 0 t) (iblk m c 1 t) (iblk m c 2 t) (iblk m c 3 t) (iblk m c 4 t) (iblk m c 5 t) (fun r l => A (ix2 r l)) (z 0) (z 1)) r q = cdV (V m c main_arg0) (V m c main_arg1) (V m c main_arg2) (V m c main_arg3) (V m c main_arg4) (V m c main_arg5) (row t.val r) q := by
  unfold cdB cdV
  rw [scB_last m c t M A h hl r, prod_next m c t M A h _ r _ (by rw [hl]; show q.val / 256 ≤ 13; omega)]
  have g := q.isLt
  unfold mN
  congr 4
  apply Fin.ext
  show (256 * (q.val / 256) + q.val % 256) % 3584 = q.val
  omega
end Cert.Proof.GateUpIdealInv

end
-- ==== Proof.GateUpIdealAfter.lean ====
/- What one grid point of the gate/up kernel leaves behind: the products of its column block in its slab, every row's running maxima, and at the last column block the scales and the codes. -/
module

public import proofs.«01_k».proof.Proof.GateUpIdealStep
public import proofs.«01_k».proof.Proof.GateUpIdealOut

@[expose] public section

set_option maxRecDepth 16384

noncomputable section

namespace Cert.Proof.GateUpIdealAfter

open Cert.Proof.GateUpIdealRun Cert.Proof.GateUpIdealBlock Cert.Proof.GateUpIdealStep Cert.Proof.GateUpIdealReads Cert.Proof.GateUpIdealOut
open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-- The rows read from running maxima that are whole. -/
theorem back_at (arg11 : Memref sig .tc .vmem S1024x128 .f32) (harg11 : arg11.IsWhole) (A : Vec Ideal S1024x128 .f32) (o : ℕ) (ho : o + 256 ≤ 1024)
    (inb : ∀ a, (![o, 0] : Fin 2 → ℕ) a + S256x128.size a ≤ S1024x128.size a) (x : S256x128.Idx) :
    View.readAt (Elt Ideal) arg11.view (Rect.unit (s := S1024x128) ![o, 0] S256x128.size inb).toLoadRect (harg11.unread A) x
      = A (ix2 ⟨o + (x 0).val, by have := (x 0).isLt; change (x 0).val < 256 at this; omega⟩ (x 1)) := by
  show View.ld (arg11.view.read (Elt Ideal) (harg11.unread A)) (Rect.unit (s := S1024x128) ![o, 0] S256x128.size inb) x = _
  rw [harg11.read_unread]
  refine View.ld_unit_apply_of A ![o, 0] S256x128.size inb x _ ?_
  intro a
  fin_cases a
  · rfl
  · exact (Nat.zero_add _).symm

/-- The products after the point (case A): the point's own slab is its block's, the others are as before. -/
theorem readM_A (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h1 :  (Scalar.cmpi .ne (Scalar.extui (Scalar.cmpi .eq (BitVec.ofNat 32 (i 1).val) 0#32) : BitVec 32) 0#32 = 1#1)) (h2 : ¬ (k0_cond2 i = 1#1)) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (M : Vec Ideal S14x1024x256 .f32) (A : Vec Ideal S1024x128 .f32) (y : S14x1024x256.Idx) :
    arg10.view.read (Elt Ideal) (arg10.view.writes (Elt Ideal) (harg10.unread M) (runBodyA (F := Ideal) c i arg2 harg2 arg3 harg3 arg4 harg4 arg5 harg5 arg6 harg6 arg7 harg7 arg8 harg8 arg9 harg9 arg10 harg10 arg11 harg11 h1 h2 x0 x1 x2 x3 x4 x5 M A).1) y
      = if (y 0).val = (i 1).val then mB x0 x1 x2 x3 x4 x5 (y 1) (y 2) else M y := by
  rw [L10_A]
  split
  case isTrue h => exact L10s_hit arg10 _ i arg2 harg2 arg3 harg3 arg4 harg4 arg5 harg5 arg6 harg6 arg7 harg7 x0 x1 x2 x3 x4 x5 y h
  case isFalse h =>
    rw [L10s_miss arg10 _ i arg2 harg2 arg3 harg3 arg4 harg4 arg5 harg5 arg6 harg6 arg7 harg7 x0 x1 x2 x3 x4 x5 y h, harg10.read_unread]

/-- The running maxima after the point (case A). -/
theorem readA_A (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h1 :  (Scalar.cmpi .ne (Scalar.extui (Scalar.cmpi .eq (BitVec.ofNat 32 (i 1).val) 0#32) : BitVec 32) 0#32 = 1#1)) (h2 : ¬ (k0_cond2 i = 1#1)) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (M : Vec Ideal S14x1024x256 .f32) (A : Vec Ideal S1024x128 .f32) (f : arg11.view.ty.Contents (Elt Ideal)) (y : S1024x128.Idx) :
    arg11.view.read (Elt Ideal) (arg11.view.writes (Elt Ideal) f (runBodyA (F := Ideal) c i arg2 harg2 arg3 harg3 arg4 harg4 arg5 harg5 arg6 harg6 arg7 harg7 arg8 harg8 arg9 harg9 arg10 harg10 arg11 harg11 h1 h2 x0 x1 x2 x3 x4 x5 M A).2.1) y
      = aB x0 x1 x2 x3 x4 x5 (fun _ _ => 0) (y 0) (y 1) := by
  rw [L11_A]
  rw [View.writes_append]
  exact L11s_read arg11 _ arg2 harg2 arg3 harg3 arg4 harg4 arg5 harg5 arg6 harg6 arg7 harg7 x0 x1 x2 x3 x4 x5 (c0 arg11) (c256 arg2 harg2 arg3 harg3 arg4 harg4 arg5 harg5 arg6 harg6 arg7 harg7 arg11 x0 x1 x2 x3 x4 x5) (c512 arg2 harg2 arg3 harg3 arg4 harg4 arg5 harg5 arg6 harg6 arg7 harg7 arg11 x0 x1 x2 x3 x4 x5) (c768 arg2 harg2 arg3 harg3 arg4 harg4 arg5 harg5 arg6 harg6 arg7 harg7 arg11 x0 x1 x2 x3 x4 x5) (fun _ _ => 0)
    (c0_eq arg11) (c256_eq arg2 harg2 arg3 harg3 arg4 harg4 arg5 harg5 arg6 harg6 arg7 harg7 arg11 x0 x1 x2 x3 x4 x5) (c512_eq arg2 harg2 arg3 harg3 arg4 harg4 arg5 harg5 arg6 harg6 arg7 harg7 arg11 x0 x1 x2 x3 x4 x5) (c768_eq arg2 harg2 arg3 harg3 arg4 harg4 arg5 harg5 arg6 harg6 arg7 harg7 arg11 x0 x1 x2 x3 x4 x5) y

/-- The products after the point (case B): the point's own slab is its block's, the others are as before. -/
theorem readM_B (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h1 : ¬ (Scalar.cmpi .ne (Scalar.extui (Scalar.cmpi .eq (BitVec.ofNat 32 (i 1).val) 0#32) : BitVec 32) 0#32 = 1#1)) (h2 : ¬ (k0_cond2 i = 1#1)) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (M : Vec Ideal S14x1024x256 .f32) (A : Vec Ideal S1024x128 .f32) (y : S14x1024x256.Idx) :
    arg10.view.read (Elt Ideal) (arg10.view.writes (Elt Ideal) (harg10.unread M) (runBodyB (F := Ideal) c i arg2 harg2 arg3 harg3 arg4 harg4 arg5 harg5 arg6 harg6 arg7 harg7 arg8 harg8 arg9 harg9 arg10 harg10 arg11 harg11 h1 h2 x0 x1 x2 x3 x4 x5 M A).1) y
      = if (y 0).val = (i 1).val then mB x0 x1 x2 x3 x4 x5 (y 1) (y 2) else M y := by
  rw [L10_B]
  split
  case isTrue h => exact L10s_hit arg10 _ i arg2 harg2 arg3 harg3 arg4 harg4 arg5 harg5 arg6 harg6 arg7 harg7 x0 x1 x2 x3 x4 x5 y h
  case isFalse h =>
    rw [L10s_miss arg10 _ i arg2 harg2 arg3 harg3 arg4 harg4 arg5 harg5 arg6 harg6 arg7 harg7 x0 x1 x2 x3 x4 x5 y h, harg10.read_unread]

/-- The running maxima after the point (case B). -/
theorem readA_B (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h1 : ¬ (Scalar.cmpi .ne (Scalar.extui (Scalar.cmpi .eq (BitVec.ofNat 32 (i 1).val) 0#32) : BitVec 32) 0#32 = 1#1)) (h2 : ¬ (k0_cond2 i = 1#1)) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (M : Vec Ideal S14x1024x256 .f32) (A : Vec Ideal S1024x128 .f32) (f : arg11.view.ty.Contents (Elt Ideal)) (y : S1024x128.Idx) :
    arg11.view.read (Elt Ideal) (arg11.view.writes (Elt Ideal) f (runBodyB (F := Ideal) c i arg2 harg2 arg3 harg3 arg4 harg4 arg5 harg5 arg6 harg6 arg7 harg7 arg8 harg8 arg9 harg9 arg10 harg10 arg11 harg11 h1 h2 x0 x1 x2 x3 x4 x5 M A).2.1) y
      = aB x0 x1 x2 x3 x4 x5 (fun r l => A (ix2 r l)) (y 0) (y 1) := by
  rw [L11_B]
  exact L11s_read arg11 _ arg2 harg2 arg3 harg3 arg4 harg4 arg5 harg5 arg6 harg6 arg7 harg7 x0 x1 x2 x3 x4 x5 _ _ _ _ (fun r l => A (ix2 r l))
    (back_at arg11 harg11 A 0 (by decide) _) (back_at arg11 harg11 A 256 (by decide) _) (back_at arg11 harg11 A 512 (by decide) _) (back_at arg11 harg11 A 768 (by decide) _) y

/-- The products after the point (case C): the point's own slab is its block's, the others are as before. -/
theorem readM_C (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h1 : ¬ (Scalar.cmpi .ne (Scalar.extui (Scalar.cmpi .eq (BitVec.ofNat 32 (i 1).val) 0#32) : BitVec 32) 0#32 = 1#1)) (h2 :  (k0_cond2 i = 1#1)) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (M : Vec Ideal S14x1024x256 .f32) (A : Vec Ideal S1024x128 .f32) (y : S14x1024x256.Idx) :
    arg10.view.read (Elt Ideal) (arg10.view.writes (Elt Ideal) (harg10.unread M) (runBodyC (F := Ideal) c i arg2 harg2 arg3 harg3 arg4 harg4 arg5 harg5 arg6 harg6 arg7 harg7 arg8 harg8 arg9 harg9 arg10 harg10 arg11 harg11 h1 h2 x0 x1 x2 x3 x4 x5 M A).2.2.1) y
      = if (y 0).val = (i 1).val then mB x0 x1 x2 x3 x4 x5 (y 1) (y 2) else M y := by
  rw [L10_C]
  split
  case isTrue h => exact L10s_hit arg10 _ i arg2 harg2 arg3 harg3 arg4 harg4 arg5 harg5 arg6 harg6 arg7 harg7 x0 x1 x2 x3 x4 x5 y h
  case isFalse h =>
    rw [L10s_miss arg10 _ i arg2 harg2 arg3 harg3 arg4 harg4 arg5 harg5 arg6 harg6 arg7 harg7 x0 x1 x2 x3 x4 x5 y h, harg10.read_unread]

/-- The running maxima after the point (case C). -/
theorem readA_C (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h1 : ¬ (Scalar.cmpi .ne (Scalar.extui (Scalar.cmpi .eq (BitVec.ofNat 32 (i 1).val) 0#32) : BitVec 32) 0#32 = 1#1)) (h2 :  (k0_cond2 i = 1#1)) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (M : Vec Ideal S14x1024x256 .f32) (A : Vec Ideal S1024x128 .f32) (f : arg11.view.ty.Contents (Elt Ideal)) (y : S1024x128.Idx) :
    arg11.view.read (Elt Ideal) (arg11.view.writes (Elt Ideal) f (runBodyC (F := Ideal) c i arg2 harg2 arg3 harg3 arg4 harg4 arg5 harg5 arg6 harg6 arg7 harg7 arg8 harg8 arg9 harg9 arg10 harg10 arg11 harg11 h1 h2 x0 x1 x2 x3 x4 x5 M A).2.2.2.1) y
      = aB x0 x1 x2 x3 x4 x5 (fun r l => A (ix2 r l)) (y 0) (y 1) := by
  rw [L11_C]
  exact L11s_read arg11 _ arg2 harg2 arg3 harg3 arg4 harg4 arg5 harg5 arg6 harg6 arg7 harg7 x0 x1 x2 x3 x4 x5 _ _ _ _ (fun r l => A (ix2 r l))
    (back_at arg11 harg11 A 0 (by decide) _) (back_at arg11 harg11 A 256 (by decide) _) (back_at arg11 harg11 A 512 (by decide) _) (back_at arg11 harg11 A 768 (by decide) _) y

/-- The codes' stores that the run found are the loop's, from the scratch buffers as they stand before it. -/
theorem L8_C (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h1 : ¬ (Scalar.cmpi .ne (Scalar.extui (Scalar.cmpi .eq (BitVec.ofNat 32 (i 1).val) 0#32) : BitVec 32) 0#32 = 1#1)) (h2 :  (k0_cond2 i = 1#1)) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (M : Vec Ideal S14x1024x256 .f32) (A : Vec Ideal S1024x128 .f32) : (runBodyC (F := Ideal) c i arg2 harg2 arg3 harg3 arg4 harg4 arg5 harg5 arg6 harg6 arg7 harg7 arg8 harg8 arg9 harg9 arg10 harg10 arg11 harg11 h1 h2 x0 x1 x2 x3 x4 x5 M A).1 = (pb_k0_t1 (F := Ideal) Variants.none c none i arg2 harg2 arg3 harg3 arg4 harg4 arg5 harg5 arg6 harg6 arg7 harg7 arg8 harg8 arg9 harg9 arg10 harg10 arg11 harg11 h2 (arg10.view.writes (Elt Ideal) (harg10.unread M) (runBodyC (F := Ideal) c i arg2 harg2 arg3 harg3 arg4 harg4 arg5 harg5 arg6 harg6 arg7 harg7 arg8 harg8 arg9 harg9 arg10 harg10 arg11 harg11 h1 h2 x0 x1 x2 x3 x4 x5 M A).2.2.1) (arg11.view.writes (Elt Ideal) arg11.view.junk (runBodyC (F := Ideal) c i arg2 harg2 arg3 harg3 arg4 harg4 arg5 harg5 arg6 harg6 arg7 harg7 arg8 harg8 arg9 harg9 arg10 harg10 arg11 harg11 h1 h2 x0 x1 x2 x3 x4 x5 M A).2.2.2.1) k0_t1_loop.trips).1 := rfl

/-- The scales' stores that the run found are the loop's. -/
theorem L9_C (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h1 : ¬ (Scalar.cmpi .ne (Scalar.extui (Scalar.cmpi .eq (BitVec.ofNat 32 (i 1).val) 0#32) : BitVec 32) 0#32 = 1#1)) (h2 :  (k0_cond2 i = 1#1)) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (M : Vec Ideal S14x1024x256 .f32) (A : Vec Ideal S1024x128 .f32) : (runBodyC (F := Ideal) c i arg2 harg2 arg3 harg3 arg4 harg4 arg5 harg5 arg6 harg6 arg7 harg7 arg8 harg8 arg9 harg9 arg10 harg10 arg11 harg11 h1 h2 x0 x1 x2 x3 x4 x5 M A).2.1 = (pb_k0_t1 (F := Ideal) Variants.none c none i arg2 harg2 arg3 harg3 arg4 harg4 arg5 harg5 arg6 harg6 arg7 harg7 arg8 harg8 arg9 harg9 arg10 harg10 arg11 harg11 h2 (arg10.view.writes (Elt Ideal) (harg10.unread M) (runBodyC (F := Ideal) c i arg2 harg2 arg3 harg3 arg4 harg4 arg5 harg5 arg6 harg6 arg7 harg7 arg8 harg8 arg9 harg9 arg10 harg10 arg11 harg11 h1 h2 x0 x1 x2 x3 x4 x5 M A).2.2.1) (arg11.view.writes (Elt Ideal) arg11.view.junk (runBodyC (F := Ideal) c i arg2 harg2 arg3 harg3 arg4 harg4 arg5 harg5 arg6 harg6 arg7 harg7 arg8 harg8 arg9 harg9 arg10 harg10 arg11 harg11 h1 h2 x0 x1 x2 x3 x4 x5 M A).2.2.2.1) k0_t1_loop.trips).2 := rfl

/-- The codes written out at the last column block. -/
theorem readO_C (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h1 : ¬ (Scalar.cmpi .ne (Scalar.extui (Scalar.cmpi .eq (BitVec.ofNat 32 (i 1).val) 0#32) : BitVec 32) 0#32 = 1#1)) (h2 :  (k0_cond2 i = 1#1)) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (M : Vec Ideal S14x1024x256 .f32) (A : Vec Ideal S1024x128 .f32) (f : arg8.view.ty.Contents (Elt Ideal)) (y : S1024x3584.Idx) :
    arg8.view.read (Elt Ideal) (arg8.view.writes (Elt Ideal) f (runBodyC (F := Ideal) c i arg2 harg2 arg3 harg3 arg4 harg4 arg5 harg5 arg6 harg6 arg7 harg7 arg8 harg8 arg9 harg9 arg10 harg10 arg11 harg11 h1 h2 x0 x1 x2 x3 x4 x5 M A).1) y
      = cdB (fun z => if (z 0).val = (i 1).val then mB x0 x1 x2 x3 x4 x5 (z 1) (z 2) else M z) (fun z => aB x0 x1 x2 x3 x4 x5 (fun r l => A (ix2 r l)) (z 0) (z 1)) (y 0) (y 1) := by
  rw [L8_C, codes_read]
  exact congrArg₂ (fun a b => cdB a b (y 0) (y 1)) (funext (readM_C c i arg2 harg2 arg3 harg3 arg4 harg4 arg5 harg5 arg6 harg6 arg7 harg7 arg8 harg8 arg9 harg9 arg10 harg10 arg11 harg11 h1 h2 x0 x1 x2 x3 x4 x5 M A)) (funext (readA_C c i arg2 harg2 arg3 harg3 arg4 harg4 arg5 harg5 arg6 harg6 arg7 harg7 arg8 harg8 arg9 harg9 arg10 harg10 arg11 harg11 h1 h2 x0 x1 x2 x3 x4 x5 M A _))

/-- The scales written out at the last column block. -/
theorem readS_C (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S14x1024x256 .f32) (harg10 : arg10.IsWhole) (arg11 : Memref sig .tc .vmem S1024x128 .f32) (harg11 : arg11.IsWhole) (h1 : ¬ (Scalar.cmpi .ne (Scalar.extui (Scalar.cmpi .eq (BitVec.ofNat 32 (i 1).val) 0#32) : BitVec 32) 0#32 = 1#1)) (h2 :  (k0_cond2 i = 1#1)) (x0 : Vec Ideal S1024x8192 .fp8e4m3) (x1 : Vec Ideal S1024x1 .f32) (x2 : Vec Ideal S8192x256 .fp8e4m3) (x3 : Vec Ideal S8192x256 .fp8e4m3) (x4 : Vec Ideal S1x256 .f32) (x5 : Vec Ideal S1x256 .f32) (M : Vec Ideal S14x1024x256 .f32) (A : Vec Ideal S1024x128 .f32) (f : arg9.view.ty.Contents (Elt Ideal)) (y : S1024x1.Idx) :
    arg9.view.read (Elt Ideal) (arg9.view.writes (Elt Ideal) f (runBodyC (F := Ideal) c i arg2 harg2 arg3 harg3 arg4 harg4 arg5 harg5 arg6 harg6 arg7 harg7 arg8 harg8 arg9 harg9 arg10 harg10 arg11 harg11 h1 h2 x0 x1 x2 x3 x4 x5 M A).2.1) y
      = scB (fun z => aB x0 x1 x2 x3 x4 x5 (fun r l => A (ix2 r l)) (z 0) (z 1)) (y 0) := by
  rw [L9_C, scales_read]
  exact congrArg (fun b => scB b (y 0)) (funext (readA_C c i arg2 harg2 arg3 harg3 arg4 harg4 arg5 harg5 arg6 harg6 arg7 harg7 arg8 harg8 arg9 harg9 arg10 harg10 arg11 harg11 h1 h2 x0 x1 x2 x3 x4 x5 M A _))
end Cert.Proof.GateUpIdealAfter

end
-- ==== Proof.GateUpIdealValue.lean ====
/- The gate/up kernel as a whole: every grid point keeps the invariant, the last point of each row tile leaves the codes and scales of whole arrays in the results' buffers, and the results end as those codes and scales. -/
module

public import proofs.«01_k».proof.Proof.GateUpIdealInv
public import proofs.«01_k».proof.Proof.GateUpIdealAfter
public import Idealize.ShloMosaic.Lib.Pipeline.DatRel
public import Idealize.ShloMosaic.Lib.Pipeline.ArrRel
public import Idealize.ShloMosaic.Lib.Claim

@[expose] public section

set_option maxRecDepth 16384

noncomputable section

namespace Cert.Proof.GateUpIdealValue

open Cert.Proof.GateUpIdealRun Cert.Proof.GateUpIdealAfter Cert.Proof.GateUpIdealInv Cert.Proof.GateUpIdealBlock Cert.Proof.GateUpMath Cert.Proof.GateUpIdealPoints Cert.Proof.GateUpIdealOut
open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The results, windows 6 and 7, are described by relations. -/
def marked : Fin 8 → Bool := fun w => w.val == 6 || w.val == 7

/-- The block of codes at the last column block of a row tile. -/
def R6 (c : Dev nD) (t : Fin cfg0.N) (X : Vec Ideal S1024x3584 .fp8e4m3) : Prop :=
  t.val % 14 = 13 → ∀ (r : Fin 1024) (q : Fin 3584), X (ix2 r q) = cdV (V m c main_arg0) (V m c main_arg1) (V m c main_arg2) (V m c main_arg3) (V m c main_arg4) (V m c main_arg5) (row t.val r) q

/-- The block of scales at the last column block of a row tile. -/
def R7 (c : Dev nD) (t : Fin cfg0.N) (X : Vec Ideal S1024x1 .f32) : Prop :=
  t.val % 14 = 13 → ∀ (r : Fin 1024), X (ix2 r 0) = scV (V m c main_arg0) (V m c main_arg1) (V m c main_arg2) (V m c main_arg3) (V m c main_arg4) (V m c main_arg5) (row t.val r)

/-- What each result's buffer holds after a point. -/
def Rl (c : Dev nD) (w : Fin cfg0.W) (t : Fin cfg0.N) : ((cfg0.win w).block.Idx → Elt Ideal (cfg0.win w).elt) → Prop :=
  match w with
  | ⟨6, _⟩ => fun X => R6 m c t X
  | ⟨7, _⟩ => fun X => R7 m c t X
  | _ => fun _ => True

/-- The scratch buffers at the invariant, and the generator's register. -/
def Phi (c : Dev nD) (n : ℕ) : sProp 𝕄 :=
  iprop((∃ M A, ⌜Inv m c n M A⌝ ∗ owns (c : Thread nD τ) (Memref.whole cc0_scratch0) fullShare M ∗ owns (c : Thread nD τ) (Memref.whole cc0_scratch1) fullShare A) ∗ (∃ r, prngReg c r))

/-- The proof data on core `c`: the inputs' buffers hold their blocks, the scratch buffers keep the invariant. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ n := Phi m c n.val
  q _ := fullShare
  owed _ := 0

/-- The arrays of the proof data are the region's. -/
theorem A_eq (c : Dev nD) (w : Fin cfg0.W) : (dats m 0 c).A w = V m c (Pipeline.arrRef spec0 w) := by
  dsimp only [dats]

/-- What the body leaves in window 0: its block. -/
theorem after0_0 (c : Dev nD) (t : Fin cfg0.N) : (dats m 0 c).after 0 t = iblk m c 0 t := by dsimp only [dats]
/-- What the body finds in window 0: its block. -/
theorem before0_0 (c : Dev nD) (t : Fin cfg0.N) (d) : (dats m 0 c).before 0 t d = iblk m c 0 t :=
  before0_0_of m (dats m 0 c) (A_eq m c 0) (after0_0 m c) t d
/-- What the body leaves in window 1: its block. -/
theorem after0_1 (c : Dev nD) (t : Fin cfg0.N) : (dats m 0 c).after 1 t = iblk m c 1 t := by dsimp only [dats]
/-- What the body finds in window 1: its block. -/
theorem before0_1 (c : Dev nD) (t : Fin cfg0.N) (d) : (dats m 0 c).before 1 t d = iblk m c 1 t :=
  before0_1_of m (dats m 0 c) (A_eq m c 1) (after0_1 m c) t d
/-- What the body leaves in window 2: its block. -/
theorem after0_2 (c : Dev nD) (t : Fin cfg0.N) : (dats m 0 c).after 2 t = iblk m c 2 t := by dsimp only [dats]
/-- What the body finds in window 2: its block. -/
theorem before0_2 (c : Dev nD) (t : Fin cfg0.N) (d) : (dats m 0 c).before 2 t d = iblk m c 2 t :=
  before0_2_of m (dats m 0 c) (A_eq m c 2) (after0_2 m c) t d
/-- What the body leaves in window 3: its block. -/
theorem after0_3 (c : Dev nD) (t : Fin cfg0.N) : (dats m 0 c).after 3 t = iblk m c 3 t := by dsimp only [dats]
/-- What the body finds in window 3: its block. -/
theorem before0_3 (c : Dev nD) (t : Fin cfg0.N) (d) : (dats m 0 c).before 3 t d = iblk m c 3 t :=
  before0_3_of m (dats m 0 c) (A_eq m c 3) (after0_3 m c) t d
/-- What the body leaves in window 4: its block. -/
theorem after0_4 (c : Dev nD) (t : Fin cfg0.N) : (dats m 0 c).after 4 t = iblk m c 4 t := by dsimp only [dats]
/-- What the body finds in window 4: its block. -/
theorem before0_4 (c : Dev nD) (t : Fin cfg0.N) (d) : (dats m 0 c).before 4 t d = iblk m c 4 t :=
  before0_4_of m (dats m 0 c) (A_eq m c 4) (after0_4 m c) t d
/-- What the body leaves in window 5: its block. -/
theorem after0_5 (c : Dev nD) (t : Fin cfg0.N) : (dats m 0 c).after 5 t = iblk m c 5 t := by dsimp only [dats]
/-- What the body finds in window 5: its block. -/
theorem before0_5 (c : Dev nD) (t : Fin cfg0.N) (d) : (dats m 0 c).before 5 t d = iblk m c 5 t :=
  before0_5_of m (dats m 0 c) (A_eq m c 5) (after0_5 m c) t d

/-- The proof data with the results' relations. -/
abbrev rdats (c : Dev nD) : Pipeline.RDat τ (Elt Ideal) Unit ℕ (UR sig nD τ) ℕ cfg0 c := (dats m 0 c).toRRel marked (Rl m c)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜(rdats m c).Finds 6 t Y⌝ ∗ owns (c : Thread nD τ) (ms0_6 t) fullShare Y)
    ∗ (∃ Y, ⌜(rdats m c).Finds 7 t Y⌝ ∗ owns (c : Thread nD τ) (ms0_7 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, ⌜Rl m c 6 t X⌝ ∗ owns (c : Thread nD τ) (ms0_6 t) fullShare X)
    ∗ (∃ X, ⌜Rl m c 7 t X⌝ ∗ owns (c : Thread nD τ) (ms0_7 t) fullShare X))

/-- The invariant after a point of case A. -/
theorem inv_A (c : Dev nD) (t : Fin cfg0.N) (h1 :  (Scalar.cmpi .ne (Scalar.extui (Scalar.cmpi .eq (BitVec.ofNat 32 (grid0.coords t 1).val) 0#32) : BitVec 32) 0#32 = 1#1)) (h2 : ¬ (k0_cond2 (grid0.coords t) = 1#1)) (M : Vec Ideal S14x1024x256 .f32) (A : Vec Ideal S1024x128 .f32) (h : Inv m c t.val M A) :
    Inv m c (t.val + 1) ((Memref.whole cc0_scratch0 : Memref sig .tc .vmem S14x1024x256 .f32).view.read (Elt Ideal) ((Memref.whole cc0_scratch0 : Memref sig .tc .vmem S14x1024x256 .f32).view.writes (Elt Ideal) ((Memref.isWhole_whole _ : (Memref.whole cc0_scratch0 : Memref sig .tc .vmem S14x1024x256 .f32).IsWhole).unread M) (runBodyA (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) h1 h2 (iblk m c 0 t) (iblk m c 1 t) (iblk m c 2 t) (iblk m c 3 t) (iblk m c 4 t) (iblk m c 5 t) M A).1)) ((Memref.whole cc0_scratch1 : Memref sig .tc .vmem S1024x128 .f32).view.read (Elt Ideal) ((Memref.whole cc0_scratch1 : Memref sig .tc .vmem S1024x128 .f32).view.writes (Elt Ideal) ((Memref.isWhole_whole _ : (Memref.whole cc0_scratch1 : Memref sig .tc .vmem S1024x128 .f32).IsWhole).unread A) (runBodyA (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) h1 h2 (iblk m c 0 t) (iblk m c 1 t) (iblk m c 2 t) (iblk m c 3 t) (iblk m c 4 t) (iblk m c 5 t) M A).2.1)) := by
  rw [show (Memref.whole cc0_scratch0 : Memref sig .tc .vmem S14x1024x256 .f32).view.read (Elt Ideal) ((Memref.whole cc0_scratch0 : Memref sig .tc .vmem S14x1024x256 .f32).view.writes (Elt Ideal) ((Memref.isWhole_whole _ : (Memref.whole cc0_scratch0 : Memref sig .tc .vmem S14x1024x256 .f32).IsWhole).unread M) (runBodyA (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) h1 h2 (iblk m c 0 t) (iblk m c 1 t) (iblk m c 2 t) (iblk m c 3 t) (iblk m c 4 t) (iblk m c 5 t) M A).1) = mNext t (iblk m c 0 t) (iblk m c 1 t) (iblk m c 2 t) (iblk m c 3 t) (iblk m c 4 t) (iblk m c 5 t) M from funext (readM_A c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) h1 h2 (iblk m c 0 t) (iblk m c 1 t) (iblk m c 2 t) (iblk m c 3 t) (iblk m c 4 t) (iblk m c 5 t) M A),
    show (Memref.whole cc0_scratch1 : Memref sig .tc .vmem S1024x128 .f32).view.read (Elt Ideal) ((Memref.whole cc0_scratch1 : Memref sig .tc .vmem S1024x128 .f32).view.writes (Elt Ideal) ((Memref.isWhole_whole _ : (Memref.whole cc0_scratch1 : Memref sig .tc .vmem S1024x128 .f32).IsWhole).unread A) (runBodyA (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) h1 h2 (iblk m c 0 t) (iblk m c 1 t) (iblk m c 2 t) (iblk m c 3 t) (iblk m c 4 t) (iblk m c 5 t) M A).2.1) = (fun z => aB (iblk m c 0 t) (iblk m c 1 t) (iblk m c 2 t) (iblk m c 3 t) (iblk m c 4 t) (iblk m c 5 t) (fun _ _ => 0) (z 0) (z 1)) from funext (readA_A c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) h1 h2 (iblk m c 0 t) (iblk m c 1 t) (iblk m c 2 t) (iblk m c 3 t) (iblk m c 4 t) (iblk m c 5 t) M A _)]
  exact inv_next m c t M A h (by have := (cond1_iff t).1 h1; omega) _ (by have := (cond1_iff t).1 h1; intro r l; rw [this]; rfl)

/-- The invariant after a point of case B. -/
theorem inv_B (c : Dev nD) (t : Fin cfg0.N) (h1 : ¬ (Scalar.cmpi .ne (Scalar.extui (Scalar.cmpi .eq (BitVec.ofNat 32 (grid0.coords t 1).val) 0#32) : BitVec 32) 0#32 = 1#1)) (h2 : ¬ (k0_cond2 (grid0.coords t) = 1#1)) (M : Vec Ideal S14x1024x256 .f32) (A : Vec Ideal S1024x128 .f32) (h : Inv m c t.val M A) :
    Inv m c (t.val + 1) ((Memref.whole cc0_scratch0 : Memref sig .tc .vmem S14x1024x256 .f32).view.read (Elt Ideal) ((Memref.whole cc0_scratch0 : Memref sig .tc .vmem S14x1024x256 .f32).view.writes (Elt Ideal) ((Memref.isWhole_whole _ : (Memref.whole cc0_scratch0 : Memref sig .tc .vmem S14x1024x256 .f32).IsWhole).unread M) (runBodyB (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) h1 h2 (iblk m c 0 t) (iblk m c 1 t) (iblk m c 2 t) (iblk m c 3 t) (iblk m c 4 t) (iblk m c 5 t) M A).1)) ((Memref.whole cc0_scratch1 : Memref sig .tc .vmem S1024x128 .f32).view.read (Elt Ideal) ((Memref.whole cc0_scratch1 : Memref sig .tc .vmem S1024x128 .f32).view.writes (Elt Ideal) ((Memref.isWhole_whole _ : (Memref.whole cc0_scratch1 : Memref sig .tc .vmem S1024x128 .f32).IsWhole).unread A) (runBodyB (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) h1 h2 (iblk m c 0 t) (iblk m c 1 t) (iblk m c 2 t) (iblk m c 3 t) (iblk m c 4 t) (iblk m c 5 t) M A).2.1)) := by
  rw [show (Memref.whole cc0_scratch0 : Memref sig .tc .vmem S14x1024x256 .f32).view.read (Elt Ideal) ((Memref.whole cc0_scratch0 : Memref sig .tc .vmem S14x1024x256 .f32).view.writes (Elt Ideal) ((Memref.isWhole_whole _ : (Memref.whole cc0_scratch0 : Memref sig .tc .vmem S14x1024x256 .f32).IsWhole).unread M) (runBodyB (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) h1 h2 (iblk m c 0 t) (iblk m c 1 t) (iblk m c 2 t) (iblk m c 3 t) (iblk m c 4 t) (iblk m c 5 t) M A).1) = mNext t (iblk m c 0 t) (iblk m c 1 t) (iblk m c 2 t) (iblk m c 3 t) (iblk m c 4 t) (iblk m c 5 t) M from funext (readM_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) h1 h2 (iblk m c 0 t) (iblk m c 1 t) (iblk m c 2 t) (iblk m c 3 t) (iblk m c 4 t) (iblk m c 5 t) M A),
    show (Memref.whole cc0_scratch1 : Memref sig .tc .vmem S1024x128 .f32).view.read (Elt Ideal) ((Memref.whole cc0_scratch1 : Memref sig .tc .vmem S1024x128 .f32).view.writes (Elt Ideal) ((Memref.isWhole_whole _ : (Memref.whole cc0_scratch1 : Memref sig .tc .vmem S1024x128 .f32).IsWhole).unread A) (runBodyB (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) h1 h2 (iblk m c 0 t) (iblk m c 1 t) (iblk m c 2 t) (iblk m c 3 t) (iblk m c 4 t) (iblk m c 5 t) M A).2.1) = (fun z => aB (iblk m c 0 t) (iblk m c 1 t) (iblk m c 2 t) (iblk m c 3 t) (iblk m c 4 t) (iblk m c 5 t) (fun r l => A (ix2 r l)) (z 0) (z 1)) from funext (readA_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) h1 h2 (iblk m c 0 t) (iblk m c 1 t) (iblk m c 2 t) (iblk m c 3 t) (iblk m c 4 t) (iblk m c 5 t) M A _)]
  exact inv_next m c t M A h (fun e => h2 ((cond2_iff t).2 e)) _ (h.2 (fun e => h1 ((cond1_iff t).2 e)))

/-- The codes after a point of case C. -/
theorem r6_C (c : Dev nD) (t : Fin cfg0.N) (h1 : ¬ (Scalar.cmpi .ne (Scalar.extui (Scalar.cmpi .eq (BitVec.ofNat 32 (grid0.coords t 1).val) 0#32) : BitVec 32) 0#32 = 1#1)) (h2 :  (k0_cond2 (grid0.coords t) = 1#1)) (M : Vec Ideal S14x1024x256 .f32) (A : Vec Ideal S1024x128 .f32) (h : Inv m c t.val M A) (f) :
    R6 m c t ((ms0_6 t).view.read (Elt Ideal) ((ms0_6 t).view.writes (Elt Ideal) f (runBodyC (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) h1 h2 (iblk m c 0 t) (iblk m c 1 t) (iblk m c 2 t) (iblk m c 3 t) (iblk m c 4 t) (iblk m c 5 t) M A).1)) := by
  intro hl r q
  exact (readO_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) h1 h2 (iblk m c 0 t) (iblk m c 1 t) (iblk m c 2 t) (iblk m c 3 t) (iblk m c 4 t) (iblk m c 5 t) M A f (ix2 r q)).trans (cdB_last m c t M A h hl r q)

/-- The scales after a point of case C. -/
theorem r7_C (c : Dev nD) (t : Fin cfg0.N) (h1 : ¬ (Scalar.cmpi .ne (Scalar.extui (Scalar.cmpi .eq (BitVec.ofNat 32 (grid0.coords t 1).val) 0#32) : BitVec 32) 0#32 = 1#1)) (h2 :  (k0_cond2 (grid0.coords t) = 1#1)) (M : Vec Ideal S14x1024x256 .f32) (A : Vec Ideal S1024x128 .f32) (h : Inv m c t.val M A) (f) :
    R7 m c t ((ms0_7 t).view.read (Elt Ideal) ((ms0_7 t).view.writes (Elt Ideal) f (runBodyC (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) h1 h2 (iblk m c 0 t) (iblk m c 1 t) (iblk m c 2 t) (iblk m c 3 t) (iblk m c 4 t) (iblk m c 5 t) M A).2.1)) := by
  intro hl r
  exact (readS_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) h1 h2 (iblk m c 0 t) (iblk m c 1 t) (iblk m c 2 t) (iblk m c 3 t) (iblk m c 4 t) (iblk m c 5 t) M A f (ix2 r 0)).trans (scB_last m c t M A h hl r)

/-- The body at any point of the grid. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = Phi m c (t.val + 1) from rfl, show (dats m 0 c).Φ t.castSucc = Phi m c t.val from rfl,
    show (dats m 0 c).owesAt () t.succ = (dats m 0 c).owesAt () t.castSucc from rfl,
    after0_0, after0_1, after0_2, after0_3, after0_4, after0_5]
  unfold Phi
  iintro ⟨⟨⟨%M, %A, %hI, Hs0, Hs1⟩, Hg⟩, Ho, ⟨%d0, H0⟩, ⟨%d1, H1⟩, ⟨%d2, H2⟩, ⟨%d3, H3⟩, ⟨%d4, H4⟩, ⟨%d5, H5⟩, ⟨%d6, -, H6⟩, ⟨%d7, -, H7⟩⟩
  by_cases h1 : (Scalar.cmpi .ne (Scalar.extui (Scalar.cmpi .eq (BitVec.ofNat 32 (grid0.coords t 1).val) 0#32) : BitVec 32) 0#32 = 1#1)
  · skip
    have h2 : ¬ (k0_cond2 (grid0.coords t) = 1#1) := fun h2 => conds_ne t ⟨h1, h2⟩
    iapply (runBodyA (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) h1 h2 (iblk m c 0 t) (iblk m c 1 t) (iblk m c 2 t) (iblk m c 3 t) (iblk m c 4 t) (iblk m c 5 t) M A).2.2 Set.univ _
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [Hs0]; · iexact Hs0
    isplitl [Hs1]; · iexact Hs1
    iintro ⟨H0, H1, H2, H3, H4, H5, ⟨%e6, H6⟩, ⟨%e7, H7⟩, Hs0, Hs1⟩
    isplitl [Hs0 Hs1 Hg]
    · isplitl [Hs0 Hs1]
      · iexists _, _
        isplitr
        rotate_left
        · isplitl [Hs0]
          · iapply owns_of_pt; iexact Hs0
          iapply owns_of_pt; iexact Hs1
        · ipureintro; exact inv_A m c t h1 h2 M A hI
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists e6; isplitr
      · ipureintro; intro hl; exact absurd hl (by have e := h2; rw [cond2_iff] at e; exact e)
      iexact H6
    iexists e7; isplitr
    · ipureintro; intro hl; exact absurd hl (by have e := h2; rw [cond2_iff] at e; exact e)
    iexact H7
  · by_cases h2 : (k0_cond2 (grid0.coords t) = 1#1)
    · skip
      iapply (runBodyC (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) h1 h2 (iblk m c 0 t) (iblk m c 1 t) (iblk m c 2 t) (iblk m c 3 t) (iblk m c 4 t) (iblk m c 5 t) M A).2.2.2.2 Set.univ _
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [Hs0]; · iexact Hs0
      isplitl [Hs1]; · iexact Hs1
      iintro ⟨H0, H1, H2, H3, H4, H5, ⟨%f6, H6⟩, ⟨%f7, H7⟩, Hs0, ⟨%f11, Hs1⟩⟩
      isplitl [Hs0 Hs1 Hg]
      · isplitl [Hs0 Hs1]
        · iexists _, _
          isplitr
          rotate_left
          · isplitl [Hs0]
            · iapply owns_of_pt; iexact Hs0
            iapply owns_of_pt; iexact Hs1
          · ipureintro; exact inv_last m c t.val ((cond2_iff t).1 h2) _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists _
        isplitr
        rotate_left
        · iapply owns_of_pt; iexact H6
        · ipureintro; exact r6_C m c t h1 h2 M A hI f6
      iexists _
      isplitr
      rotate_left
      · iapply owns_of_pt; iexact H7
      · ipureintro; exact r7_C m c t h1 h2 M A hI f7
    · skip
      iapply (runBodyB (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) h1 h2 (iblk m c 0 t) (iblk m c 1 t) (iblk m c 2 t) (iblk m c 3 t) (iblk m c 4 t) (iblk m c 5 t) M A).2.2 Set.univ _
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [Hs0]; · iexact Hs0
      isplitl [Hs1]; · iexact Hs1
      iintro ⟨H0, H1, H2, H3, H4, H5, ⟨%e6, H6⟩, ⟨%e7, H7⟩, Hs0, Hs1⟩
      isplitl [Hs0 Hs1 Hg]
      · isplitl [Hs0 Hs1]
        · iexists _, _
          isplitr
          rotate_left
          · isplitl [Hs0]
            · iapply owns_of_pt; iexact Hs0
            iapply owns_of_pt; iexact Hs1
          · ipureintro; exact inv_B m c t h1 h2 M A hI
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists e6; isplitr
        · ipureintro; intro hl; exact absurd hl (by have e := h2; rw [cond2_iff] at e; exact e)
        iexact H6
      iexists e7; isplitr
      · ipureintro; intro hl; exact absurd hl (by have e := h2; rw [cond2_iff] at e; exact e)
      iexact H7

/-- The body table's row at point `t` is the body. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : Pipeline.BodyObligationRel (dats m 0 c) (defs₀ (F := Ideal)) Variants.none () Set.univ marked (Rl m c) := fun t => by
  rw [bigSep_W0, bigSep_W0, defs₀_row]
  exact triple_restated (sound_body m c t) rfl .rfl fun _ => .rfl

/-- At the start the scratch buffers hold anything. -/
theorem phi_in (c : Dev nD) : (Pipeline.ΦA (Val := Elt Ideal) (U := UR sig nD τ) spec0 c : sProp 𝕄) ⊢ Phi m c 0 := by
  rw [PhiA_eq]; unfold Phi
  iintro ⟨⟨⟨%M, H0⟩, ⟨%A, H1⟩⟩, Hg⟩
  isplitl [H0 H1]
  · iexists M, A
    isplitr
    · ipureintro; exact inv_zero m c M A
    isplitl [H0]; · iexact H0
    iexact H1
  iexact Hg

/-- At the end what they hold is forgotten. -/
theorem phi_out (c : Dev nD) (n : ℕ) : Phi m c n ⊢ (Pipeline.ΦA (Val := Elt Ideal) (U := UR sig nD τ) spec0 c : sProp 𝕄) := by
  rw [PhiA_eq]; unfold Phi
  iintro ⟨⟨%M, %A, %hI, H0, H1⟩, Hg⟩
  isplitl [H0 H1]
  · isplitl [H0]
    · iexists M; iexact H0
    iexists A; iexact H1
  iexact Hg

set_option backward.isDefEq.respectTransparency.types false in
/-- The launch: every execution ends in the region's state. -/
theorem run_main : θ_run defs (onTc (τ := τ) (main (F := Ideal))) (s₀ m ρ) (Pipeline.RDat.FramePost (cfgs 0) (rdats m) (V m)) :=
  (θ_run defs _ _).mono (fun _ h => h.1) <|
  Pipeline.RDat.θ_run_frame_track cfgs (0 : Fin 1) launch0 defs₀ Variants.none (rdats m) m ρ main
    (fun c => (body_obligation m c).toRRel) (fun c => (dats m 0 c).share_full fun _ => rfl)
    (fun _ _ => rfl) (V m) (hmain m Variants.none) (A_eq m) (fun c => phi_in m c) (fun c => phi_out m c _) _ (fun _ h => h)
end Cert.Proof.GateUpIdealValue

end
-- ==== Proof.GateUpRefEq.lean ====
/- What the gate/up reference computes, entry by entry. -/
module

public import proofs.«01_k».proof.Proof.Gen.GateUpRefIdeal.Value
public import proofs.«01_k».proof.Proof.GateUpMath

@[expose] public section

set_option maxRecDepth 16384

noncomputable section

namespace Cert.Proof.GateUpRefEq

open Cert.Proof.GateUpIdealBlock Cert.Proof.GateUpMath
open Cert.GateUpRefIdeal Cert.GateUpRefIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-- The reference's products. -/
theorem pay2_at (a0 : Vec Ideal ⟨2, ![4096, 8192]⟩ .fp8e4m3) (a1 : Vec Ideal ⟨2, ![4096, 1]⟩ .f32) (a2 : Vec Ideal ⟨2, ![8192, 3584]⟩ .fp8e4m3) (a3 : Vec Ideal ⟨2, ![8192, 3584]⟩ .fp8e4m3) (a4 : Vec Ideal ⟨2, ![1, 3584]⟩ .f32) (a5 : Vec Ideal ⟨2, ![1, 3584]⟩ .f32) (r : Fin 4096) (q : Fin 3584) : k0_pay2 (F := Ideal) a0 a2 a0 a3 a1 a4 a1 a5 (ix2 r q) = mV a0 a1 a2 a3 a4 a5 r q := by
  unfold mV
  pointwise [k0_pay2]

/-- The largest of each row. -/
theorem mr_at (v : FVec Ideal S4096x3584 .f32) (j : S4096.Idx) :
    (multiReduction (F := Ideal) .maximumf [1] S4096 v 0xFF800000#32 reduces_S4096x3584_S4096 (.inl rfl) rfl) j
      = Finset.fold max (Ideal.ofBits FTy.f32 4286578688#32) (fun q => v (ix2 (j 0) q)) Finset.univ := by
  pointwise []

/-- The scale of a row from the row's largest magnitude. -/
theorem scale_at (u : FVec Ideal S4096 .f32) (r : Fin 4096) :
    select (cmpf .ogt (shapeCast S4096x1 u shapeCasts_S4096_S4096x1) (broadcast S4096x1 (Scalar.ofBits .f32 0x00000000#32 : Ideal .f32)))
        (divf (shapeCast S4096x1 u shapeCasts_S4096_S4096x1) (broadcast S4096x1 (Scalar.ofBits .f32 0x43E00000#32 : Ideal .f32)))
        (broadcast S4096x1 (Scalar.ofBits .f32 0x3F800000#32 : Ideal .f32)) (ix2 r 0)
      = if 0 < u (ix1 r) then Ideal.div (u (ix1 r)) (Ideal.ofBits FTy.f32 1138753536#32) else 1 := by
  pointwise []

/-- The reference's scales. -/
theorem pay3_at (a0 : Vec Ideal ⟨2, ![4096, 8192]⟩ .fp8e4m3) (a1 : Vec Ideal ⟨2, ![4096, 1]⟩ .f32) (a2 : Vec Ideal ⟨2, ![8192, 3584]⟩ .fp8e4m3) (a3 : Vec Ideal ⟨2, ![8192, 3584]⟩ .fp8e4m3) (a4 : Vec Ideal ⟨2, ![1, 3584]⟩ .f32) (a5 : Vec Ideal ⟨2, ![1, 3584]⟩ .f32) (r : Fin 4096) : k0_pay3 (F := Ideal) a0 a2 a0 a3 a1 a4 a1 a5 (ix2 r 0) = scV a0 a1 a2 a3 a4 a5 r := by
  have hw := pay2_at a0 a1 a2 a3 a4 a5 r
  unfold scV mx
  generalize mV a0 a1 a2 a3 a4 a5 r = M at hw ⊢
  unfold k0_pay3
  generalize k0_pay2 (F := Ideal) a0 a2 a0 a3 a1 a4 a1 a5 = w at hw ⊢
  refine (scale_at _ r).trans ?_
  rw [mr_at]
  have e : ∀ q, absf w (ix2 ((ix1 r : S4096.Idx) 0) q) = ab (M q) := fun q => (congrArg ab (hw q))
  simp only [e]

/-- A quotient by the row's scale. -/
theorem quot_at (w : FVec Ideal S4096x3584 .f32) (v : FVec Ideal S4096x1 .f32) (r : Fin 4096) (q : Fin 3584) :
    divf w (broadcastTo S4096x3584 v broadcasts_S4096x1_S4096x3584) (ix2 r q) = Ideal.div (w (ix2 r q)) (v (ix2 r 0)) := by
  pointwise []

/-- The reference's quotients. -/
theorem pay4_at (a0 : Vec Ideal ⟨2, ![4096, 8192]⟩ .fp8e4m3) (a1 : Vec Ideal ⟨2, ![4096, 1]⟩ .f32) (a2 : Vec Ideal ⟨2, ![8192, 3584]⟩ .fp8e4m3) (a3 : Vec Ideal ⟨2, ![8192, 3584]⟩ .fp8e4m3) (a4 : Vec Ideal ⟨2, ![1, 3584]⟩ .f32) (a5 : Vec Ideal ⟨2, ![1, 3584]⟩ .f32) (r : Fin 4096) (q : Fin 3584) : k0_pay4 (F := Ideal) a0 a2 a0 a3 a1 a4 a1 a5 (ix2 r q) = Ideal.div (mV a0 a1 a2 a3 a4 a5 r q) (scV a0 a1 a2 a3 a4 a5 r) := by
  have h2 := pay2_at a0 a1 a2 a3 a4 a5 r q
  have h3 := pay3_at a0 a1 a2 a3 a4 a5 r
  generalize mV a0 a1 a2 a3 a4 a5 r q = x at h2 ⊢
  generalize scV a0 a1 a2 a3 a4 a5 r = y at h3 ⊢
  unfold k0_pay4
  generalize k0_pay3 (F := Ideal) a0 a2 a0 a3 a1 a4 a1 a5 = v at h3 ⊢
  generalize k0_pay2 (F := Ideal) a0 a2 a0 a3 a1 a4 a1 a5 = w at h2 ⊢
  refine (quot_at w v r q).trans ?_
  rw [h2, h3]

/-- A clipped code. -/
theorem pay1_at (w : FVec Ideal S4096x3584 .f32) (r : Fin 4096) (q : Fin 3584) :
    k0_pay1 (F := Ideal) w (Scalar.ofBits .f32 0xC3E00000#32) (Scalar.ofBits .f32 0x43E00000#32) (ix2 r q)
      = min (Ideal.ofBits FTy.f32 1138753536#32) (max (Ideal.ofBits FTy.f32 3286237184#32) (w (ix2 r q))) := by
  pointwise [k0_pay1]

/-- The reference's codes. -/
theorem G6_at (a0 : Vec Ideal ⟨2, ![4096, 8192]⟩ .fp8e4m3) (a1 : Vec Ideal ⟨2, ![4096, 1]⟩ .f32) (a2 : Vec Ideal ⟨2, ![8192, 3584]⟩ .fp8e4m3) (a3 : Vec Ideal ⟨2, ![8192, 3584]⟩ .fp8e4m3) (a4 : Vec Ideal ⟨2, ![1, 3584]⟩ .f32) (a5 : Vec Ideal ⟨2, ![1, 3584]⟩ .f32) (r : Fin 4096) (q : Fin 3584) : Value.G6 (F := Ideal) a0 a1 a2 a3 a4 a5 (ix2 r q) = cdV a0 a1 a2 a3 a4 a5 r q := by
  unfold Value.G6 cdV
  rw [pay1_at, pay4_at]

/-- The reference's scales, as a result. -/
theorem G7_at (a0 : Vec Ideal ⟨2, ![4096, 8192]⟩ .fp8e4m3) (a1 : Vec Ideal ⟨2, ![4096, 1]⟩ .f32) (a2 : Vec Ideal ⟨2, ![8192, 3584]⟩ .fp8e4m3) (a3 : Vec Ideal ⟨2, ![8192, 3584]⟩ .fp8e4m3) (a4 : Vec Ideal ⟨2, ![1, 3584]⟩ .f32) (a5 : Vec Ideal ⟨2, ![1, 3584]⟩ .f32) (r : Fin 4096) : Value.G7 (F := Ideal) a0 a1 a2 a3 a4 a5 (ix2 r 0) = scV a0 a1 a2 a3 a4 a5 r := by
  unfold Value.G7
  exact pay3_at a0 a1 a2 a3 a4 a5 r
end Cert.Proof.GateUpRefEq

end
-- ==== Proof.GateUpClaim.lean ====
/- The gate/up kernel and its reference end with the same codes and scales. -/
module

public import proofs.«01_k».proof.Proof.GateUpIdealValue
public import proofs.«01_k».proof.Proof.GateUpRefEq
public import proofs.«01_k».proof.Defs

@[expose] public section

set_option maxRecDepth 16384

noncomputable section

namespace Cert.Proof.GateUpClaim

open Cert.Proof.GateUpIdealInv Cert.Proof.GateUpIdealValue Cert.Proof.GateUpMath Cert.Proof.GateUpIdealPoints
open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The codes of the whole arrays. -/
def codes (c : Dev nD) : Vec Ideal S4096x3584 .fp8e4m3 := fun j => cdV (V m c main_arg0) (V m c main_arg1) (V m c main_arg2) (V m c main_arg3) (V m c main_arg4) (V m c main_arg5) (j 0) (j 1)

/-- The scales of the whole arrays. -/
def scales (c : Dev nD) : Vec Ideal S4096x1 .f32 := fun j => scV (V m c main_arg0) (V m c main_arg1) (V m c main_arg2) (V m c main_arg3) (V m c main_arg4) (V m c main_arg5) (j 0)

/-- Result array 0 after the run: the codes. -/
theorem final6 (c : Dev nD) (after : (w' : Fin cfg0.W) → Fin cfg0.N → (cfg0.win w').block.Idx → Elt Ideal (cfg0.win w').elt)
    (hL : ∀ t : Fin cfg0.N, (cfg0.win 6).flush t = true → R6 m c t (after 6 t)) :
    ((rdats m c).withAfter after).arrAt 6 cfg0.N = codes m c := by
  refine ((rdats m c).withAfter after).arrAt_eq_of_covers 6 _ (by decide +kernel) fun t hf y => ?_
  have hl : t.val % 14 = 13 := (flush0_6 t).1 hf
  have e := hL t hf hl (y 0)
  have q0 : ((cfg0.win 6).blk t).view.emb y 0 = row t.val (y 0) := by
    apply Fin.ext
    show win0_6.index t 0 * 1024 + 1 * (y 0).val = _
    rw [(idx6 t).1]
    exact (by rw [Nat.one_mul, Nat.mul_comm] : t.val / 14 * 1024 + 1 * (y 0).val = 1024 * (t.val / 14) + (y 0).val).trans (row_val t (y 0)).symm
  have q1 : ((cfg0.win 6).blk t).view.emb y 1 = (y 1 : Fin 3584) := by
    apply Fin.ext
    show win0_6.index t 1 * 3584 + 1 * (y 1).val = _
    rw [(idx6 t).2]
    exact (by omega : 0 * 3584 + 1 * (y 1).val = (y 1).val)
  show after 6 t y = cdV (V m c main_arg0) (V m c main_arg1) (V m c main_arg2) (V m c main_arg3) (V m c main_arg4) (V m c main_arg5) (((cfg0.win 6).blk t).view.emb y 0) (((cfg0.win 6).blk t).view.emb y 1)
  rw [q0, q1, ← e (y 1)]
  exact congrArg (after 6 t) (funext fun a => match a with | ⟨0, _⟩ => rfl | ⟨1, _⟩ => rfl)

/-- Result array 1 after the run: the scales. -/
theorem final7 (c : Dev nD) (after : (w' : Fin cfg0.W) → Fin cfg0.N → (cfg0.win w').block.Idx → Elt Ideal (cfg0.win w').elt)
    (hL : ∀ t : Fin cfg0.N, (cfg0.win 7).flush t = true → R7 m c t (after 7 t)) :
    ((rdats m c).withAfter after).arrAt 7 cfg0.N = scales m c := by
  refine ((rdats m c).withAfter after).arrAt_eq_of_covers 7 _ (by decide +kernel) fun t hf y => ?_
  have hl : t.val % 14 = 13 := (flush0_7 t).1 hf
  have e := hL t hf hl (y 0)
  have q0 : ((cfg0.win 7).blk t).view.emb y 0 = row t.val (y 0) := by
    apply Fin.ext
    show win0_7.index t 0 * 1024 + 1 * (y 0).val = _
    rw [(idx7 t).1]
    exact (by rw [Nat.one_mul, Nat.mul_comm] : t.val / 14 * 1024 + 1 * (y 0).val = 1024 * (t.val / 14) + (y 0).val).trans (row_val t (y 0)).symm
  show after 7 t y = scV (V m c main_arg0) (V m c main_arg1) (V m c main_arg2) (V m c main_arg3) (V m c main_arg4) (V m c main_arg5) (((cfg0.win 7).blk t).view.emb y 0)
  rw [q0, ← e]
  exact congrArg (after 7 t) (funext fun a => match a with | ⟨0, _⟩ => rfl | ⟨1, _⟩ => Fin.ext (Nat.lt_one_iff.1 (y 1).isLt))

/-- Every run of the kernel ends with the codes and scales in its results, the arguments unchanged. -/
theorem run : θ_run defs (onTc (τ := τ) (main (F := Ideal))) ⟨m, fun _ => 0, ρ⟩ fun r => ∀ c : Dev nD,
    r.2.mem ((c.tc : Thread nD τ).loc main_v0_0) = codes m c
      ∧ r.2.mem ((c.tc : Thread nD τ).loc main_v0_1) = scales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨after, hL, hm⟩ := Pipeline.RDat.FramePost.exists_exact h c
    have l6 : ∀ t : Fin cfg0.N, (cfg0.win 6).flush t = true → R6 m c t (after 6 t) := fun t hf =>
      Pipeline.Dat.toRRel_leaves (dat := dats m 0 c) (fgt := marked) (Rl := Rl m c) (w := 6) rfl (hL 6 t hf)
    have l7 : ∀ t : Fin cfg0.N, (cfg0.win 7).flush t = true → R7 m c t (after 7 t) := fun t hf =>
      Pipeline.Dat.toRRel_leaves (dat := dats m 0 c) (fgt := marked) (Rl := Rl m c) (w := 7) rfl (hL 7 t hf)
    exact ⟨(hm 6).trans (final6 m c after l6), (hm 7).trans (final7 m c after l7), unchanged_of m (rdats m) (A_eq m) h c⟩) (run_main m ρ)

/-- The claim: kernel and reference end with equal results. -/
theorem claim [Cert.GateUpIdeal.Facts] [Cert.GateUpRefIdeal.Facts] : Cert.algebraic_GateUpIdeal_GateUpRefIdeal := by
  intro m g m' g' _ hm
  refine ⟨codes m, scales m, run m g, (θ_run Cert.GateUpRefIdeal.defs _ _).mono (fun r h c => ?_) (Cert.GateUpRefIdeal.Value.run m' g')⟩
  obtain ⟨h0, h1, h2⟩ := h c
  obtain ⟨e0, e1, e2, e3, e4, e5⟩ := hm c
  rw [e0, e1, e2, e3, e4, e5] at h0 h1
  refine ⟨h0.trans ?_, h1.trans ?_, h2⟩
  · funext j
    have e : j = ix2 (j 0) (j 1) := (funext fun a => match a with | ⟨0, _⟩ => rfl | ⟨1, _⟩ => rfl)
    rw [e]
    exact GateUpRefEq.G6_at _ _ _ _ _ _ (j 0) (j 1)
  · funext j
    have e : j = ix2 (j 0) 0 := (funext fun a => match a with | ⟨0, _⟩ => rfl | ⟨1, _⟩ => Fin.ext (Nat.lt_one_iff.1 (j 1).isLt))
    rw [e]
    exact GateUpRefEq.G7_at _ _ _ _ _ _ (j 0)
end Cert.Proof.GateUpClaim

end
-- ==== Proof.DownRun.lean ====
/- One grid point of the down kernel, run from its memory operations: what it stores in the block of codes and in the block of scales. -/
module

public import proofs.«01_k».proof.Proof.Gen.Down.Frame
public import proofs.«01_k».proof.Proof.Gen.Down.Skeleton

@[expose] public section

set_option maxRecDepth 16384

noncomputable section

namespace Cert.Proof.DownRun

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 9140000 in
/-- The body at a grid point: the inputs' buffers keep their contents, the codes' and the scales' buffers end with the
    stores listed, whatever the codes' buffer held and from the scales `X` found. -/
def runBody (c : Dev nD) (i : grid0.Coords) (arg2 : Memref sig .tc .vmem S1024x3584 .fp8e4m3) (harg2 : arg2.IsWhole) (arg3 : Memref sig .tc .vmem S1024x1 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1024x512 .fp8e4m3) (harg6 : arg6.IsWhole) (arg7 : Memref sig .tc .vmem S1024x64 .f32) (harg7 : arg7.IsWhole)
    (x0 : Vec F S1024x3584 .fp8e4m3) (x1 : Vec F S1024x1 .f32) (x2 : Vec F S3584x512 .fp8e4m3) (x3 : Vec F S1x512 .f32) (X : Vec F S1024x64 .f32) :
    Σ' (L6 : List (View.Piece (Elt F) S1024x512 .fp8e4m3)), { L7 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare X
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc0_down i arg2 harg2 arg3 harg3 arg4 harg4 arg5 harg5 arg6 harg6 arg7 harg7) K } := by
  refine ⟨?_, ?_, fun E K => ?run⟩
  case run =>
    simp only [cc0_down_eq_skeleton]; unfold cc0_down_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1; obtain rfl := harg4.eq_unread hf2; obtain rfl := harg5.eq_unread hf3; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.Proof.DownRun

end
-- ==== Proof.DownFrame.lean ====
/- The down kernel (Down): nothing of the results named, every execution ends with the arguments unchanged and every counter at zero. -/
module

public import proofs.«01_k».proof.Proof.DownRun
public import Idealize.ShloMosaic.Lib.Claim

@[expose] public section

set_option maxRecDepth 16384

noncomputable section

namespace Cert.Proof.DownFrame

open Cert.Proof.DownRun
open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- Window 0's staging buffer at point `t`. -/
abbrev ms0_0 (t : Fin cfg0.N) : Memref sig .tc .vmem S1024x3584 .fp8e4m3 := win0_0.stage (cfg0.slots t 0)
/-- Window 1's staging buffer at point `t`. -/
abbrev ms0_1 (t : Fin cfg0.N) : Memref sig .tc .vmem S1024x1 .f32 := win0_1.stage (cfg0.slots t 1)
/-- Window 2's staging buffer at point `t`. -/
abbrev ms0_2 (t : Fin cfg0.N) : Memref sig .tc .vmem S3584x512 .fp8e4m3 := win0_2.stage (cfg0.slots t 2)
/-- Window 3's staging buffer at point `t`. -/
abbrev ms0_3 (t : Fin cfg0.N) : Memref sig .tc .vmem S1x512 .f32 := win0_3.stage (cfg0.slots t 3)
/-- Window 4's staging buffer at point `t`. -/
abbrev ms0_4 (t : Fin cfg0.N) : Memref sig .tc .vmem S1024x512 .fp8e4m3 := win0_4.stage (cfg0.slots t 4)
/-- Window 5's staging buffer at point `t`. -/
abbrev ms0_5 (t : Fin cfg0.N) : Memref sig .tc .vmem S1024x64 .f32 := win0_5.stage (cfg0.slots t 5)

/-- A buffer owned at contents `f` is owned at what is read of it. -/
theorem owns_of_pt {c : Dev nD} {sp : Space} {sh : Shape} {e : EltTy} (r : Memref sig .tc sp sh e) {f : Buf (Elt F) (r.view.loc (c : Thread nD τ))} :
    (r.view.loc (c : Thread nD τ) ↦[r.view.set]{fullShare} f : sProp 𝕄) ⊢ owns (c : Thread nD τ) r fullShare (r.view.read (Elt F) f) := by
  unfold owns
  iintro H
  iexists f; isplitr
  · ipureintro; rfl
  iexact H

/-- A final state of a run to the frame's post has the arguments unchanged. -/
theorem unchanged_of (m : (ℓ : Loc nD τ sig) → Buf (Elt F) ℓ) (rdat : (c : Dev nD) → Pipeline.RDat τ (Elt F) Unit ℕ (UR sig nD τ) ℕ (cfgs 0) c)
    (hA : ∀ c w, (rdat c).A w = V m c (Pipeline.arrRef spec0 w)) {r} (h : Pipeline.RDat.FramePost (cfgs 0) rdat (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(Pipeline.RDat.FramePost.arr_in h c 0 rfl).trans ((hA c 0).trans (V_main_arg0 m c)),
    (Pipeline.RDat.FramePost.arr_in h c 1 rfl).trans ((hA c 1).trans (V_main_arg1 m c)),
    (Pipeline.RDat.FramePost.arr_in h c 2 rfl).trans ((hA c 2).trans (V_main_arg2 m c)),
    (Pipeline.RDat.FramePost.arr_in h c 3 rfl).trans ((hA c 3).trans (V_main_arg3 m c))⟩

variable (m : (ℓ : Loc nD τ sig) → Buf (Elt F) ℓ) (ρ : Dev nD → PrngReg)

/-- The results, windows 4 and 5, are not named here. -/
def forgets0 : Fin 6 → Bool := fun w => w.val == 4 || w.val == 5

/-- The proof data on core `c`: the inputs' buffers hold their blocks, the results are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The arrays of the proof data are the region's. -/
theorem A_eq (c : Dev nD) (w : Fin cfg0.W) : (dats m 0 c).A w = V m c (Pipeline.arrRef spec0 w) := by
  dsimp only [dats]

/-- What the body leaves in window 0: its block. -/
theorem after0_0 (c : Dev nD) (t : Fin cfg0.N) : (dats m 0 c).after 0 t = iblk m c 0 t := by dsimp only [dats]
/-- What the body finds in window 0: its block. -/
theorem before0_0 (c : Dev nD) (t : Fin cfg0.N) (d) : (dats m 0 c).before 0 t d = iblk m c 0 t :=
  before0_0_of m (dats m 0 c) (A_eq m c 0) (after0_0 m c) t d
/-- What the body leaves in window 1: its block. -/
theorem after0_1 (c : Dev nD) (t : Fin cfg0.N) : (dats m 0 c).after 1 t = iblk m c 1 t := by dsimp only [dats]
/-- What the body finds in window 1: its block. -/
theorem before0_1 (c : Dev nD) (t : Fin cfg0.N) (d) : (dats m 0 c).before 1 t d = iblk m c 1 t :=
  before0_1_of m (dats m 0 c) (A_eq m c 1) (after0_1 m c) t d
/-- What the body leaves in window 2: its block. -/
theorem after0_2 (c : Dev nD) (t : Fin cfg0.N) : (dats m 0 c).after 2 t = iblk m c 2 t := by dsimp only [dats]
/-- What the body finds in window 2: its block. -/
theorem before0_2 (c : Dev nD) (t : Fin cfg0.N) (d) : (dats m 0 c).before 2 t d = iblk m c 2 t :=
  before0_2_of m (dats m 0 c) (A_eq m c 2) (after0_2 m c) t d
/-- What the body leaves in window 3: its block. -/
theorem after0_3 (c : Dev nD) (t : Fin cfg0.N) : (dats m 0 c).after 3 t = iblk m c 3 t := by dsimp only [dats]
/-- What the body finds in window 3: its block. -/
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d))

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨Hg, Ho, ⟨%d0, H0⟩, ⟨%d1, H1⟩, ⟨%d2, H2⟩, ⟨%d3, H3⟩, H4, ⟨%X, H5⟩⟩
  iapply (runBody (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (iblk m c 0 t) (iblk m c 1 t) (iblk m c 2 t) (iblk m c 3 t) X).2.2 Set.univ
  isplitl [H0]; · iexact H0
  isplitl [H1]; · iexact H1
  isplitl [H2]; · iexact H2
  isplitl [H3]; · iexact H3
  isplitl [H4]; · iexact H4
  isplitl [H5]; · iexact H5
  iintro ⟨H0, H1, H2, H3, ⟨%f4, H4⟩, ⟨%f5, H5⟩⟩
  isplitl [Hg]; · iexact Hg
  isplitl [Ho]; · iexact Ho
  isplitl [H0]; · iexact H0
  isplitl [H1]; · iexact H1
  isplitl [H2]; · iexact H2
  isplitl [H3]; · iexact H3
  isplitl [H4]
  · iexists _; iapply owns_of_pt; iexact H4
  iexists _; iapply owns_of_pt; iexact H5

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every execution ends in the frame's state, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨unchanged_of m (fun c => (dats m 0 c).toRForget forgets0) (A_eq m) h.1, h.2⟩) (run_main_quiescent m ρ)

end Cert.Proof.DownFrame

end
-- ==== Proof.DownIdealRun.lean ====
/- One grid point of the down kernel, run from its memory operations: what it stores in the block of codes and in the block of scales. -/
module

public import proofs.«01_k».proof.Proof.Gen.DownIdeal.Frame
public import proofs.«01_k».proof.Proof.Gen.DownIdeal.Skeleton

@[expose] public section

set_option maxRecDepth 16384

noncomputable section

namespace Cert.Proof.DownIdealRun

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 9140000 in
/-- The body at a grid point: the inputs' buffers keep their contents, the codes' and the scales' buffers end with the
    stores listed, whatever the codes' buffer held and from the scales `X` found. -/
def runBody (c : Dev nD) (i : grid0.Coords) (arg2 : Memref sig .tc .vmem S1024x3584 .fp8e4m3) (harg2 : arg2.IsWhole) (arg3 : Memref sig .tc .vmem S1024x1 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1024x512 .fp8e4m3) (harg6 : arg6.IsWhole) (arg7 : Memref sig .tc .vmem S1024x64 .f32) (harg7 : arg7.IsWhole)
    (x0 : Vec F S1024x3584 .fp8e4m3) (x1 : Vec F S1024x1 .f32) (x2 : Vec F S3584x512 .fp8e4m3) (x3 : Vec F S1x512 .f32) (X : Vec F S1024x64 .f32) :
    Σ' (L6 : List (View.Piece (Elt F) S1024x512 .fp8e4m3)), { L7 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare X
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc0_down i arg2 harg2 arg3 harg3 arg4 harg4 arg5 harg5 arg6 harg6 arg7 harg7) K } := by
  refine ⟨?_, ?_, fun E K => ?run⟩
  case run =>
    simp only [cc0_down_eq_skeleton]; unfold cc0_down_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1; obtain rfl := harg4.eq_unread hf2; obtain rfl := harg5.eq_unread hf3; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.Proof.DownIdealRun

end
-- ==== Proof.DownIdealFrame.lean ====
/- The down kernel (DownIdeal): nothing of the results named, every execution ends with the arguments unchanged and every counter at zero. -/
module

public import proofs.«01_k».proof.Proof.DownIdealRun
public import Idealize.ShloMosaic.Lib.Claim

@[expose] public section

set_option maxRecDepth 16384

noncomputable section

namespace Cert.Proof.DownIdealFrame

open Cert.Proof.DownIdealRun
open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- Window 0's staging buffer at point `t`. -/
abbrev ms0_0 (t : Fin cfg0.N) : Memref sig .tc .vmem S1024x3584 .fp8e4m3 := win0_0.stage (cfg0.slots t 0)
/-- Window 1's staging buffer at point `t`. -/
abbrev ms0_1 (t : Fin cfg0.N) : Memref sig .tc .vmem S1024x1 .f32 := win0_1.stage (cfg0.slots t 1)
/-- Window 2's staging buffer at point `t`. -/
abbrev ms0_2 (t : Fin cfg0.N) : Memref sig .tc .vmem S3584x512 .fp8e4m3 := win0_2.stage (cfg0.slots t 2)
/-- Window 3's staging buffer at point `t`. -/
abbrev ms0_3 (t : Fin cfg0.N) : Memref sig .tc .vmem S1x512 .f32 := win0_3.stage (cfg0.slots t 3)
/-- Window 4's staging buffer at point `t`. -/
abbrev ms0_4 (t : Fin cfg0.N) : Memref sig .tc .vmem S1024x512 .fp8e4m3 := win0_4.stage (cfg0.slots t 4)
/-- Window 5's staging buffer at point `t`. -/
abbrev ms0_5 (t : Fin cfg0.N) : Memref sig .tc .vmem S1024x64 .f32 := win0_5.stage (cfg0.slots t 5)

/-- A buffer owned at contents `f` is owned at what is read of it. -/
theorem owns_of_pt {c : Dev nD} {sp : Space} {sh : Shape} {e : EltTy} (r : Memref sig .tc sp sh e) {f : Buf (Elt F) (r.view.loc (c : Thread nD τ))} :
    (r.view.loc (c : Thread nD τ) ↦[r.view.set]{fullShare} f : sProp 𝕄) ⊢ owns (c : Thread nD τ) r fullShare (r.view.read (Elt F) f) := by
  unfold owns
  iintro H
  iexists f; isplitr
  · ipureintro; rfl
  iexact H

/-- A final state of a run to the frame's post has the arguments unchanged. -/
theorem unchanged_of (m : (ℓ : Loc nD τ sig) → Buf (Elt F) ℓ) (rdat : (c : Dev nD) → Pipeline.RDat τ (Elt F) Unit ℕ (UR sig nD τ) ℕ (cfgs 0) c)
    (hA : ∀ c w, (rdat c).A w = V m c (Pipeline.arrRef spec0 w)) {r} (h : Pipeline.RDat.FramePost (cfgs 0) rdat (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(Pipeline.RDat.FramePost.arr_in h c 0 rfl).trans ((hA c 0).trans (V_main_arg0 m c)),
    (Pipeline.RDat.FramePost.arr_in h c 1 rfl).trans ((hA c 1).trans (V_main_arg1 m c)),
    (Pipeline.RDat.FramePost.arr_in h c 2 rfl).trans ((hA c 2).trans (V_main_arg2 m c)),
    (Pipeline.RDat.FramePost.arr_in h c 3 rfl).trans ((hA c 3).trans (V_main_arg3 m c))⟩

variable (m : (ℓ : Loc nD τ sig) → Buf (Elt F) ℓ) (ρ : Dev nD → PrngReg)

/-- The results, windows 4 and 5, are not named here. -/
def forgets0 : Fin 6 → Bool := fun w => w.val == 4 || w.val == 5

/-- The proof data on core `c`: the inputs' buffers hold their blocks, the results are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The arrays of the proof data are the region's. -/
theorem A_eq (c : Dev nD) (w : Fin cfg0.W) : (dats m 0 c).A w = V m c (Pipeline.arrRef spec0 w) := by
  dsimp only [dats]

/-- What the body leaves in window 0: its block. -/
theorem after0_0 (c : Dev nD) (t : Fin cfg0.N) : (dats m 0 c).after 0 t = iblk m c 0 t := by dsimp only [dats]
/-- What the body finds in window 0: its block. -/
theorem before0_0 (c : Dev nD) (t : Fin cfg0.N) (d) : (dats m 0 c).before 0 t d = iblk m c 0 t :=
  before0_0_of m (dats m 0 c) (A_eq m c 0) (after0_0 m c) t d
/-- What the body leaves in window 1: its block. -/
theorem after0_1 (c : Dev nD) (t : Fin cfg0.N) : (dats m 0 c).after 1 t = iblk m c 1 t := by dsimp only [dats]
/-- What the body finds in window 1: its block. -/
theorem before0_1 (c : Dev nD) (t : Fin cfg0.N) (d) : (dats m 0 c).before 1 t d = iblk m c 1 t :=
  before0_1_of m (dats m 0 c) (A_eq m c 1) (after0_1 m c) t d
/-- What the body leaves in window 2: its block. -/
theorem after0_2 (c : Dev nD) (t : Fin cfg0.N) : (dats m 0 c).after 2 t = iblk m c 2 t := by dsimp only [dats]
/-- What the body finds in window 2: its block. -/
theorem before0_2 (c : Dev nD) (t : Fin cfg0.N) (d) : (dats m 0 c).before 2 t d = iblk m c 2 t :=
  before0_2_of m (dats m 0 c) (A_eq m c 2) (after0_2 m c) t d
/-- What the body leaves in window 3: its block. -/
theorem after0_3 (c : Dev nD) (t : Fin cfg0.N) : (dats m 0 c).after 3 t = iblk m c 3 t := by dsimp only [dats]
/-- What the body finds in window 3: its block. -/
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d))

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨Hg, Ho, ⟨%d0, H0⟩, ⟨%d1, H1⟩, ⟨%d2, H2⟩, ⟨%d3, H3⟩, H4, ⟨%X, H5⟩⟩
  iapply (runBody (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (iblk m c 0 t) (iblk m c 1 t) (iblk m c 2 t) (iblk m c 3 t) X).2.2 Set.univ
  isplitl [H0]; · iexact H0
  isplitl [H1]; · iexact H1
  isplitl [H2]; · iexact H2
  isplitl [H3]; · iexact H3
  isplitl [H4]; · iexact H4
  isplitl [H5]; · iexact H5
  iintro ⟨H0, H1, H2, H3, ⟨%f4, H4⟩, ⟨%f5, H5⟩⟩
  isplitl [Hg]; · iexact Hg
  isplitl [Ho]; · iexact Ho
  isplitl [H0]; · iexact H0
  isplitl [H1]; · iexact H1
  isplitl [H2]; · iexact H2
  isplitl [H3]; · iexact H3
  isplitl [H4]
  · iexists _; iapply owns_of_pt; iexact H4
  iexists _; iapply owns_of_pt; iexact H5

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every execution ends in the frame's state, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨unchanged_of m (fun c => (dats m 0 c).toRForget forgets0) (A_eq m) h.1, h.2⟩) (run_main_quiescent m ρ)

end Cert.Proof.DownIdealFrame

end
-- ==== Proof.Quant.lean ====
/- The quantiser on the extended reals: the magnitude, the scale of a list of values, and a value's code. -/
module

public import Idealize.ShloMosaic.Lib.Pointwise

@[expose] public section

noncomputable section

namespace Cert.Proof.Quant

open Idealize.ShloMosaic

/-- The magnitude of a number. -/
def ab (x : EReal) : EReal := FloatOps.absf (F := Ideal) (φ := .f32) x

/-- The largest magnitude of a list of values. -/
def mxF {n : ℕ} (f : Fin n → EReal) : EReal := Finset.fold max (Ideal.ofBits FTy.f32 4286578688#32) (fun q => ab (f q)) Finset.univ

/-- The scale of a largest magnitude: that over 448, or one for zero. -/
def scM (y : EReal) : EReal := if 0 < y then Ideal.div y (Ideal.ofBits FTy.f32 1138753536#32) else 1

/-- The scale of a list of values. -/
def scF {n : ℕ} (f : Fin n → EReal) : EReal := scM (mxF f)

/-- The code of a value at a scale: the quotient, clipped. -/
def cdF (y s : EReal) : EReal :=
  min (Ideal.ofBits FTy.f32 1138753536#32) (max (Ideal.ofBits FTy.f32 3286237184#32) (Ideal.div y s))

/-- A magnitude is not negative. -/
theorem ab_nonneg (x : EReal) : 0 ≤ ab x := by
  show (0 : EReal) ≤ max x (-x)
  rcases le_total 0 x with h | h
  · exact le_max_of_le_left h
  · exact le_max_of_le_right (EReal.neg_nonneg.2 h)

end Cert.Proof.Quant

end
-- ==== Proof.DownMath.lean ====
/- The mathematics of the down projection on whole arrays: the products, the scales of their groups of 128 columns, and the codes. -/
module

public import proofs.«01_k».proof.Proof.Quant

@[expose] public section

noncomputable section

namespace Cert.Proof.DownMath

open Cert.Proof.Quant
open Idealize.ShloMosaic

/-- The product at row `r` and column `q`: the matrix product scaled by row and by column. -/
def pV (a0 : Vec Ideal ⟨2, ![4096, 3584]⟩ .fp8e4m3) (a1 : Vec Ideal ⟨2, ![4096, 1]⟩ .f32) (a2 : Vec Ideal ⟨2, ![3584, 8192]⟩ .fp8e4m3) (a3 : Vec Ideal ⟨2, ![1, 8192]⟩ .f32) (r : Fin 4096) (q : Fin 8192) : EReal := (∑ k, a0 (ix2 r k) * a2 (ix2 k q)) * a1 (ix2 r 0) * a3 (ix2 0 q)

/-- The scale of group `g` of row `r`. -/
def scP (a0 : Vec Ideal ⟨2, ![4096, 3584]⟩ .fp8e4m3) (a1 : Vec Ideal ⟨2, ![4096, 1]⟩ .f32) (a2 : Vec Ideal ⟨2, ![3584, 8192]⟩ .fp8e4m3) (a3 : Vec Ideal ⟨2, ![1, 8192]⟩ .f32) (r : Fin 4096) (g : Fin 64) : EReal := scF fun l : Fin 128 => pV a0 a1 a2 a3 r ⟨g.val * 128 + l.val, by omega⟩

/-- The code at row `r` and column `q`. -/
def cdP (a0 : Vec Ideal ⟨2, ![4096, 3584]⟩ .fp8e4m3) (a1 : Vec Ideal ⟨2, ![4096, 1]⟩ .f32) (a2 : Vec Ideal ⟨2, ![3584, 8192]⟩ .fp8e4m3) (a3 : Vec Ideal ⟨2, ![1, 8192]⟩ .f32) (r : Fin 4096) (q : Fin 8192) : EReal := cdF (pV a0 a1 a2 a3 r q) (scP a0 a1 a2 a3 r ⟨q.val / 128, by omega⟩)

end Cert.Proof.DownMath

end
-- ==== Proof.DownIdealBlock.lean ====
/- The values the down kernel stores at a grid point: the scales and codes of groups of 128 columns of the products. -/
module

public import proofs.«01_k».proof.Proof.DownIdealRun
public import proofs.«01_k».proof.Proof.Quant
public import Idealize.ShloMosaic.Lib.Pointwise
public import Idealize.ShloMosaic.Lib.Pipeline.ValueKit.Acc
public import Idealize.ShloMosaic.Lib.Pipeline.ValueKit.Tiles

@[expose] public section

set_option maxRecDepth 16384

noncomputable section

namespace Cert.Proof.DownIdealBlock

open Cert.Proof.DownIdealRun Cert.Proof.Quant
open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-- The scales of the rows of a group of 128 columns, as the kernel computes them. -/
def scW (v : FVec Ideal S256x128 .f32) : FVec Ideal S256x1 .f32 :=
  select (cmpf .ogt (shapeCast S256x1 (multiReduction .maximumf [1] S256 (absf v) 0xFF800000#32 reduces_S256x128_S256 (.inl rfl) rfl) shapeCasts_S256_S256x1) (broadcast S256x1 (Scalar.ofBits .f32 0x00000000#32 : Ideal .f32)))
    (divf (shapeCast S256x1 (multiReduction .maximumf [1] S256 (absf v) 0xFF800000#32 reduces_S256x128_S256 (.inl rfl) rfl) shapeCasts_S256_S256x1) (broadcast S256x1 (Scalar.ofBits .f32 0x43E00000#32 : Ideal .f32)))
    (broadcast S256x1 (Scalar.ofBits .f32 0x3F800000#32 : Ideal .f32))

/-- The codes of a group of 128 columns, as the kernel computes them. -/
def cdW (v : FVec Ideal S256x128 .f32) : FVec Ideal S256x128 .fp8e4m3 :=
  truncf .fp8e4m3 (minimumf (broadcast S256x128 (Scalar.ofBits .f32 0x43E00000#32 : Ideal .f32)) (maximumf (broadcast S256x128 (Scalar.ofBits .f32 0xC3E00000#32 : Ideal .f32)) (divf v (broadcastTo S256x128 (scW v) broadcasts_S256x1_S256x128)))) bitsLt_fp8e4m3_f32

/-- The scales put at lane `4 n + k` of the block of scales. -/
def slW (i : grid0.Coords) (k : BitVec 32) (s : FVec Ideal S256x1 .f32) (w : FVec Ideal S256x64 .f32) : FVec Ideal S256x64 .f32 :=
  select (cmpi .eq (iota .tc S256x64 32 [1] iota_S256x64_d1_w32) (broadcast S256x64 (Scalar.addi (Scalar.muli (BitVec.ofNat 32 (i 1).val) 4#32) k)))
    (broadcastTo S256x64 (shapeCast S256x1 s shapeCasts_S256x1_S256x1) broadcasts_S256x1_S256x64) w

/-- Columns 0 to 127 of the products. -/
def g0 (p : FVec Ideal S256x512 .f32) : FVec Ideal S256x128 .f32 := extractStridedSlice S256x128 ![0, 0] p slices_S256x512_o0_0_S256x128
/-- Columns 128 to 255 of the products. -/
def g1 (p : FVec Ideal S256x512 .f32) : FVec Ideal S256x128 .f32 := extractStridedSlice S256x128 ![0, 128] p slices_S256x512_o0_128_S256x128
/-- Columns 256 to 383 of the products. -/
def g2 (p : FVec Ideal S256x512 .f32) : FVec Ideal S256x128 .f32 := extractStridedSlice S256x128 ![0, 256] p slices_S256x512_o0_256_S256x128
/-- Columns 384 to 511 of the products. -/
def g3 (p : FVec Ideal S256x512 .f32) : FVec Ideal S256x128 .f32 := extractStridedSlice S256x128 ![0, 384] p slices_S256x512_o0_384_S256x128

/-- The block of scales after the four groups of columns. -/
def s4 (i : grid0.Coords) (p : FVec Ideal S256x512 .f32) (w : FVec Ideal S256x64 .f32) : FVec Ideal S256x64 .f32 :=
  slW i 3#32 (scW (g3 p)) (slW i 2#32 (scW (g2 p)) (slW i 1#32 (scW (g1 p)) (slW i 0#32 (scW (g0 p)) (k0_pay4 w))))

set_option maxHeartbeats 4000000 in
/-- The stores into the block of codes. -/
theorem L6_eq (c : Dev nD) (i : grid0.Coords) (arg2 : Memref sig .tc .vmem S1024x3584 .fp8e4m3) (harg2 : arg2.IsWhole) (arg3 : Memref sig .tc .vmem S1024x1 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1024x512 .fp8e4m3) (harg6 : arg6.IsWhole) (arg7 : Memref sig .tc .vmem S1024x64 .f32) (harg7 : arg7.IsWhole) (x0 : Vec Ideal S1024x3584 .fp8e4m3) (x1 : Vec Ideal S1024x1 .f32) (x2 : Vec Ideal S3584x512 .fp8e4m3) (x3 : Vec Ideal S1x512 .f32) (X : Vec Ideal S1024x64 .f32) : (runBody (F := Ideal) c i arg2 harg2 arg3 harg3 arg4 harg4 arg5 harg5 arg6 harg6 arg7 harg7 x0 x1 x2 x3 X).1 = [⟨Rect.unit (s := S1024x512) ![768, 384] S256x128.size inb_S1024x512_S256x128_768_384, cdW (g3 (k0_pay3 (View.readAt (Elt Ideal) arg2.view (Rect.unit (s := S1024x3584) ![768, 0] S256x3584.size inb_S1024x3584_S256x3584_768_0).toLoadRect (harg2.unread x0)) (View.readAt (Elt Ideal) arg4.view (Rect.unit (s := S3584x512) ![0, 0] S3584x512.size inb_S3584x512_S3584x512_0_0).toLoadRect (harg4.unread x2)) (View.readAt (Elt Ideal) arg3.view (Rect.unit (s := S1024x1) ![768, 0] S256x1.size inb_S1024x1_S256x1_768_0).toLoadRect (harg3.unread x1)) (View.readAt (Elt Ideal) arg5.view (Rect.unit (s := S1x512) ![0, 0] S1x512.size inb_S1x512_S1x512_0_0).toLoadRect (harg5.unread x3))))⟩,
    ⟨Rect.unit (s := S1024x512) ![768, 256] S256x128.size inb_S1024x512_S256x128_768_256, cdW (g2 (k0_pay3 (View.readAt (Elt Ideal) arg2.view (Rect.unit (s := S1024x3584) ![768, 0] S256x3584.size inb_S1024x3584_S256x3584_768_0).toLoadRect (harg2.unread x0)) (View.readAt (Elt Ideal) arg4.view (Rect.unit (s := S3584x512) ![0, 0] S3584x512.size inb_S3584x512_S3584x512_0_0).toLoadRect (harg4.unread x2)) (View.readAt (Elt Ideal) arg3.view (Rect.unit (s := S1024x1) ![768, 0] S256x1.size inb_S1024x1_S256x1_768_0).toLoadRect (harg3.unread x1)) (View.readAt (Elt Ideal) arg5.view (Rect.unit (s := S1x512) ![0, 0] S1x512.size inb_S1x512_S1x512_0_0).toLoadRect (harg5.unread x3))))⟩,
    ⟨Rect.unit (s := S1024x512) ![768, 128] S256x128.size inb_S1024x512_S256x128_768_128, cdW (g1 (k0_pay3 (View.readAt (Elt Ideal) arg2.view (Rect.unit (s := S1024x3584) ![768, 0] S256x3584.size inb_S1024x3584_S256x3584_768_0).toLoadRect (harg2.unread x0)) (View.readAt (Elt Ideal) arg4.view (Rect.unit (s := S3584x512) ![0, 0] S3584x512.size inb_S3584x512_S3584x512_0_0).toLoadRect (harg4.unread x2)) (View.readAt (Elt Ideal) arg3.view (Rect.unit (s := S1024x1) ![768, 0] S256x1.size inb_S1024x1_S256x1_768_0).toLoadRect (harg3.unread x1)) (View.readAt (Elt Ideal) arg5.view (Rect.unit (s := S1x512) ![0, 0] S1x512.size inb_S1x512_S1x512_0_0).toLoadRect (harg5.unread x3))))⟩,
    ⟨Rect.unit (s := S1024x512) ![768, 0] S256x128.size inb_S1024x512_S256x128_768_0, cdW (g0 (k0_pay3 (View.readAt (Elt Ideal) arg2.view (Rect.unit (s := S1024x3584) ![768, 0] S256x3584.size inb_S1024x3584_S256x3584_768_0).toLoadRect (harg2.unread x0)) (View.readAt (Elt Ideal) arg4.view (Rect.unit (s := S3584x512) ![0, 0] S3584x512.size inb_S3584x512_S3584x512_0_0).toLoadRect (harg4.unread x2)) (View.readAt (Elt Ideal) arg3.view (Rect.unit (s := S1024x1) ![768, 0] S256x1.size inb_S1024x1_S256x1_768_0).toLoadRect (harg3.unread x1)) (View.readAt (Elt Ideal) arg5.view (Rect.unit (s := S1x512) ![0, 0] S1x512.size inb_S1x512_S1x512_0_0).toLoadRect (harg5.unread x3))))⟩,
    ⟨Rect.unit (s := S1024x512) ![512, 384] S256x128.size inb_S1024x512_S256x128_512_384, cdW (g3 (k0_pay3 (View.readAt (Elt Ideal) arg2.view (Rect.unit (s := S1024x3584) ![512, 0] S256x3584.size inb_S1024x3584_S256x3584_512_0).toLoadRect (harg2.unread x0)) (View.readAt (Elt Ideal) arg4.view (Rect.unit (s := S3584x512) ![0, 0] S3584x512.size inb_S3584x512_S3584x512_0_0).toLoadRect (harg4.unread x2)) (View.readAt (Elt Ideal) arg3.view (Rect.unit (s := S1024x1) ![512, 0] S256x1.size inb_S1024x1_S256x1_512_0).toLoadRect (harg3.unread x1)) (View.readAt (Elt Ideal) arg5.view (Rect.unit (s := S1x512) ![0, 0] S1x512.size inb_S1x512_S1x512_0_0).toLoadRect (harg5.unread x3))))⟩,
    ⟨Rect.unit (s := S1024x512) ![512, 256] S256x128.size inb_S1024x512_S256x128_512_256, cdW (g2 (k0_pay3 (View.readAt (Elt Ideal) arg2.view (Rect.unit (s := S1024x3584) ![512, 0] S256x3584.size inb_S1024x3584_S256x3584_512_0).toLoadRect (harg2.unread x0)) (View.readAt (Elt Ideal) arg4.view (Rect.unit (s := S3584x512) ![0, 0] S3584x512.size inb_S3584x512_S3584x512_0_0).toLoadRect (harg4.unread x2)) (View.readAt (Elt Ideal) arg3.view (Rect.unit (s := S1024x1) ![512, 0] S256x1.size inb_S1024x1_S256x1_512_0).toLoadRect (harg3.unread x1)) (View.readAt (Elt Ideal) arg5.view (Rect.unit (s := S1x512) ![0, 0] S1x512.size inb_S1x512_S1x512_0_0).toLoadRect (harg5.unread x3))))⟩,
    ⟨Rect.unit (s := S1024x512) ![512, 128] S256x128.size inb_S1024x512_S256x128_512_128, cdW (g1 (k0_pay3 (View.readAt (Elt Ideal) arg2.view (Rect.unit (s := S1024x3584) ![512, 0] S256x3584.size inb_S1024x3584_S256x3584_512_0).toLoadRect (harg2.unread x0)) (View.readAt (Elt Ideal) arg4.view (Rect.unit (s := S3584x512) ![0, 0] S3584x512.size inb_S3584x512_S3584x512_0_0).toLoadRect (harg4.unread x2)) (View.readAt (Elt Ideal) arg3.view (Rect.unit (s := S1024x1) ![512, 0] S256x1.size inb_S1024x1_S256x1_512_0).toLoadRect (harg3.unread x1)) (View.readAt (Elt Ideal) arg5.view (Rect.unit (s := S1x512) ![0, 0] S1x512.size inb_S1x512_S1x512_0_0).toLoadRect (harg5.unread x3))))⟩,
    ⟨Rect.unit (s := S1024x512) ![512, 0] S256x128.size inb_S1024x512_S256x128_512_0, cdW (g0 (k0_pay3 (View.readAt (Elt Ideal) arg2.view (Rect.unit (s := S1024x3584) ![512, 0] S256x3584.size inb_S1024x3584_S256x3584_512_0).toLoadRect (harg2.unread x0)) (View.readAt (Elt Ideal) arg4.view (Rect.unit (s := S3584x512) ![0, 0] S3584x512.size inb_S3584x512_S3584x512_0_0).toLoadRect (harg4.unread x2)) (View.readAt (Elt Ideal) arg3.view (Rect.unit (s := S1024x1) ![512, 0] S256x1.size inb_S1024x1_S256x1_512_0).toLoadRect (harg3.unread x1)) (View.readAt (Elt Ideal) arg5.view (Rect.unit (s := S1x512) ![0, 0] S1x512.size inb_S1x512_S1x512_0_0).toLoadRect (harg5.unread x3))))⟩,
    ⟨Rect.unit (s := S1024x512) ![256, 384] S256x128.size inb_S1024x512_S256x128_256_384, cdW (g3 (k0_pay3 (View.readAt (Elt Ideal) arg2.view (Rect.unit (s := S1024x3584) ![256, 0] S256x3584.size inb_S1024x3584_S256x3584_256_0).toLoadRect (harg2.unread x0)) (View.readAt (Elt Ideal) arg4.view (Rect.unit (s := S3584x512) ![0, 0] S3584x512.size inb_S3584x512_S3584x512_0_0).toLoadRect (harg4.unread x2)) (View.readAt (Elt Ideal) arg3.view (Rect.unit (s := S1024x1) ![256, 0] S256x1.size inb_S1024x1_S256x1_256_0).toLoadRect (harg3.unread x1)) (View.readAt (Elt Ideal) arg5.view (Rect.unit (s := S1x512) ![0, 0] S1x512.size inb_S1x512_S1x512_0_0).toLoadRect (harg5.unread x3))))⟩,
    ⟨Rect.unit (s := S1024x512) ![256, 256] S256x128.size inb_S1024x512_S256x128_256_256, cdW (g2 (k0_pay3 (View.readAt (Elt Ideal) arg2.view (Rect.unit (s := S1024x3584) ![256, 0] S256x3584.size inb_S1024x3584_S256x3584_256_0).toLoadRect (harg2.unread x0)) (View.readAt (Elt Ideal) arg4.view (Rect.unit (s := S3584x512) ![0, 0] S3584x512.size inb_S3584x512_S3584x512_0_0).toLoadRect (harg4.unread x2)) (View.readAt (Elt Ideal) arg3.view (Rect.unit (s := S1024x1) ![256, 0] S256x1.size inb_S1024x1_S256x1_256_0).toLoadRect (harg3.unread x1)) (View.readAt (Elt Ideal) arg5.view (Rect.unit (s := S1x512) ![0, 0] S1x512.size inb_S1x512_S1x512_0_0).toLoadRect (harg5.unread x3))))⟩,
    ⟨Rect.unit (s := S1024x512) ![256, 128] S256x128.size inb_S1024x512_S256x128_256_128, cdW (g1 (k0_pay3 (View.readAt (Elt Ideal) arg2.view (Rect.unit (s := S1024x3584) ![256, 0] S256x3584.size inb_S1024x3584_S256x3584_256_0).toLoadRect (harg2.unread x0)) (View.readAt (Elt Ideal) arg4.view (Rect.unit (s := S3584x512) ![0, 0] S3584x512.size inb_S3584x512_S3584x512_0_0).toLoadRect (harg4.unread x2)) (View.readAt (Elt Ideal) arg3.view (Rect.unit (s := S1024x1) ![256, 0] S256x1.size inb_S1024x1_S256x1_256_0).toLoadRect (harg3.unread x1)) (View.readAt (Elt Ideal) arg5.view (Rect.unit (s := S1x512) ![0, 0] S1x512.size inb_S1x512_S1x512_0_0).toLoadRect (harg5.unread x3))))⟩,
    ⟨Rect.unit (s := S1024x512) ![256, 0] S256x128.size inb_S1024x512_S256x128_256_0, cdW (g0 (k0_pay3 (View.readAt (Elt Ideal) arg2.view (Rect.unit (s := S1024x3584) ![256, 0] S256x3584.size inb_S1024x3584_S256x3584_256_0).toLoadRect (harg2.unread x0)) (View.readAt (Elt Ideal) arg4.view (Rect.unit (s := S3584x512) ![0, 0] S3584x512.size inb_S3584x512_S3584x512_0_0).toLoadRect (harg4.unread x2)) (View.readAt (Elt Ideal) arg3.view (Rect.unit (s := S1024x1) ![256, 0] S256x1.size inb_S1024x1_S256x1_256_0).toLoadRect (harg3.unread x1)) (View.readAt (Elt Ideal) arg5.view (Rect.unit (s := S1x512) ![0, 0] S1x512.size inb_S1x512_S1x512_0_0).toLoadRect (harg5.unread x3))))⟩,
    ⟨Rect.unit (s := S1024x512) ![0, 384] S256x128.size inb_S1024x512_S256x128_0_384, cdW (g3 (k0_pay3 (View.readAt (Elt Ideal) arg2.view (Rect.unit (s := S1024x3584) ![0, 0] S256x3584.size inb_S1024x3584_S256x3584_0_0).toLoadRect (harg2.unread x0)) (View.readAt (Elt Ideal) arg4.view (Rect.unit (s := S3584x512) ![0, 0] S3584x512.size inb_S3584x512_S3584x512_0_0).toLoadRect (harg4.unread x2)) (View.readAt (Elt Ideal) arg3.view (Rect.unit (s := S1024x1) ![0, 0] S256x1.size inb_S1024x1_S256x1_0_0).toLoadRect (harg3.unread x1)) (View.readAt (Elt Ideal) arg5.view (Rect.unit (s := S1x512) ![0, 0] S1x512.size inb_S1x512_S1x512_0_0).toLoadRect (harg5.unread x3))))⟩,
    ⟨Rect.unit (s := S1024x512) ![0, 256] S256x128.size inb_S1024x512_S256x128_0_256, cdW (g2 (k0_pay3 (View.readAt (Elt Ideal) arg2.view (Rect.unit (s := S1024x3584) ![0, 0] S256x3584.size inb_S1024x3584_S256x3584_0_0).toLoadRect (harg2.unread x0)) (View.readAt (Elt Ideal) arg4.view (Rect.unit (s := S3584x512) ![0, 0] S3584x512.size inb_S3584x512_S3584x512_0_0).toLoadRect (harg4.unread x2)) (View.readAt (Elt Ideal) arg3.view (Rect.unit (s := S1024x1) ![0, 0] S256x1.size inb_S1024x1_S256x1_0_0).toLoadRect (harg3.unread x1)) (View.readAt (Elt Ideal) arg5.view (Rect.unit (s := S1x512) ![0, 0] S1x512.size inb_S1x512_S1x512_0_0).toLoadRect (harg5.unread x3))))⟩,
    ⟨Rect.unit (s := S1024x512) ![0, 128] S256x128.size inb_S1024x512_S256x128_0_128, cdW (g1 (k0_pay3 (View.readAt (Elt Ideal) arg2.view (Rect.unit (s := S1024x3584) ![0, 0] S256x3584.size inb_S1024x3584_S256x3584_0_0).toLoadRect (harg2.unread x0)) (View.readAt (Elt Ideal) arg4.view (Rect.unit (s := S3584x512) ![0, 0] S3584x512.size inb_S3584x512_S3584x512_0_0).toLoadRect (harg4.unread x2)) (View.readAt (Elt Ideal) arg3.view (Rect.unit (s := S1024x1) ![0, 0] S256x1.size inb_S1024x1_S256x1_0_0).toLoadRect (harg3.unread x1)) (View.readAt (Elt Ideal) arg5.view (Rect.unit (s := S1x512) ![0, 0] S1x512.size inb_S1x512_S1x512_0_0).toLoadRect (harg5.unread x3))))⟩,
    ⟨Rect.unit (s := S1024x512) ![0, 0] S256x128.size inb_S1024x512_S256x128_0_0, cdW (g0 (k0_pay3 (View.readAt (Elt Ideal) arg2.view (Rect.unit (s := S1024x3584) ![0, 0] S256x3584.size inb_S1024x3584_S256x3584_0_0).toLoadRect (harg2.unread x0)) (View.readAt (Elt Ideal) arg4.view (Rect.unit (s := S3584x512) ![0, 0] S3584x512.size inb_S3584x512_S3584x512_0_0).toLoadRect (harg4.unread x2)) (View.readAt (Elt Ideal) arg3.view (Rect.unit (s := S1024x1) ![0, 0] S256x1.size inb_S1024x1_S256x1_0_0).toLoadRect (harg3.unread x1)) (View.readAt (Elt Ideal) arg5.view (Rect.unit (s := S1x512) ![0, 0] S1x512.size inb_S1x512_S1x512_0_0).toLoadRect (harg5.unread x3))))⟩] := rfl

set_option maxHeartbeats 4000000 in
/-- The stores into the block of scales. -/
theorem L7_eq (c : Dev nD) (i : grid0.Coords) (arg2 : Memref sig .tc .vmem S1024x3584 .fp8e4m3) (harg2 : arg2.IsWhole) (arg3 : Memref sig .tc .vmem S1024x1 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1024x512 .fp8e4m3) (harg6 : arg6.IsWhole) (arg7 : Memref sig .tc .vmem S1024x64 .f32) (harg7 : arg7.IsWhole) (x0 : Vec Ideal S1024x3584 .fp8e4m3) (x1 : Vec Ideal S1024x1 .f32) (x2 : Vec Ideal S3584x512 .fp8e4m3) (x3 : Vec Ideal S1x512 .f32) (X : Vec Ideal S1024x64 .f32) : (runBody (F := Ideal) c i arg2 harg2 arg3 harg3 arg4 harg4 arg5 harg5 arg6 harg6 arg7 harg7 x0 x1 x2 x3 X).2.1 = [⟨Rect.unit (s := S1024x64) ![768, 0] S256x64.size inb_S1024x64_S256x64_768_0, s4 i (k0_pay3 (View.readAt (Elt Ideal) arg2.view (Rect.unit (s := S1024x3584) ![768, 0] S256x3584.size inb_S1024x3584_S256x3584_768_0).toLoadRect (harg2.unread x0)) (View.readAt (Elt Ideal) arg4.view (Rect.unit (s := S3584x512) ![0, 0] S3584x512.size inb_S3584x512_S3584x512_0_0).toLoadRect (harg4.unread x2)) (View.readAt (Elt Ideal) arg3.view (Rect.unit (s := S1024x1) ![768, 0] S256x1.size inb_S1024x1_S256x1_768_0).toLoadRect (harg3.unread x1)) (View.readAt (Elt Ideal) arg5.view (Rect.unit (s := S1x512) ![0, 0] S1x512.size inb_S1x512_S1x512_0_0).toLoadRect (harg5.unread x3))) (View.readAt (Elt Ideal) arg7.view (Rect.unit (s := S1024x64) ![768, 0] S256x64.size inb_S1024x64_S256x64_768_0).toLoadRect (harg7.unread X))⟩,
    ⟨Rect.unit (s := S1024x64) ![512, 0] S256x64.size inb_S1024x64_S256x64_512_0, s4 i (k0_pay3 (View.readAt (Elt Ideal) arg2.view (Rect.unit (s := S1024x3584) ![512, 0] S256x3584.size inb_S1024x3584_S256x3584_512_0).toLoadRect (harg2.unread x0)) (View.readAt (Elt Ideal) arg4.view (Rect.unit (s := S3584x512) ![0, 0] S3584x512.size inb_S3584x512_S3584x512_0_0).toLoadRect (harg4.unread x2)) (View.readAt (Elt Ideal) arg3.view (Rect.unit (s := S1024x1) ![512, 0] S256x1.size inb_S1024x1_S256x1_512_0).toLoadRect (harg3.unread x1)) (View.readAt (Elt Ideal) arg5.view (Rect.unit (s := S1x512) ![0, 0] S1x512.size inb_S1x512_S1x512_0_0).toLoadRect (harg5.unread x3))) (View.readAt (Elt Ideal) arg7.view (Rect.unit (s := S1024x64) ![512, 0] S256x64.size inb_S1024x64_S256x64_512_0).toLoadRect (harg7.unread X))⟩,
    ⟨Rect.unit (s := S1024x64) ![256, 0] S256x64.size inb_S1024x64_S256x64_256_0, s4 i (k0_pay3 (View.readAt (Elt Ideal) arg2.view (Rect.unit (s := S1024x3584) ![256, 0] S256x3584.size inb_S1024x3584_S256x3584_256_0).toLoadRect (harg2.unread x0)) (View.readAt (Elt Ideal) arg4.view (Rect.unit (s := S3584x512) ![0, 0] S3584x512.size inb_S3584x512_S3584x512_0_0).toLoadRect (harg4.unread x2)) (View.readAt (Elt Ideal) arg3.view (Rect.unit (s := S1024x1) ![256, 0] S256x1.size inb_S1024x1_S256x1_256_0).toLoadRect (harg3.unread x1)) (View.readAt (Elt Ideal) arg5.view (Rect.unit (s := S1x512) ![0, 0] S1x512.size inb_S1x512_S1x512_0_0).toLoadRect (harg5.unread x3))) (View.readAt (Elt Ideal) arg7.view (Rect.unit (s := S1024x64) ![256, 0] S256x64.size inb_S1024x64_S256x64_256_0).toLoadRect (harg7.unread X))⟩,
    ⟨Rect.unit (s := S1024x64) ![0, 0] S256x64.size inb_S1024x64_S256x64_0_0, s4 i (k0_pay3 (View.readAt (Elt Ideal) arg2.view (Rect.unit (s := S1024x3584) ![0, 0] S256x3584.size inb_S1024x3584_S256x3584_0_0).toLoadRect (harg2.unread x0)) (View.readAt (Elt Ideal) arg4.view (Rect.unit (s := S3584x512) ![0, 0] S3584x512.size inb_S3584x512_S3584x512_0_0).toLoadRect (harg4.unread x2)) (View.readAt (Elt Ideal) arg3.view (Rect.unit (s := S1024x1) ![0, 0] S256x1.size inb_S1024x1_S256x1_0_0).toLoadRect (harg3.unread x1)) (View.readAt (Elt Ideal) arg5.view (Rect.unit (s := S1x512) ![0, 0] S1x512.size inb_S1x512_S1x512_0_0).toLoadRect (harg5.unread x3))) (View.readAt (Elt Ideal) arg7.view (Rect.unit (s := S1024x64) ![0, 0] S256x64.size inb_S1024x64_S256x64_0_0).toLoadRect (harg7.unread X))⟩] := rfl

/-- Entry (r, q) of the products of a block: the matrix product scaled by row and by column. -/
def pB (x0 : Vec Ideal S1024x3584 .fp8e4m3) (x1 : Vec Ideal S1024x1 .f32) (x2 : Vec Ideal S3584x512 .fp8e4m3) (x3 : Vec Ideal S1x512 .f32) (r : Fin 1024) (q : Fin 512) : EReal := (∑ k, x0 (ix2 r k) * x2 (ix2 k q)) * x1 (ix2 r 0) * x3 (ix2 0 q)

/-- A chunk of 256 rows starting at row `o`: its products are those of the block. -/
theorem chunk (x0 : Vec Ideal S1024x3584 .fp8e4m3) (x1 : Vec Ideal S1024x1 .f32) (x2 : Vec Ideal S3584x512 .fp8e4m3) (x3 : Vec Ideal S1x512 .f32) (o : ℕ) (ho : o + 256 ≤ 1024)
    (h1 : ∀ a, (![o, 0] : Fin 2 → ℕ) a + S256x1.size a ≤ S1024x1.size a)
    (h0 : ∀ a, (![o, 0] : Fin 2 → ℕ) a + S256x3584.size a ≤ S1024x3584.size a)
    (h2 : ∀ a, (![0, 0] : Fin 2 → ℕ) a + S3584x512.size a ≤ S3584x512.size a)
    (h3 : ∀ a, (![0, 0] : Fin 2 → ℕ) a + S1x512.size a ≤ S1x512.size a) (a : Fin 256) (b : Fin 512) :
    k0_pay3 (F := Ideal) (View.ld x0 (Rect.unit ![o, 0] S256x3584.size h0)) (View.ld x2 (Rect.unit ![0, 0] S3584x512.size h2))
      (View.ld x1 (Rect.unit ![o, 0] S256x1.size h1)) (View.ld x3 (Rect.unit ![0, 0] S1x512.size h3)) (ix2 a b)
      = pB x0 x1 x2 x3 ⟨o + a.val, by omega⟩ b := by
  rw [View.ld_unit_lit' h2 x2 (by intro a; fin_cases a <;> rfl), View.ld_unit_lit' h3 x3 (by intro a; fin_cases a <;> rfl)]
  unfold pB
  pointwise [k0_pay3]

/-- The largest magnitude of each row of a group. -/
theorem mr_at (v : FVec Ideal S256x128 .f32) (j : S256.Idx) :
    (multiReduction (F := Ideal) .maximumf [1] S256 v 0xFF800000#32 reduces_S256x128_S256 (.inl rfl) rfl) j
      = Finset.fold max (Ideal.ofBits FTy.f32 4286578688#32) (fun q => v (ix2 (j 0) q)) Finset.univ := by
  pointwise []

/-- The scale of a row from the row's largest magnitude. -/
theorem scale_at (u : FVec Ideal S256 .f32) (r : Fin 256) :
    select (cmpf .ogt (shapeCast S256x1 u shapeCasts_S256_S256x1) (broadcast S256x1 (Scalar.ofBits .f32 0x00000000#32 : Ideal .f32)))
        (divf (shapeCast S256x1 u shapeCasts_S256_S256x1) (broadcast S256x1 (Scalar.ofBits .f32 0x43E00000#32 : Ideal .f32)))
        (broadcast S256x1 (Scalar.ofBits .f32 0x3F800000#32 : Ideal .f32)) (ix2 r 0)
      = scM (u (ix1 r)) := by
  unfold scM
  pointwise []

/-- The scales of a group, entry by entry. -/
theorem scW_at (v : FVec Ideal S256x128 .f32) (r : Fin 256) : scW v (ix2 r 0) = scF (fun l => v (ix2 r l)) := by
  unfold scW scF mxF
  refine (scale_at _ r).trans ?_
  rw [mr_at]
  rfl

/-- The clipped quotients of a group, entry by entry. -/
theorem clip_at (v : FVec Ideal S256x128 .f32) (w : FVec Ideal S256x1 .f32) (r : Fin 256) (l : Fin 128) :
    truncf .fp8e4m3 (minimumf (broadcast S256x128 (Scalar.ofBits .f32 0x43E00000#32 : Ideal .f32)) (maximumf (broadcast S256x128 (Scalar.ofBits .f32 0xC3E00000#32 : Ideal .f32)) (divf v (broadcastTo S256x128 w broadcasts_S256x1_S256x128)))) bitsLt_fp8e4m3_f32 (ix2 r l)
      = cdF (v (ix2 r l)) (w (ix2 r 0)) := by
  unfold cdF
  pointwise []

/-- The codes of a group, entry by entry. -/
theorem cdW_at (v : FVec Ideal S256x128 .f32) (r : Fin 256) (l : Fin 128) :
    cdW v (ix2 r l) = cdF (v (ix2 r l)) (scF (fun l => v (ix2 r l))) := by
  unfold cdW
  rw [clip_at, scW_at]

/-- When a lane is the one a scale goes to. -/
theorem lane_eq (i : grid0.Coords) (g : Fin 64) (k : Fin 4) :
    (BitVec.ofNat 32 g.val = Scalar.addi (Scalar.muli (BitVec.ofNat 32 (i 1).val) 4#32) (BitVec.ofNat 32 k.val)) ↔ g.val = 4 * (i 1).val + k.val := by
  revert i g k; decide +kernel

/-- The block of scales with one group's scales put in, entry by entry. -/
theorem slW_at (i : grid0.Coords) (k : BitVec 32) (s : FVec Ideal S256x1 .f32) (w : FVec Ideal S256x64 .f32) (r : Fin 256) (g : Fin 64) :
    slW i k s w (ix2 r g) = if BitVec.ofNat 32 g.val = Scalar.addi (Scalar.muli (BitVec.ofNat 32 (i 1).val) 4#32) k then s (ix2 r 0) else w (ix2 r g) := by
  unfold slW
  generalize Scalar.addi (Scalar.muli (BitVec.ofNat 32 (i 1).val) 4#32) k = z
  have e : select (cmpi .eq (iota .tc S256x64 32 [1] iota_S256x64_d1_w32) (broadcast S256x64 z)) (broadcastTo S256x64 (shapeCast S256x1 s shapeCasts_S256x1_S256x1) broadcasts_S256x1_S256x64) w (ix2 r g)
      = Scalar.select (IntOp.cmpi CmpIPredicate.eq (BitVec.ofNat 32 g.val) z) (s (ix2 r 0)) (w (ix2 r g)) := by
    pointwise []
  rw [e]
  by_cases h : BitVec.ofNat 32 g.val = z
  · simp [h, Scalar.select, IntOp.cmpi]
  · have hb : (BitVec.ofNat 32 g.val == z) = false := beq_eq_false_iff_ne.2 h
    simp [h, hb, Scalar.select, IntOp.cmpi]

/-- Columns 0 to 127, entry by entry. -/
theorem g0_at (p : FVec Ideal S256x512 .f32) (r : Fin 256) (l : Fin 128) : g0 p (ix2 r l) = p (ix2 r ⟨0 + l.val, by omega⟩) := by
  pointwise [g0]

/-- Columns 128 to 255, entry by entry. -/
theorem g1_at (p : FVec Ideal S256x512 .f32) (r : Fin 256) (l : Fin 128) : g1 p (ix2 r l) = p (ix2 r ⟨128 + l.val, by omega⟩) := by
  pointwise [g1]

/-- Columns 256 to 383, entry by entry. -/
theorem g2_at (p : FVec Ideal S256x512 .f32) (r : Fin 256) (l : Fin 128) : g2 p (ix2 r l) = p (ix2 r ⟨256 + l.val, by omega⟩) := by
  pointwise [g2]

/-- Columns 384 to 511, entry by entry. -/
theorem g3_at (p : FVec Ideal S256x512 .f32) (r : Fin 256) (l : Fin 128) : g3 p (ix2 r l) = p (ix2 r ⟨384 + l.val, by omega⟩) := by
  pointwise [g3]

end Cert.Proof.DownIdealBlock

end
-- ==== Proof.DownIdealReads.lean ====
/- The blocks of codes and of scales after one grid point of the down kernel, read entry by entry. -/
module

public import proofs.«01_k».proof.Proof.DownIdealBlock

@[expose] public section

set_option maxRecDepth 16384

noncomputable section

namespace Cert.Proof.DownIdealReads

open Cert.Proof.DownIdealRun Cert.Proof.DownIdealBlock Cert.Proof.Quant
open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-- Where an element of a unit-stride rectangle lies. -/
theorem emb_val (s : Shape) (off size : Fin s.rank → ℕ) (inb : ∀ a, off a + size a ≤ s.size a) (x : (Rect.unit (s := s) off size inb).shape.Idx) (a : Fin s.rank) :
    ((Rect.unit (s := s) off size inb).emb x a).val = off a + (x a).val := Rect.idx_unit_val off size inb x a

/-- The elements of a unit-stride rectangle. -/
theorem mem_unit (s : Shape) (off size : Fin s.rank → ℕ) (inb : ∀ a, off a + size a ≤ s.size a) (y : s.Idx) :
    y ∈ (Rect.unit (s := s) off size inb).set ↔ ∀ a, off a ≤ (y a).val ∧ (y a).val < off a + size a := Rect.mem_set_unit

/-- The scale of group `k` of row `r` of a block. -/
def scB (x0 : Vec Ideal S1024x3584 .fp8e4m3) (x1 : Vec Ideal S1024x1 .f32) (x2 : Vec Ideal S3584x512 .fp8e4m3) (x3 : Vec Ideal S1x512 .f32) (r : Fin 1024) (k : Fin 4) : EReal := scF fun l : Fin 128 => pB x0 x1 x2 x3 r ⟨128 * k.val + l.val, by omega⟩

/-- The code at row `r` and column `q` of a block. -/
def cdB (x0 : Vec Ideal S1024x3584 .fp8e4m3) (x1 : Vec Ideal S1024x1 .f32) (x2 : Vec Ideal S3584x512 .fp8e4m3) (x3 : Vec Ideal S1x512 .f32) (r : Fin 1024) (q : Fin 512) : EReal := cdF (pB x0 x1 x2 x3 r q) (scB x0 x1 x2 x3 r ⟨q.val / 128, by omega⟩)

/-- The code at column `l` of group `k`. -/
theorem cdB_at (x0 : Vec Ideal S1024x3584 .fp8e4m3) (x1 : Vec Ideal S1024x1 .f32) (x2 : Vec Ideal S3584x512 .fp8e4m3) (x3 : Vec Ideal S1x512 .f32) (r : Fin 1024) (k : ℕ) (hk : k < 4) (l : Fin 128) :
    cdB x0 x1 x2 x3 r ⟨128 * k + l.val, by omega⟩ = cdF (pB x0 x1 x2 x3 r ⟨128 * k + l.val, by omega⟩) (scB x0 x1 x2 x3 r ⟨k, hk⟩) := by
  unfold cdB
  congr 2
  exact Fin.ext (by show (128 * k + l.val) / 128 = k; omega)

/-- The codes of group `k` of 256 rows from row `o`. -/
theorem code_ix (x0 : Vec Ideal S1024x3584 .fp8e4m3) (x1 : Vec Ideal S1024x1 .f32) (x2 : Vec Ideal S3584x512 .fp8e4m3) (x3 : Vec Ideal S1x512 .f32) (v : FVec Ideal S256x128 .f32) (o k : ℕ) (ho : o + 256 ≤ 1024) (hk : k < 4)
    (hv : ∀ (a : Fin 256) (l : Fin 128), v (ix2 a l) = pB x0 x1 x2 x3 ⟨o + a.val, by omega⟩ ⟨128 * k + l.val, by omega⟩) (a : Fin 256) (l : Fin 128) :
    cdW v (ix2 a l) = cdB x0 x1 x2 x3 ⟨o + a.val, by omega⟩ ⟨128 * k + l.val, by omega⟩ := by
  rw [cdW_at, cdB_at x0 x1 x2 x3 _ k hk l]
  simp only [hv]
  rfl

/-- The codes of group `k` of 256 rows from row `o`, as stored. -/
theorem code_of (x0 : Vec Ideal S1024x3584 .fp8e4m3) (x1 : Vec Ideal S1024x1 .f32) (x2 : Vec Ideal S3584x512 .fp8e4m3) (x3 : Vec Ideal S1x512 .f32) (v : FVec Ideal S256x128 .f32) (o k : ℕ) (ho : o + 256 ≤ 1024) (hk : k < 4)
    (hv : ∀ (a : Fin 256) (l : Fin 128), v (ix2 a l) = pB x0 x1 x2 x3 ⟨o + a.val, by omega⟩ ⟨128 * k + l.val, by omega⟩)
    (inb : ∀ a, (![o, 128 * k] : Fin 2 → ℕ) a + S256x128.size a ≤ S1024x512.size a) (x : S256x128.Idx) :
    cdW v x = cdB x0 x1 x2 x3 ((Rect.unit (s := S1024x512) ![o, 128 * k] S256x128.size inb).emb x 0) ((Rect.unit (s := S1024x512) ![o, 128 * k] S256x128.size inb).emb x 1) := by
  have ex : x = ix2 (x 0) (x 1) := funext fun a => match a with | ⟨0, _⟩ => rfl | ⟨1, _⟩ => rfl
  exact (congrArg (cdW v) ex).trans ((code_ix x0 x1 x2 x3 v o k ho hk hv (x 0) (x 1)).trans
    (congr (congrArg (cdB x0 x1 x2 x3) (Fin.ext (emb_val S1024x512 ![o, 128 * k] S256x128.size inb x 0).symm)) (Fin.ext (emb_val S1024x512 ![o, 128 * k] S256x128.size inb x 1).symm)))

/-- The scales of group `k` of 256 rows from row `o`. -/
theorem scale_of (x0 : Vec Ideal S1024x3584 .fp8e4m3) (x1 : Vec Ideal S1024x1 .f32) (x2 : Vec Ideal S3584x512 .fp8e4m3) (x3 : Vec Ideal S1x512 .f32) (v : FVec Ideal S256x128 .f32) (o k : ℕ) (ho : o + 256 ≤ 1024) (hk : k < 4)
    (hv : ∀ (a : Fin 256) (l : Fin 128), v (ix2 a l) = pB x0 x1 x2 x3 ⟨o + a.val, by omega⟩ ⟨128 * k + l.val, by omega⟩) (a : Fin 256) :
    scW v (ix2 a 0) = scB x0 x1 x2 x3 ⟨o + a.val, by omega⟩ ⟨k, hk⟩ := by
  rw [scW_at]
  simp only [hv]
  rfl

/-- The block of scales is loaded as it is. -/
theorem pay4_at (w : Vec Ideal S256x64 .f32) (a : Fin 256) (g : Fin 64) : k0_pay4 (F := Ideal) w (ix2 a g) = w (ix2 a g) := by
  pointwise [k0_pay4]

/-- The scales of 256 rows from row `o` after the four groups: the groups' own lanes are theirs, the others stay. -/
theorem s4_at (x0 : Vec Ideal S1024x3584 .fp8e4m3) (x1 : Vec Ideal S1024x1 .f32) (x2 : Vec Ideal S3584x512 .fp8e4m3) (x3 : Vec Ideal S1x512 .f32) (i : grid0.Coords) (p : FVec Ideal S256x512 .f32) (w : Vec Ideal S256x64 .f32) (o : ℕ) (ho : o + 256 ≤ 1024)
    (hp : ∀ (a : Fin 256) (b : Fin 512), p (ix2 a b) = pB x0 x1 x2 x3 ⟨o + a.val, by omega⟩ b) (a : Fin 256) (g : Fin 64) :
    s4 i p w (ix2 a g) = if g.val / 4 = (i 1).val then scB x0 x1 x2 x3 ⟨o + a.val, by omega⟩ ⟨g.val % 4, by omega⟩ else w (ix2 a g) := by
  have c0 : (BitVec.ofNat 32 g.val = Scalar.addi (Scalar.muli (BitVec.ofNat 32 (i 1).val) 4#32) 0#32) ↔ g.val = 4 * (i 1).val + 0 := lane_eq i g 0
  have d0 := scale_of x0 x1 x2 x3 (g0 p) o 0 ho (by decide) (fun a l => (g0_at p a l).trans (hp a _)) a
  have c1 : (BitVec.ofNat 32 g.val = Scalar.addi (Scalar.muli (BitVec.ofNat 32 (i 1).val) 4#32) 1#32) ↔ g.val = 4 * (i 1).val + 1 := lane_eq i g 1
  have d1 := scale_of x0 x1 x2 x3 (g1 p) o 1 ho (by decide) (fun a l => (g1_at p a l).trans (hp a _)) a
  have c2 : (BitVec.ofNat 32 g.val = Scalar.addi (Scalar.muli (BitVec.ofNat 32 (i 1).val) 4#32) 2#32) ↔ g.val = 4 * (i 1).val + 2 := lane_eq i g 2
  have d2 := scale_of x0 x1 x2 x3 (g2 p) o 2 ho (by decide) (fun a l => (g2_at p a l).trans (hp a _)) a
  have c3 : (BitVec.ofNat 32 g.val = Scalar.addi (Scalar.muli (BitVec.ofNat 32 (i 1).val) 4#32) 3#32) ↔ g.val = 4 * (i 1).val + 3 := lane_eq i g 3
  have d3 := scale_of x0 x1 x2 x3 (g3 p) o 3 ho (by decide) (fun a l => (g3_at p a l).trans (hp a _)) a
  unfold s4
  rw [slW_at, slW_at, slW_at, slW_at, pay4_at, d0, d1, d2, d3]
  simp only [c0, c1, c2, c3]
  by_cases h : g.val / 4 = (i 1).val
  · rw [if_pos h]
    rcases (by omega : g.val % 4 = 0 ∨ g.val % 4 = 1 ∨ g.val % 4 = 2 ∨ g.val % 4 = 3) with q | q | q | q
    · rw [if_neg (by omega), if_neg (by omega), if_neg (by omega), if_pos (by omega)]
      exact congrArg (scB x0 x1 x2 x3 _) (Fin.ext q.symm)
    · rw [if_neg (by omega), if_neg (by omega), if_pos (by omega)]
      exact congrArg (scB x0 x1 x2 x3 _) (Fin.ext q.symm)
    · rw [if_neg (by omega), if_pos (by omega)]
      exact congrArg (scB x0 x1 x2 x3 _) (Fin.ext q.symm)
    · rw [if_pos (by omega)]
      exact congrArg (scB x0 x1 x2 x3 _) (Fin.ext q.symm)
  · rw [if_neg h, if_neg (by omega), if_neg (by omega), if_neg (by omega), if_neg (by omega)]

/-- The scales of 256 rows from row `o`, over the scales `X` before. -/
theorem scales_ix (x0 : Vec Ideal S1024x3584 .fp8e4m3) (x1 : Vec Ideal S1024x1 .f32) (x2 : Vec Ideal S3584x512 .fp8e4m3) (x3 : Vec Ideal S1x512 .f32) (i : grid0.Coords) (p : FVec Ideal S256x512 .f32) (w : Vec Ideal S256x64 .f32) (X : Vec Ideal S1024x64 .f32) (o : ℕ) (ho : o + 256 ≤ 1024)
    (hp : ∀ (a : Fin 256) (b : Fin 512), p (ix2 a b) = pB x0 x1 x2 x3 ⟨o + a.val, by omega⟩ b)
    (hw : ∀ (a : Fin 256) (g : Fin 64), w (ix2 a g) = X (ix2 ⟨o + a.val, by omega⟩ g)) (a : Fin 256) (g : Fin 64) :
    s4 i p w (ix2 a g) = (fun y : S1024x64.Idx => if (y 1).val / 4 = (i 1).val then scB x0 x1 x2 x3 (y 0) ⟨(y 1).val % 4, Nat.mod_lt _ (by decide)⟩ else X (ix2 (y 0) (y 1))) (ix2 (⟨o + a.val, by omega⟩ : Fin 1024) g) := by
  rw [s4_at x0 x1 x2 x3 i p w o ho hp a g, hw a g]
  rfl

/-- The scales of 256 rows from row `o`, as stored. -/
theorem scales_of (x0 : Vec Ideal S1024x3584 .fp8e4m3) (x1 : Vec Ideal S1024x1 .f32) (x2 : Vec Ideal S3584x512 .fp8e4m3) (x3 : Vec Ideal S1x512 .f32) (i : grid0.Coords) (p : FVec Ideal S256x512 .f32) (w : Vec Ideal S256x64 .f32) (X : Vec Ideal S1024x64 .f32) (o : ℕ) (ho : o + 256 ≤ 1024)
    (hp : ∀ (a : Fin 256) (b : Fin 512), p (ix2 a b) = pB x0 x1 x2 x3 ⟨o + a.val, by omega⟩ b)
    (hw : ∀ (a : Fin 256) (g : Fin 64), w (ix2 a g) = X (ix2 ⟨o + a.val, by omega⟩ g))
    (inb : ∀ a, (![o, 0] : Fin 2 → ℕ) a + S256x64.size a ≤ S1024x64.size a) (x : S256x64.Idx) :
    s4 i p w x = (fun y : S1024x64.Idx => if (y 1).val / 4 = (i 1).val then scB x0 x1 x2 x3 (y 0) ⟨(y 1).val % 4, Nat.mod_lt _ (by decide)⟩ else X (ix2 (y 0) (y 1))) ((Rect.unit (s := S1024x64) ![o, 0] S256x64.size inb).emb x) := by
  have ex : x = ix2 (x 0) (x 1) := funext fun a => match a with | ⟨0, _⟩ => rfl | ⟨1, _⟩ => rfl
  refine (congrArg (s4 i p w) ex).trans ((scales_ix x0 x1 x2 x3 i p w X o ho hp hw (x 0) (x 1)).trans ?_)
  refine congrArg (fun y : S1024x64.Idx => if (y 1).val / 4 = (i 1).val then scB x0 x1 x2 x3 (y 0) ⟨(y 1).val % 4, Nat.mod_lt _ (by decide)⟩ else X (ix2 (y 0) (y 1))) ?_
  funext a
  match a with
  | ⟨0, _⟩ => exact Fin.ext (emb_val S1024x64 ![o, 0] S256x64.size inb x 0).symm
  | ⟨1, _⟩ => exact Fin.ext ((emb_val S1024x64 ![o, 0] S256x64.size inb x 1).trans (Nat.zero_add _)).symm

/-- The products of rows 0 to 255, as computed from the loaded blocks. -/
theorem hp_0 (arg2 : Memref sig .tc .vmem S1024x3584 .fp8e4m3) (harg2 : arg2.IsWhole) (arg3 : Memref sig .tc .vmem S1024x1 .f32) (harg3 : arg3.IsWhole) (arg4 : Memref sig .tc .vmem S3584x512 .fp8e4m3) (harg4 : arg4.IsWhole) (arg5 : Memref sig .tc .vmem S1x512 .f32) (harg5 : arg5.IsWhole) (x0 : Vec Ideal S1024x3584 .fp8e4m3) (x1 : Vec Ideal S1024x1 .f32) (x2 : Vec Ideal S3584x512 .fp8e4m3) (x3 : Vec Ideal S1x512 .f32) (a : Fin 256) (b : Fin 512) :
    k0_pay3 (F := Ideal) (View.readAt (Elt Ideal) arg2.view (Rect.unit (s := S1024x3584) ![0, 0] S256x3584.size inb_S1024x3584_S256x3584_0_0).toLoadRect (harg2.unread x0)) (View.readAt (Elt Ideal) arg4.view (Rect.unit (s := S3584x512) ![0, 0] S3584x512.size inb_S3584x512_S3584x512_0_0).toLoadRect (harg4.unread x2)) (View.readAt (Elt Ideal) arg3.view (Rect.unit (s := S1024x1) ![0, 0] S256x1.size inb_S1024x1_S256x1_0_0).toLoadRect (harg3.unread x1)) (View.readAt (Elt Ideal) arg5.view (Rect.unit (s := S1x512) ![0, 0] S1x512.size inb_S1x512_S1x512_0_0).toLoadRect (harg5.unread x3)) (ix2 a b) = pB x0 x1 x2 x3 ⟨0 + a.val, by omega⟩ b := by
  simp only [View.readAt_eq_ld, harg2.read_unread, harg3.read_unread, harg4.read_unread, harg5.read_unread]
  exact chunk x0 x1 x2 x3 0 (by decide) _ _ _ _ a b

/-- The scales of rows 0 to 255, as loaded. -/
theorem hw_0 (arg7 : Memref sig .tc .vmem S1024x64 .f32) (harg7 : arg7.IsWhole) (X : Vec Ideal S1024x64 .f32) (a : Fin 256) (g : Fin 64) :
    (View.readAt (Elt Ideal) arg7.view (Rect.unit (s := S1024x64) ![0, 0] S256x64.size inb_S1024x64_S256x64_0_0).toLoadRect (harg7.unread X)) (ix2 a g) = X (ix2 ⟨0 + a.val, by omega⟩ g) := by
  simp only [View.readAt_eq_ld, harg7.read_unread]
  refine View.ld_unit_apply_of X ![0, 0] S256x64.size inb_S1024x64_S256x64_0_0 (ix2 a g) _ ?_
  intro k
  match k with
  | ⟨0, _⟩ => rfl
  | ⟨1, _⟩ => exact (Nat.zero_add _).symm

/-- The products of rows 256 to 511, as computed from the loaded blocks. -/
theorem hp_256 (arg2 : Memref sig .tc .vmem S1024x3584 .fp8e4m3) (harg2 : arg2.IsWhole) (arg3 : Memref sig .tc .vmem S1024x1 .f32) (harg3 : arg3.IsWhole) (arg4 : Memref sig .tc .vmem S3584x512 .fp8e4m3) (harg4 : arg4.IsWhole) (arg5 : Memref sig .tc .vmem S1x512 .f32) (harg5 : arg5.IsWhole) (x0 : Vec Ideal S1024x3584 .fp8e4m3) (x1 : Vec Ideal S1024x1 .f32) (x2 : Vec Ideal S3584x512 .fp8e4m3) (x3 : Vec Ideal S1x512 .f32) (a : Fin 256) (b : Fin 512) :
    k0_pay3 (F := Ideal) (View.readAt (Elt Ideal) arg2.view (Rect.unit (s := S1024x3584) ![256, 0] S256x3584.size inb_S1024x3584_S256x3584_256_0).toLoadRect (harg2.unread x0)) (View.readAt (Elt Ideal) arg4.view (Rect.unit (s := S3584x512) ![0, 0] S3584x512.size inb_S3584x512_S3584x512_0_0).toLoadRect (harg4.unread x2)) (View.readAt (Elt Ideal) arg3.view (Rect.unit (s := S1024x1) ![256, 0] S256x1.size inb_S1024x1_S256x1_256_0).toLoadRect (harg3.unread x1)) (View.readAt (Elt Ideal) arg5.view (Rect.unit (s := S1x512) ![0, 0] S1x512.size inb_S1x512_S1x512_0_0).toLoadRect (harg5.unread x3)) (ix2 a b) = pB x0 x1 x2 x3 ⟨256 + a.val, by omega⟩ b := by
  simp only [View.readAt_eq_ld, harg2.read_unread, harg3.read_unread, harg4.read_unread, harg5.read_unread]
  exact chunk x0 x1 x2 x3 256 (by decide) _ _ _ _ a b

/-- The scales of rows 256 to 511, as loaded. -/
theorem hw_256 (arg7 : Memref sig .tc .vmem S1024x64 .f32) (harg7 : arg7.IsWhole) (X : Vec Ideal S1024x64 .f32) (a : Fin 256) (g : Fin 64) :
    (View.readAt (Elt Ideal) arg7.view (Rect.unit (s := S1024x64) ![256, 0] S256x64.size inb_S1024x64_S256x64_256_0).toLoadRect (harg7.unread X)) (ix2 a g) = X (ix2 ⟨256 + a.val, by omega⟩ g) := by
  simp only [View.readAt_eq_ld, harg7.read_unread]
  refine View.ld_unit_apply_of X ![256, 0] S256x64.size inb_S1024x64_S256x64_256_0 (ix2 a g) _ ?_
  intro k
  match k with
  | ⟨0, _⟩ => rfl
  | ⟨1, _⟩ => exact (Nat.zero_add _).symm

/-- The products of rows 512 to 767, as computed from the loaded blocks. -/
theorem hp_512 (arg2 : Memref sig .tc .vmem S1024x3584 .fp8e4m3) (harg2 : arg2.IsWhole) (arg3 : Memref sig .tc .vmem S1024x1 .f32) (harg3 : arg3.IsWhole) (arg4 : Memref sig .tc .vmem S3584x512 .fp8e4m3) (harg4 : arg4.IsWhole) (arg5 : Memref sig .tc .vmem S1x512 .f32) (harg5 : arg5.IsWhole) (x0 : Vec Ideal S1024x3584 .fp8e4m3) (x1 : Vec Ideal S1024x1 .f32) (x2 : Vec Ideal S3584x512 .fp8e4m3) (x3 : Vec Ideal S1x512 .f32) (a : Fin 256) (b : Fin 512) :
    k0_pay3 (F := Ideal) (View.readAt (Elt Ideal) arg2.view (Rect.unit (s := S1024x3584) ![512, 0] S256x3584.size inb_S1024x3584_S256x3584_512_0).toLoadRect (harg2.unread x0)) (View.readAt (Elt Ideal) arg4.view (Rect.unit (s := S3584x512) ![0, 0] S3584x512.size inb_S3584x512_S3584x512_0_0).toLoadRect (harg4.unread x2)) (View.readAt (Elt Ideal) arg3.view (Rect.unit (s := S1024x1) ![512, 0] S256x1.size inb_S1024x1_S256x1_512_0).toLoadRect (harg3.unread x1)) (View.readAt (Elt Ideal) arg5.view (Rect.unit (s := S1x512) ![0, 0] S1x512.size inb_S1x512_S1x512_0_0).toLoadRect (harg5.unread x3)) (ix2 a b) = pB x0 x1 x2 x3 ⟨512 + a.val, by omega⟩ b := by
  simp only [View.readAt_eq_ld, harg2.read_unread, harg3.read_unread, harg4.read_unread, harg5.read_unread]
  exact chunk x0 x1 x2 x3 512 (by decide) _ _ _ _ a b

/-- The scales of rows 512 to 767, as loaded. -/
theorem hw_512 (arg7 : Memref sig .tc .vmem S1024x64 .f32) (harg7 : arg7.IsWhole) (X : Vec Ideal S1024x64 .f32) (a : Fin 256) (g : Fin 64) :
    (View.readAt (Elt Ideal) arg7.view (Rect.unit (s := S1024x64) ![512, 0] S256x64.size inb_S1024x64_S256x64_512_0).toLoadRect (harg7.unread X)) (ix2 a g) = X (ix2 ⟨512 + a.val, by omega⟩ g) := by
  simp only [View.readAt_eq_ld, harg7.read_unread]
  refine View.ld_unit_apply_of X ![512, 0] S256x64.size inb_S1024x64_S256x64_512_0 (ix2 a g) _ ?_
  intro k
  match k with
  | ⟨0, _⟩ => rfl
  | ⟨1, _⟩ => exact (Nat.zero_add _).symm

/-- The products of rows 768 to 1023, as computed from the loaded blocks. -/
theorem hp_768 (arg2 : Memref sig .tc .vmem S1024x3584 .fp8e4m3) (harg2 : arg2.IsWhole) (arg3 : Memref sig .tc .vmem S1024x1 .f32) (harg3 : arg3.IsWhole) (arg4 : Memref sig .tc .vmem S3584x512 .fp8e4m3) (harg4 : arg4.IsWhole) (arg5 : Memref sig .tc .vmem S1x512 .f32) (harg5 : arg5.IsWhole) (x0 : Vec Ideal S1024x3584 .fp8e4m3) (x1 : Vec Ideal S1024x1 .f32) (x2 : Vec Ideal S3584x512 .fp8e4m3) (x3 : Vec Ideal S1x512 .f32) (a : Fin 256) (b : Fin 512) :
    k0_pay3 (F := Ideal) (View.readAt (Elt Ideal) arg2.view (Rect.unit (s := S1024x3584) ![768, 0] S256x3584.size inb_S1024x3584_S256x3584_768_0).toLoadRect (harg2.unread x0)) (View.readAt (Elt Ideal) arg4.view (Rect.unit (s := S3584x512) ![0, 0] S3584x512.size inb_S3584x512_S3584x512_0_0).toLoadRect (harg4.unread x2)) (View.readAt (Elt Ideal) arg3.view (Rect.unit (s := S1024x1) ![768, 0] S256x1.size inb_S1024x1_S256x1_768_0).toLoadRect (harg3.unread x1)) (View.readAt (Elt Ideal) arg5.view (Rect.unit (s := S1x512) ![0, 0] S1x512.size inb_S1x512_S1x512_0_0).toLoadRect (harg5.unread x3)) (ix2 a b) = pB x0 x1 x2 x3 ⟨768 + a.val, by omega⟩ b := by
  simp only [View.readAt_eq_ld, harg2.read_unread, harg3.read_unread, harg4.read_unread, harg5.read_unread]
  exact chunk x0 x1 x2 x3 768 (by decide) _ _ _ _ a b

/-- The scales of rows 768 to 1023, as loaded. -/
theorem hw_768 (arg7 : Memref sig .tc .vmem S1024x64 .f32) (harg7 : arg7.IsWhole) (X : Vec Ideal S1024x64 .f32) (a : Fin 256) (g : Fin 64) :
    (View.readAt (Elt Ideal) arg7.view (Rect.unit (s := S1024x64) ![768, 0] S256x64.size inb_S1024x64_S256x64_768_0).toLoadRect (harg7.unread X)) (ix2 a g) = X (ix2 ⟨768 + a.val, by omega⟩ g) := by
  simp only [View.readAt_eq_ld, harg7.read_unread]
  refine View.ld_unit_apply_of X ![768, 0] S256x64.size inb_S1024x64_S256x64_768_0 (ix2 a g) _ ?_
  intro k
  match k with
  | ⟨0, _⟩ => rfl
  | ⟨1, _⟩ => exact (Nat.zero_add _).symm

/-- The block of codes after a point. -/
theorem read6 (c : Dev nD) (i : grid0.Coords) (arg2 : Memref sig .tc .vmem S1024x3584 .fp8e4m3) (harg2 : arg2.IsWhole) (arg3 : Memref sig .tc .vmem S1024x1 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1024x512 .fp8e4m3) (harg6 : arg6.IsWhole) (arg7 : Memref sig .tc .vmem S1024x64 .f32) (harg7 : arg7.IsWhole) (x0 : Vec Ideal S1024x3584 .fp8e4m3) (x1 : Vec Ideal S1024x1 .f32) (x2 : Vec Ideal S3584x512 .fp8e4m3) (x3 : Vec Ideal S1x512 .f32) (X : Vec Ideal S1024x64 .f32) (f) (y : S1024x512.Idx) :
    arg6.view.read (Elt Ideal) (arg6.view.writes (Elt Ideal) f (runBody (F := Ideal) c i arg2 harg2 arg3 harg3 arg4 harg4 arg5 harg5 arg6 harg6 arg7 harg7 x0 x1 x2 x3 X).1) y = cdB x0 x1 x2 x3 (y 0) (y 1) := by
  rw [L6_eq]
  refine View.read_writes_apply_of_pieces (Val := Elt Ideal) (e := .fp8e4m3) arg6.view f (fun y : S1024x512.Idx => (cdB x0 x1 x2 x3 (y 0) (y 1) : Elt Ideal .fp8e4m3)) _ ?_ y ?_
  · intro p hp x
    simp only [List.mem_cons, List.not_mem_nil, or_false] at hp
    rcases hp with rfl | rfl | rfl | rfl | rfl | rfl | rfl | rfl | rfl | rfl | rfl | rfl | rfl | rfl | rfl | rfl
    · exact code_of x0 x1 x2 x3 _ 768 3 (by decide) (by decide) (fun a l => (g3_at _ a l).trans (hp_768 arg2 harg2 arg3 harg3 arg4 harg4 arg5 harg5 x0 x1 x2 x3 a _)) inb_S1024x512_S256x128_768_384 x
    · exact code_of x0 x1 x2 x3 _ 768 2 (by decide) (by decide) (fun a l => (g2_at _ a l).trans (hp_768 arg2 harg2 arg3 harg3 arg4 harg4 arg5 harg5 x0 x1 x2 x3 a _)) inb_S1024x512_S256x128_768_256 x
    · exact code_of x0 x1 x2 x3 _ 768 1 (by decide) (by decide) (fun a l => (g1_at _ a l).trans (hp_768 arg2 harg2 arg3 harg3 arg4 harg4 arg5 harg5 x0 x1 x2 x3 a _)) inb_S1024x512_S256x128_768_128 x
    · exact code_of x0 x1 x2 x3 _ 768 0 (by decide) (by decide) (fun a l => (g0_at _ a l).trans (hp_768 arg2 harg2 arg3 harg3 arg4 harg4 arg5 harg5 x0 x1 x2 x3 a _)) inb_S1024x512_S256x128_768_0 x
    · exact code_of x0 x1 x2 x3 _ 512 3 (by decide) (by decide) (fun a l => (g3_at _ a l).trans (hp_512 arg2 harg2 arg3 harg3 arg4 harg4 arg5 harg5 x0 x1 x2 x3 a _)) inb_S1024x512_S256x128_512_384 x
    · exact code_of x0 x1 x2 x3 _ 512 2 (by decide) (by decide) (fun a l => (g2_at _ a l).trans (hp_512 arg2 harg2 arg3 harg3 arg4 harg4 arg5 harg5 x0 x1 x2 x3 a _)) inb_S1024x512_S256x128_512_256 x
    · exact code_of x0 x1 x2 x3 _ 512 1 (by decide) (by decide) (fun a l => (g1_at _ a l).trans (hp_512 arg2 harg2 arg3 harg3 arg4 harg4 arg5 harg5 x0 x1 x2 x3 a _)) inb_S1024x512_S256x128_512_128 x
    · exact code_of x0 x1 x2 x3 _ 512 0 (by decide) (by decide) (fun a l => (g0_at _ a l).trans (hp_512 arg2 harg2 arg3 harg3 arg4 harg4 arg5 harg5 x0 x1 x2 x3 a _)) inb_S1024x512_S256x128_512_0 x
    · exact code_of x0 x1 x2 x3 _ 256 3 (by decide) (by decide) (fun a l => (g3_at _ a l).trans (hp_256 arg2 harg2 arg3 harg3 arg4 harg4 arg5 harg5 x0 x1 x2 x3 a _)) inb_S1024x512_S256x128_256_384 x
    · exact code_of x0 x1 x2 x3 _ 256 2 (by decide) (by decide) (fun a l => (g2_at _ a l).trans (hp_256 arg2 harg2 arg3 harg3 arg4 harg4 arg5 harg5 x0 x1 x2 x3 a _)) inb_S1024x512_S256x128_256_256 x
    · exact code_of x0 x1 x2 x3 _ 256 1 (by decide) (by decide) (fun a l => (g1_at _ a l).trans (hp_256 arg2 harg2 arg3 harg3 arg4 harg4 arg5 harg5 x0 x1 x2 x3 a _)) inb_S1024x512_S256x128_256_128 x
    · exact code_of x0 x1 x2 x3 _ 256 0 (by decide) (by decide) (fun a l => (g0_at _ a l).trans (hp_256 arg2 harg2 arg3 harg3 arg4 harg4 arg5 harg5 x0 x1 x2 x3 a _)) inb_S1024x512_S256x128_256_0 x
    · exact code_of x0 x1 x2 x3 _ 0 3 (by decide) (by decide) (fun a l => (g3_at _ a l).trans (hp_0 arg2 harg2 arg3 harg3 arg4 harg4 arg5 harg5 x0 x1 x2 x3 a _)) inb_S1024x512_S256x128_0_384 x
    · exact code_of x0 x1 x2 x3 _ 0 2 (by decide) (by decide) (fun a l => (g2_at _ a l).trans (hp_0 arg2 harg2 arg3 harg3 arg4 harg4 arg5 harg5 x0 x1 x2 x3 a _)) inb_S1024x512_S256x128_0_256 x
    · exact code_of x0 x1 x2 x3 _ 0 1 (by decide) (by decide) (fun a l => (g1_at _ a l).trans (hp_0 arg2 harg2 arg3 harg3 arg4 harg4 arg5 harg5 x0 x1 x2 x3 a _)) inb_S1024x512_S256x128_0_128 x
    · exact code_of x0 x1 x2 x3 _ 0 0 (by decide) (by decide) (fun a l => (g0_at _ a l).trans (hp_0 arg2 harg2 arg3 harg3 arg4 harg4 arg5 harg5 x0 x1 x2 x3 a _)) inb_S1024x512_S256x128_0_0 x
  · have q0 : (y 0).val < 1024 := (y 0).isLt
    have q1 : (y 1).val < 512 := (y 1).isLt
    rcases (by omega : (y 0).val < 256 ∨ (256 ≤ (y 0).val ∧ (y 0).val < 512) ∨ (512 ≤ (y 0).val ∧ (y 0).val < 768) ∨ 768 ≤ (y 0).val) with u | u | u | u <;>
      rcases (by omega : (y 1).val < 128 ∨ (128 ≤ (y 1).val ∧ (y 1).val < 256) ∨ (256 ≤ (y 1).val ∧ (y 1).val < 384) ∨ 384 ≤ (y 1).val) with v | v | v | v
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), (mem_unit S1024x512 ![0, 0] S256x128.size inb_S1024x512_S256x128_0_0 y).2 ?_⟩
      intro a
      fin_cases a
      · show 0 ≤ (y 0).val ∧ (y 0).val < 0 + 256; omega
      · show 0 ≤ (y 1).val ∧ (y 1).val < 0 + 128; omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), (mem_unit S1024x512 ![0, 128] S256x128.size inb_S1024x512_S256x128_0_128 y).2 ?_⟩
      intro a
      fin_cases a
      · show 0 ≤ (y 0).val ∧ (y 0).val < 0 + 256; omega
      · show 128 ≤ (y 1).val ∧ (y 1).val < 128 + 128; omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), (mem_unit S1024x512 ![0, 256] S256x128.size inb_S1024x512_S256x128_0_256 y).2 ?_⟩
      intro a
      fin_cases a
      · show 0 ≤ (y 0).val ∧ (y 0).val < 0 + 256; omega
      · show 256 ≤ (y 1).val ∧ (y 1).val < 256 + 128; omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), (mem_unit S1024x512 ![0, 384] S256x128.size inb_S1024x512_S256x128_0_384 y).2 ?_⟩
      intro a
      fin_cases a
      · show 0 ≤ (y 0).val ∧ (y 0).val < 0 + 256; omega
      · show 384 ≤ (y 1).val ∧ (y 1).val < 384 + 128; omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), (mem_unit S1024x512 ![256, 0] S256x128.size inb_S1024x512_S256x128_256_0 y).2 ?_⟩
      intro a
      fin_cases a
      · show 256 ≤ (y 0).val ∧ (y 0).val < 256 + 256; omega
      · show 0 ≤ (y 1).val ∧ (y 1).val < 0 + 128; omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), (mem_unit S1024x512 ![256, 128] S256x128.size inb_S1024x512_S256x128_256_128 y).2 ?_⟩
      intro a
      fin_cases a
      · show 256 ≤ (y 0).val ∧ (y 0).val < 256 + 256; omega
      · show 128 ≤ (y 1).val ∧ (y 1).val < 128 + 128; omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), (mem_unit S1024x512 ![256, 256] S256x128.size inb_S1024x512_S256x128_256_256 y).2 ?_⟩
      intro a
      fin_cases a
      · show 256 ≤ (y 0).val ∧ (y 0).val < 256 + 256; omega
      · show 256 ≤ (y 1).val ∧ (y 1).val < 256 + 128; omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), (mem_unit S1024x512 ![256, 384] S256x128.size inb_S1024x512_S256x128_256_384 y).2 ?_⟩
      intro a
      fin_cases a
      · show 256 ≤ (y 0).val ∧ (y 0).val < 256 + 256; omega
      · show 384 ≤ (y 1).val ∧ (y 1).val < 384 + 128; omega
    · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), (mem_unit S1024x512 ![512, 0] S256x128.size inb_S1024x512_S256x128_512_0 y).2 ?_⟩
      intro a
      fin_cases a
      · show 512 ≤ (y 0).val ∧ (y 0).val < 512 + 256; omega
      · show 0 ≤ (y 1).val ∧ (y 1).val < 0 + 128; omega
    · refine ⟨_, List.mem_cons_of_mem _ (List.mem_cons_of_mem _ (List.mem_cons_of_mem _ (List.mem_cons_of_mem _ (List.mem_cons_of_mem _ (List.mem_cons_of_mem _ (List.mem_cons_self)))))), (mem_unit S1024x512 ![512, 128] S256x128.size inb_S1024x512_S256x128_512_128 y).2 ?_⟩
      intro a
      fin_cases a
      · show 512 ≤ (y 0).val ∧ (y 0).val < 512 + 256; omega
      · show 128 ≤ (y 1).val ∧ (y 1).val < 128 + 128; omega
    · refine ⟨_, List.mem_cons_of_mem _ (List.mem_cons_of_mem _ (List.mem_cons_of_mem _ (List.mem_cons_of_mem _ (List.mem_cons_of_mem _ (List.mem_cons_self))))), (mem_unit S1024x512 ![512, 256] S256x128.size inb_S1024x512_S256x128_512_256 y).2 ?_⟩
      intro a
      fin_cases a
      · show 512 ≤ (y 0).val ∧ (y 0).val < 512 + 256; omega
      · show 256 ≤ (y 1).val ∧ (y 1).val < 256 + 128; omega
    · refine ⟨_, List.mem_cons_of_mem _ (List.mem_cons_of_mem _ (List.mem_cons_of_mem _ (List.mem_cons_of_mem _ (List.mem_cons_self)))), (mem_unit S1024x512 ![512, 384] S256x128.size inb_S1024x512_S256x128_512_384 y).2 ?_⟩
      intro a
      fin_cases a
      · show 512 ≤ (y 0).val ∧ (y 0).val < 512 + 256; omega
      · show 384 ≤ (y 1).val ∧ (y 1).val < 384 + 128; omega
    · refine ⟨_, List.mem_cons_of_mem _ (List.mem_cons_of_mem _ (List.mem_cons_of_mem _ (List.mem_cons_self))), (mem_unit S1024x512 ![768, 0] S256x128.size inb_S1024x512_S256x128_768_0 y).2 ?_⟩
      intro a
      fin_cases a
      · show 768 ≤ (y 0).val ∧ (y 0).val < 768 + 256; omega
      · show 0 ≤ (y 1).val ∧ (y 1).val < 0 + 128; omega
    · refine ⟨_, List.mem_cons_of_mem _ (List.mem_cons_of_mem _ (List.mem_cons_self)), (mem_unit S1024x512 ![768, 128] S256x128.size inb_S1024x512_S256x128_768_128 y).2 ?_⟩
      intro a
      fin_cases a
      · show 768 ≤ (y 0).val ∧ (y 0).val < 768 + 256; omega
      · show 128 ≤ (y 1).val ∧ (y 1).val < 128 + 128; omega
    · refine ⟨_, List.mem_cons_of_mem _ (List.mem_cons_self), (mem_unit S1024x512 ![768, 256] S256x128.size inb_S1024x512_S256x128_768_256 y).2 ?_⟩
      intro a
      fin_cases a
      · show 768 ≤ (y 0).val ∧ (y 0).val < 768 + 256; omega
      · show 256 ≤ (y 1).val ∧ (y 1).val < 256 + 128; omega
    · refine ⟨_, List.mem_cons_self, (mem_unit S1024x512 ![768, 384] S256x128.size inb_S1024x512_S256x128_768_384 y).2 ?_⟩
      intro a
      fin_cases a
      · show 768 ≤ (y 0).val ∧ (y 0).val < 768 + 256; omega
      · show 384 ≤ (y 1).val ∧ (y 1).val < 384 + 128; omega

/-- The block of scales after a point, from the scales `X` before it. -/
theorem read7 (c : Dev nD) (i : grid0.Coords) (arg2 : Memref sig .tc .vmem S1024x3584 .fp8e4m3) (harg2 : arg2.IsWhole) (arg3 : Memref sig .tc .vmem S1024x1 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1024x512 .fp8e4m3) (harg6 : arg6.IsWhole) (arg7 : Memref sig .tc .vmem S1024x64 .f32) (harg7 : arg7.IsWhole) (x0 : Vec Ideal S1024x3584 .fp8e4m3) (x1 : Vec Ideal S1024x1 .f32) (x2 : Vec Ideal S3584x512 .fp8e4m3) (x3 : Vec Ideal S1x512 .f32) (X : Vec Ideal S1024x64 .f32) (f) (y : S1024x64.Idx) :
    arg7.view.read (Elt Ideal) (arg7.view.writes (Elt Ideal) f (runBody (F := Ideal) c i arg2 harg2 arg3 harg3 arg4 harg4 arg5 harg5 arg6 harg6 arg7 harg7 x0 x1 x2 x3 X).2.1) y = if (y 1).val / 4 = (i 1).val then scB x0 x1 x2 x3 (y 0) ⟨(y 1).val % 4, Nat.mod_lt _ (by decide)⟩ else X (ix2 (y 0) (y 1)) := by
  rw [L7_eq]
  refine View.read_writes_apply_of_pieces (Val := Elt Ideal) (e := .f32) arg7.view f (fun y : S1024x64.Idx => ((if (y 1).val / 4 = (i 1).val then scB x0 x1 x2 x3 (y 0) ⟨(y 1).val % 4, Nat.mod_lt _ (by decide)⟩ else X (ix2 (y 0) (y 1)) : EReal) : Elt Ideal .f32)) _ ?_ y ?_
  · intro p hp x
    simp only [List.mem_cons, List.not_mem_nil, or_false] at hp
    rcases hp with rfl | rfl | rfl | rfl
    · exact scales_of x0 x1 x2 x3 i _ _ X 768 (by decide) (fun a b => hp_768 arg2 harg2 arg3 harg3 arg4 harg4 arg5 harg5 x0 x1 x2 x3 a b) (fun a g => hw_768 arg7 harg7 X a g) inb_S1024x64_S256x64_768_0 x
    · exact scales_of x0 x1 x2 x3 i _ _ X 512 (by decide) (fun a b => hp_512 arg2 harg2 arg3 harg3 arg4 harg4 arg5 harg5 x0 x1 x2 x3 a b) (fun a g => hw_512 arg7 harg7 X a g) inb_S1024x64_S256x64_512_0 x
    · exact scales_of x0 x1 x2 x3 i _ _ X 256 (by decide) (fun a b => hp_256 arg2 harg2 arg3 harg3 arg4 harg4 arg5 harg5 x0 x1 x2 x3 a b) (fun a g => hw_256 arg7 harg7 X a g) inb_S1024x64_S256x64_256_0 x
    · exact scales_of x0 x1 x2 x3 i _ _ X 0 (by decide) (fun a b => hp_0 arg2 harg2 arg3 harg3 arg4 harg4 arg5 harg5 x0 x1 x2 x3 a b) (fun a g => hw_0 arg7 harg7 X a g) inb_S1024x64_S256x64_0_0 x
  · have q0 : (y 0).val < 1024 := (y 0).isLt
    have q1 : (y 1).val < 64 := (y 1).isLt
    rcases (by omega : (y 0).val < 256 ∨ (256 ≤ (y 0).val ∧ (y 0).val < 512) ∨ (512 ≤ (y 0).val ∧ (y 0).val < 768) ∨ 768 ≤ (y 0).val) with u | u | u | u
    · refine ⟨_, List.mem_cons_of_mem _ (List.mem_cons_of_mem _ (List.mem_cons_of_mem _ (List.mem_cons_self))), (mem_unit S1024x64 ![0, 0] S256x64.size inb_S1024x64_S256x64_0_0 y).2 ?_⟩
      intro a
      fin_cases a
      · show 0 ≤ (y 0).val ∧ (y 0).val < 0 + 256; omega
      · exact ⟨Nat.zero_le _, by show (y 1).val < 0 + 64; omega⟩
    · refine ⟨_, List.mem_cons_of_mem _ (List.mem_cons_of_mem _ (List.mem_cons_self)), (mem_unit S1024x64 ![256, 0] S256x64.size inb_S1024x64_S256x64_256_0 y).2 ?_⟩
      intro a
      fin_cases a
      · show 256 ≤ (y 0).val ∧ (y 0).val < 256 + 256; omega
      · exact ⟨Nat.zero_le _, by show (y 1).val < 0 + 64; omega⟩
    · refine ⟨_, List.mem_cons_of_mem _ (List.mem_cons_self), (mem_unit S1024x64 ![512, 0] S256x64.size inb_S1024x64_S256x64_512_0 y).2 ?_⟩
      intro a
      fin_cases a
      · show 512 ≤ (y 0).val ∧ (y 0).val < 512 + 256; omega
      · exact ⟨Nat.zero_le _, by show (y 1).val < 0 + 64; omega⟩
    · refine ⟨_, List.mem_cons_self, (mem_unit S1024x64 ![768, 0] S256x64.size inb_S1024x64_S256x64_768_0 y).2 ?_⟩
      intro a
      fin_cases a
      · show 768 ≤ (y 0).val ∧ (y 0).val < 768 + 256; omega
      · exact ⟨Nat.zero_le _, by show (y 1).val < 0 + 64; omega⟩

end Cert.Proof.DownIdealReads

end
-- ==== Proof.DownIdealInv.lean ====
/- The down kernel's blocks as parts of whole arrays, and what a grid point leaves of the codes and scales of whole arrays. -/
module

public import proofs.«01_k».proof.Proof.DownMath
public import proofs.«01_k».proof.Proof.DownIdealReads

@[expose] public section

set_option maxRecDepth 16384

noncomputable section

namespace Cert.Proof.DownIdealInv

open Cert.Proof.DownIdealRun Cert.Proof.DownIdealBlock Cert.Proof.DownIdealReads Cert.Proof.DownMath Cert.Proof.Quant
open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

/-- The row of the whole array that row `r` of grid point `n`'s tile is. -/
def row (n : ℕ) (r : Fin 1024) : Fin 4096 := ⟨(1024 * (n / 16) + r.val) % 4096, Nat.mod_lt _ (by decide)⟩

/-- The column of the whole array that column `q` of grid point `n`'s tile is. -/
def col (n : ℕ) (q : Fin 512) : Fin 8192 := ⟨(512 * (n % 16) + q.val) % 8192, Nat.mod_lt _ (by decide)⟩

/-- The grid has 64 points. -/
theorem N_eq : cfg0.N = 64 := by decide +kernel

/-- A block's grid point is below 64. -/
theorem t_lt (t : Fin cfg0.N) : t.val < 64 := lt_of_lt_of_eq t.isLt N_eq

/-- The row, as a number. -/
theorem row_val (t : Fin cfg0.N) (r : Fin 1024) : (row t.val r).val = 1024 * (t.val / 16) + r.val := by
  have h := t_lt t
  show (1024 * (t.val / 16) + r.val) % 4096 = _; omega

/-- The column, as a number. -/
theorem col_val (n : ℕ) (q : Fin 512) : (col n q).val = 512 * (n % 16) + q.val := by
  show (512 * (n % 16) + q.val) % 8192 = _; omega

/-- The second grid coordinate is the column block. -/
theorem coord1 : ∀ t : Fin cfg0.N, (grid0.coords t 1).val = t.val % 16 := by decide +kernel
/-- Where window 0's block lies. -/
theorem idx0 : ∀ t : Fin cfg0.N, win0_0.index t 0 = t.val / 16 ∧ win0_0.index t 1 = 0 := by decide +kernel
/-- Where window 1's block lies. -/
theorem idx1 : ∀ t : Fin cfg0.N, win0_1.index t 0 = t.val / 16 ∧ win0_1.index t 1 = 0 := by decide +kernel
/-- Where window 2's block lies. -/
theorem idx2 : ∀ t : Fin cfg0.N, win0_2.index t 0 = 0 ∧ win0_2.index t 1 = t.val % 16 := by decide +kernel
/-- Where window 3's block lies. -/
theorem idx3 : ∀ t : Fin cfg0.N, win0_3.index t 0 = 0 ∧ win0_3.index t 1 = t.val % 16 := by decide +kernel
/-- Where window 4's block lies. -/
theorem idx4 : ∀ t : Fin cfg0.N, win0_4.index t 0 = t.val / 16 ∧ win0_4.index t 1 = t.val % 16 := by decide +kernel
/-- Where window 5's block lies. -/
theorem idx5 : ∀ t : Fin cfg0.N, win0_5.index t 0 = t.val / 16 ∧ win0_5.index t 1 = 0 := by decide +kernel
/-- Rows of the activations. -/
theorem iblk0_at (c : Dev nD) (t : Fin cfg0.N) (a : Fin 1024) (b : Fin 3584) : iblk m c 0 t (ix2 a b) = V m c main_arg0 (ix2 (row t.val a) b) := by
  unfold iblk
  rw [View.read_apply]
  show V m c main_arg0 _ = _
  congr 1
  funext k
  apply Fin.ext
  match k with
  | ⟨0, _⟩ =>
    show win0_0.index t 0 * 1024 + 1 * a.val = _
    rw [(idx0 t).1]
    exact (by rw [Nat.one_mul, Nat.mul_comm] : t.val / 16 * 1024 + 1 * a.val = 1024 * (t.val / 16) + a.val).trans (row_val t a).symm
  | ⟨1, _⟩ =>
    show win0_0.index t 1 * 3584 + 1 * b.val = _
    rw [(idx0 t).2]
    exact (by omega : 0 * 3584 + 1 * b.val = b.val)
/-- Rows of the activations' scales. -/
theorem iblk1_at (c : Dev nD) (t : Fin cfg0.N) (a : Fin 1024) (b : Fin 1) : iblk m c 1 t (ix2 a b) = V m c main_arg1 (ix2 (row t.val a) b) := by
  unfold iblk
  rw [View.read_apply]
  show V m c main_arg1 _ = _
  congr 1
  funext k
  apply Fin.ext
  match k with
  | ⟨0, _⟩ =>
    show win0_1.index t 0 * 1024 + 1 * a.val = _
    rw [(idx1 t).1]
    exact (by rw [Nat.one_mul, Nat.mul_comm] : t.val / 16 * 1024 + 1 * a.val = 1024 * (t.val / 16) + a.val).trans (row_val t a).symm
  | ⟨1, _⟩ =>
    show win0_1.index t 1 * 1 + 1 * b.val = _
    rw [(idx1 t).2]
    exact (by omega : 0 * 1 + 1 * b.val = b.val)
/-- Columns of the weights. -/
theorem iblk2_at (c : Dev nD) (t : Fin cfg0.N) (a : Fin 3584) (b : Fin 512) : iblk m c 2 t (ix2 a b) = V m c main_arg2 (ix2 a (col t.val b)) := by
  unfold iblk
  rw [View.read_apply]
  show V m c main_arg2 _ = _
  congr 1
  funext k
  apply Fin.ext
  match k with
  | ⟨0, _⟩ =>
    show win0_2.index t 0 * 3584 + 1 * a.val = _
    rw [(idx2 t).1]
    exact (by omega : 0 * 3584 + 1 * a.val = a.val)
  | ⟨1, _⟩ =>
    show win0_2.index t 1 * 512 + 1 * b.val = _
    rw [(idx2 t).2]
    exact (by rw [Nat.one_mul, Nat.mul_comm] : t.val % 16 * 512 + 1 * b.val = 512 * (t.val % 16) + b.val).trans (col_val t.val b).symm
/-- Columns of the weights' scales. -/
theorem iblk3_at (c : Dev nD) (t : Fin cfg0.N) (a : Fin 1) (b : Fin 512) : iblk m c 3 t (ix2 a b) = V m c main_arg3 (ix2 a (col t.val b)) := by
  unfold iblk
  rw [View.read_apply]
  show V m c main_arg3 _ = _
  congr 1
  funext k
  apply Fin.ext
  match k with
  | ⟨0, _⟩ =>
    show win0_3.index t 0 * 1 + 1 * a.val = _
    rw [(idx3 t).1]
    exact (by omega : 0 * 1 + 1 * a.val = a.val)
  | ⟨1, _⟩ =>
    show win0_3.index t 1 * 512 + 1 * b.val = _
    rw [(idx3 t).2]
    exact (by rw [Nat.one_mul, Nat.mul_comm] : t.val % 16 * 512 + 1 * b.val = 512 * (t.val % 16) + b.val).trans (col_val t.val b).symm

/-- A block's products are the whole arrays'. -/
theorem pB_eq (c : Dev nD) (t : Fin cfg0.N) (r : Fin 1024) (q : Fin 512) :
    pB (iblk m c 0 t) (iblk m c 1 t) (iblk m c 2 t) (iblk m c 3 t) r q = pV (V m c main_arg0) (V m c main_arg1) (V m c main_arg2) (V m c main_arg3) (row t.val r) (col t.val q) := by
  unfold pB pV
  rw [iblk1_at, iblk3_at]
  simp only [iblk0_at, iblk2_at]

/-- A group's scale, of the whole arrays. -/
theorem scB_eq (c : Dev nD) (t : Fin cfg0.N) (r : Fin 1024) (k : Fin 4) (g : Fin 64) (h : g.val = 4 * (t.val % 16) + k.val) :
    scB (iblk m c 0 t) (iblk m c 1 t) (iblk m c 2 t) (iblk m c 3 t) r k = scP (V m c main_arg0) (V m c main_arg1) (V m c main_arg2) (V m c main_arg3) (row t.val r) g := by
  unfold scB scP
  refine congrArg scF (funext fun l => (pB_eq m c t r _).trans ?_)
  refine congrArg (pV (V m c main_arg0) (V m c main_arg1) (V m c main_arg2) (V m c main_arg3) (row t.val r)) (Fin.ext ?_)
  rw [col_val]
  show 512 * (t.val % 16) + (128 * k.val + l.val) = g.val * 128 + l.val
  omega

/-- A code, of the whole arrays. -/
theorem cdB_eq (c : Dev nD) (t : Fin cfg0.N) (r : Fin 1024) (q : Fin 512) :
    cdB (iblk m c 0 t) (iblk m c 1 t) (iblk m c 2 t) (iblk m c 3 t) r q = cdP (V m c main_arg0) (V m c main_arg1) (V m c main_arg2) (V m c main_arg3) (row t.val r) (col t.val q) := by
  unfold cdB cdP
  rw [pB_eq]
  refine congrArg (cdF _) (scB_eq m c t r _ _ ?_)
  show (col t.val q).val / 128 = 4 * (t.val % 16) + q.val / 128
  rw [col_val]; omega

/-- The block of codes holds the codes of the whole arrays. -/
def R4 (c : Dev nD) (t : Fin cfg0.N) (X : Vec Ideal S1024x512 .fp8e4m3) : Prop :=
  ∀ (r : Fin 1024) (q : Fin 512), X (ix2 r q) = cdP (V m c main_arg0) (V m c main_arg1) (V m c main_arg2) (V m c main_arg3) (row t.val r) (col t.val q)

/-- The block of scales holds the scales of the groups done so far in this row tile. -/
def R5 (c : Dev nD) (t : Fin cfg0.N) (X : Vec Ideal S1024x64 .f32) : Prop :=
  ∀ (r : Fin 1024) (g : Fin 64), g.val / 4 ≤ t.val % 16 → X (ix2 r g) = scP (V m c main_arg0) (V m c main_arg1) (V m c main_arg2) (V m c main_arg3) (row t.val r) g

/-- After a point the block of codes is right. -/
theorem r4_after (c : Dev nD) (t : Fin cfg0.N) (X : Vec Ideal S1024x64 .f32) (f) :
    R4 m c t ((win0_4.stage (cfg0.slots t 4)).view.read (Elt Ideal) ((win0_4.stage (cfg0.slots t 4)).view.writes (Elt Ideal) f (runBody (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (iblk m c 0 t) (iblk m c 1 t) (iblk m c 2 t) (iblk m c 3 t) X).1)) := by
  intro r q
  exact (read6 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (iblk m c 0 t) (iblk m c 1 t) (iblk m c 2 t) (iblk m c 3 t) X f (ix2 r q)).trans (cdB_eq m c t r q)

/-- After a point the block of scales is right, if it was for the groups before. -/
theorem r5_after (c : Dev nD) (t : Fin cfg0.N) (X : Vec Ideal S1024x64 .f32)
    (h : ∀ (r : Fin 1024) (g : Fin 64), g.val / 4 < t.val % 16 → X (ix2 r g) = scP (V m c main_arg0) (V m c main_arg1) (V m c main_arg2) (V m c main_arg3) (row t.val r) g) (f) :
    R5 m c t ((win0_5.stage (cfg0.slots t 5)).view.read (Elt Ideal) ((win0_5.stage (cfg0.slots t 5)).view.writes (Elt Ideal) f (runBody (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (iblk m c 0 t) (iblk m c 1 t) (iblk m c 2 t) (iblk m c 3 t) X).2.1)) := by
  intro r g hg
  refine (read7 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (iblk m c 0 t) (iblk m c 1 t) (iblk m c 2 t) (iblk m c 3 t) X f (ix2 r g)).trans ?_
  show (if g.val / 4 = (grid0.coords t 1).val then scB (iblk m c 0 t) (iblk m c 1 t) (iblk m c 2 t) (iblk m c 3 t) r ⟨g.val % 4, Nat.mod_lt _ (by decide)⟩ else X (ix2 r g)) = _
  rw [coord1 t]
  by_cases e : g.val / 4 = t.val % 16
  · rw [if_pos e]
    exact scB_eq m c t r _ g (by show g.val = 4 * (t.val % 16) + g.val % 4; omega)
  · rw [if_neg e]
    exact h r g (by omega)

end Cert.Proof.DownIdealInv

end
-- ==== Proof.DownIdealValue.lean ====
/- The down kernel as a whole: every grid point leaves the codes of its tile and the scales of the groups done so far, and the results end as the codes and scales of whole arrays. -/
module

public import proofs.«01_k».proof.Proof.DownIdealInv
public import proofs.«01_k».proof.Proof.DownIdealFrame
public import Idealize.ShloMosaic.Lib.Pipeline.DatRel
public import Idealize.ShloMosaic.Lib.Pipeline.ArrRel
public import Idealize.ShloMosaic.Lib.Claim

@[expose] public section

set_option maxRecDepth 16384

noncomputable section

namespace Cert.Proof.DownIdealValue

open Cert.Proof.DownIdealRun Cert.Proof.DownIdealInv Cert.Proof.DownMath
open Cert.Proof.DownIdealFrame (ms0_0 ms0_1 ms0_2 ms0_3 ms0_4 ms0_5 owns_of_pt unchanged_of)
open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The results, windows 4 and 5, are described by relations. -/
def marked : Fin 6 → Bool := fun w => w.val == 4 || w.val == 5

/-- What each result's buffer holds after a point. -/
def Rl (c : Dev nD) (w : Fin cfg0.W) (t : Fin cfg0.N) : ((cfg0.win w).block.Idx → Elt Ideal (cfg0.win w).elt) → Prop :=
  match w with
  | ⟨4, _⟩ => fun X => R4 m c t X
  | ⟨5, _⟩ => fun X => R5 m c t X
  | _ => fun _ => True

/-- The proof data on core `c`: the inputs' buffers hold their blocks, the results are not named. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The arrays of the proof data are the region's. -/
theorem A_eq (c : Dev nD) (w : Fin cfg0.W) : (dats m 0 c).A w = V m c (Pipeline.arrRef spec0 w) := by
  dsimp only [dats]

/-- What the body leaves in window 0: its block. -/
theorem after0_0 (c : Dev nD) (t : Fin cfg0.N) : (dats m 0 c).after 0 t = iblk m c 0 t := by dsimp only [dats]
/-- What the body finds in window 0: its block. -/
theorem before0_0 (c : Dev nD) (t : Fin cfg0.N) (d) : (dats m 0 c).before 0 t d = iblk m c 0 t :=
  before0_0_of m (dats m 0 c) (A_eq m c 0) (after0_0 m c) t d
/-- What the body leaves in window 1: its block. -/
theorem after0_1 (c : Dev nD) (t : Fin cfg0.N) : (dats m 0 c).after 1 t = iblk m c 1 t := by dsimp only [dats]
/-- What the body finds in window 1: its block. -/
theorem before0_1 (c : Dev nD) (t : Fin cfg0.N) (d) : (dats m 0 c).before 1 t d = iblk m c 1 t :=
  before0_1_of m (dats m 0 c) (A_eq m c 1) (after0_1 m c) t d
/-- What the body leaves in window 2: its block. -/
theorem after0_2 (c : Dev nD) (t : Fin cfg0.N) : (dats m 0 c).after 2 t = iblk m c 2 t := by dsimp only [dats]
/-- What the body finds in window 2: its block. -/
theorem before0_2 (c : Dev nD) (t : Fin cfg0.N) (d) : (dats m 0 c).before 2 t d = iblk m c 2 t :=
  before0_2_of m (dats m 0 c) (A_eq m c 2) (after0_2 m c) t d
/-- What the body leaves in window 3: its block. -/
theorem after0_3 (c : Dev nD) (t : Fin cfg0.N) : (dats m 0 c).after 3 t = iblk m c 3 t := by dsimp only [dats]
/-- What the body finds in window 3: its block. -/
theorem before0_3 (c : Dev nD) (t : Fin cfg0.N) (d) : (dats m 0 c).before 3 t d = iblk m c 3 t :=
  before0_3_of m (dats m 0 c) (A_eq m c 3) (after0_3 m c) t d

/-- The proof data with the results' relations. -/
abbrev rdats (c : Dev nD) : Pipeline.RDat τ (Elt Ideal) Unit ℕ (UR sig nD τ) ℕ cfg0 c := (dats m 0 c).toRRel marked (Rl m c)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ Y, ⌜(rdats m c).Finds 4 t Y⌝ ∗ owns (c : Thread nD τ) (ms0_4 t) fullShare Y)
    ∗ (∃ Y, ⌜(rdats m c).Finds 5 t Y⌝ ∗ owns (c : Thread nD τ) (ms0_5 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ X, ⌜Rl m c 4 t X⌝ ∗ owns (c : Thread nD τ) (ms0_4 t) fullShare X)
    ∗ (∃ X, ⌜Rl m c 5 t X⌝ ∗ owns (c : Thread nD τ) (ms0_5 t) fullShare X))

/-- The block of scales a point finds is right for the groups done before in this row tile. -/
theorem found (c : Dev nD) (t : Fin cfg0.N) (Y : Vec Ideal S1024x64 .f32) (hF : (rdats m c).Finds 5 t Y) (r : Fin 1024) (g : Fin 64) (hg : g.val / 4 < t.val % 16) :
    Y (ix2 r g) = scP (V m c main_arg0) (V m c main_arg1) (V m c main_arg2) (V m c main_arg3) (row t.val r) g := by
  have ht := t_lt t
  have h0 : t.val ≠ 0 := by intro e; rw [e] at hg; omega
  rcases (Pipeline.RDat.finds_of_pos (rd := rdats m c) (w := 5) (t := t) ((cfg0.win 5).fetch_out rfl t) h0 Y).1 hF with h | h
  · have e : (t.val - 1) % 16 = 15 := (flush0_5 ⟨t.val - 1, Nat.lt_of_le_of_lt (Nat.sub_le _ _) t.isLt⟩).1 h
    omega
  · have hR : R5 m c ⟨t.val - 1, Nat.lt_of_le_of_lt (Nat.sub_le _ _) t.isLt⟩ Y :=
      Pipeline.Dat.toRRel_leaves (dat := dats m 0 c) (fgt := marked) (Rl := Rl m c) (w := 5) rfl h
    refine (hR r g (by show g.val / 4 ≤ (t.val - 1) % 16; omega)).trans ?_
    refine congrArg (fun x => scP (V m c main_arg0) (V m c main_arg1) (V m c main_arg2) (V m c main_arg3) x g) (Fin.ext ?_)
    show (1024 * ((t.val - 1) / 16) + r.val) % 4096 = (1024 * (t.val / 16) + r.val) % 4096
    rw [show (t.val - 1) / 16 = t.val / 16 by omega]

/-- The body at any point of the grid. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨Hg, Ho, ⟨%d0, H0⟩, ⟨%d1, H1⟩, ⟨%d2, H2⟩, ⟨%d3, H3⟩, ⟨%Y4, -, H4⟩, ⟨%X, %hX, H5⟩⟩
  iapply (runBody (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (iblk m c 0 t) (iblk m c 1 t) (iblk m c 2 t) (iblk m c 3 t) X).2.2 Set.univ
  isplitl [H0]; · iexact H0
  isplitl [H1]; · iexact H1
  isplitl [H2]; · iexact H2
  isplitl [H3]; · iexact H3
  isplitl [H4]; · iexists _; iexact H4
  isplitl [H5]; · iexact H5
  iintro ⟨H0, H1, H2, H3, ⟨%f4, H4⟩, ⟨%f5, H5⟩⟩
  isplitl [Hg]; · iexact Hg
  isplitl [Ho]; · iexact Ho
  isplitl [H0]; · iexact H0
  isplitl [H1]; · iexact H1
  isplitl [H2]; · iexact H2
  isplitl [H3]; · iexact H3
  isplitl [H4]
  · iexists _
    isplitr
    rotate_left
    · iapply owns_of_pt; iexact H4
    · ipureintro; exact r4_after m c t X f4
  iexists _
  isplitr
  rotate_left
  · iapply owns_of_pt; iexact H5
  · ipureintro; exact r5_after m c t X (fun r g hg => found m c t X hX r g hg) f5

/-- The body table's row at point `t` is the body. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : Pipeline.BodyObligationRel (dats m 0 c) (defs₀ (F := Ideal)) Variants.none () Set.univ marked (Rl m c) := fun t => by
  rw [bigSep_W0, bigSep_W0, defs₀_row]
  exact triple_restated (sound_body m c t) rfl .rfl fun _ => .rfl

set_option backward.isDefEq.respectTransparency.types false in
/-- The launch: every execution ends in the region's state. -/
theorem run_main : θ_run defs (onTc (τ := τ) (main (F := Ideal))) (s₀ m ρ) (Pipeline.RDat.FramePost (cfgs 0) (rdats m) (V m)) :=
  (θ_run defs _ _).mono (fun _ h => h.1) <|
  Pipeline.RDat.θ_run_frame_track cfgs (0 : Fin 1) launch0 defs₀ Variants.none (rdats m) m ρ main
    (fun c => (body_obligation m c).toRRel) (fun c => (dats m 0 c).share_full fun _ => rfl)
    (fun _ _ => rfl) (V m) (hmain m Variants.none) (A_eq m) (fun _ => .rfl) (fun _ => .rfl) _ (fun _ h => h)

end Cert.Proof.DownIdealValue

end
-- ==== Proof.DownRefEq.lean ====
/- What the down reference computes, entry by entry. -/
module

public import proofs.«01_k».proof.Proof.Gen.DownRefIdeal.Value
public import proofs.«01_k».proof.Proof.DownMath
public import Idealize.ShloMosaic.Lib.Pointwise

@[expose] public section

set_option maxRecDepth 16384

noncomputable section

namespace Cert.Proof.DownRefEq

open Cert.Proof.Quant Cert.Proof.DownMath
open Cert.DownRefIdeal Cert.DownRefIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

/-- The products, with the columns in groups of 128. -/
theorem pay1_at (a0 : Vec Ideal ⟨2, ![4096, 3584]⟩ .fp8e4m3) (a1 : Vec Ideal ⟨2, ![4096, 1]⟩ .f32) (a2 : Vec Ideal ⟨2, ![3584, 8192]⟩ .fp8e4m3) (a3 : Vec Ideal ⟨2, ![1, 8192]⟩ .f32) (r : Fin 4096) (g : Fin 64) (l : Fin 128) :
    k0_pay1 (F := Ideal) a0 a2 a1 a3 (ix3 r g l) = pV a0 a1 a2 a3 r ⟨g.val * 128 + l.val, by omega⟩ := by
  unfold pV
  pointwise [k0_pay1]

/-- The largest of each group. -/
theorem mr_at (v : FVec Ideal S4096x64x128 .f32) (r : Fin 4096) (g : Fin 64) :
    (multiReduction (F := Ideal) .maximumf [2] S4096x64 v 0xFF800000#32 reduces_S4096x64x128_S4096x64 (.inl rfl) rfl) (ix2 r g)
      = Finset.fold max (Ideal.ofBits FTy.f32 4286578688#32) (fun l => v (ix3 r g l)) Finset.univ := by
  pointwise []

/-- The scale of a group from its largest magnitude. -/
theorem scale_at (u : FVec Ideal S4096x64 .f32) (r : Fin 4096) (g : Fin 64) :
    select (cmpf .ogt u (broadcast S4096x64 (Scalar.ofBits .f32 0x00000000#32 : Ideal .f32)))
        (divf u (broadcast S4096x64 (Scalar.ofBits .f32 0x43E00000#32 : Ideal .f32)))
        (broadcast S4096x64 (Scalar.ofBits .f32 0x3F800000#32 : Ideal .f32)) (ix2 r g)
      = scM (u (ix2 r g)) := by
  unfold scM
  pointwise []

/-- The reference's scales. -/
theorem pay2_at (a0 : Vec Ideal ⟨2, ![4096, 3584]⟩ .fp8e4m3) (a1 : Vec Ideal ⟨2, ![4096, 1]⟩ .f32) (a2 : Vec Ideal ⟨2, ![3584, 8192]⟩ .fp8e4m3) (a3 : Vec Ideal ⟨2, ![1, 8192]⟩ .f32) (r : Fin 4096) (g : Fin 64) : k0_pay2 (F := Ideal) a0 a2 a1 a3 (ix2 r g) = scP a0 a1 a2 a3 r g := by
  have hw := pay1_at a0 a1 a2 a3 r g
  unfold scP scF mxF
  generalize pV a0 a1 a2 a3 r = M at hw ⊢
  unfold k0_pay2
  generalize k0_pay1 (F := Ideal) a0 a2 a1 a3 = w at hw ⊢
  refine (scale_at _ r g).trans ?_
  rw [mr_at]
  have e : ∀ l, absf w (ix3 r g l) = ab (M ⟨g.val * 128 + l.val, by omega⟩) := fun l => (congrArg ab (hw l))
  simp only [e]

/-- The clipped quotients, with the columns put back in one axis. -/
theorem code_at (w : FVec Ideal S4096x64x128 .f32) (v : FVec Ideal S4096x64 .f32) (r : Fin 4096) (q : Fin 8192) :
    shapeCast S4096x8192 (truncf .fp8e4m3 (minimumf (broadcast S4096x64x128 (Scalar.ofBits .f32 0x43E00000#32 : Ideal .f32)) (maximumf (broadcast S4096x64x128 (Scalar.ofBits .f32 0xC3E00000#32 : Ideal .f32)) (divf w (broadcastTo S4096x64x128 (shapeCast S4096x64x1 v shapeCasts_S4096x64_S4096x64x1) broadcasts_S4096x64x1_S4096x64x128)))) bitsLt_fp8e4m3_f32) shapeCasts_S4096x64x128_S4096x8192 (ix2 r q)
      = cdF (w (ix3 r ⟨q.val / 128, by omega⟩ ⟨q.val % 128, by omega⟩)) (v (ix2 r ⟨q.val / 128, by omega⟩)) := by
  unfold cdF
  pointwise []

/-- The reference's codes. -/
theorem pay3_at (a0 : Vec Ideal ⟨2, ![4096, 3584]⟩ .fp8e4m3) (a1 : Vec Ideal ⟨2, ![4096, 1]⟩ .f32) (a2 : Vec Ideal ⟨2, ![3584, 8192]⟩ .fp8e4m3) (a3 : Vec Ideal ⟨2, ![1, 8192]⟩ .f32) (r : Fin 4096) (q : Fin 8192) : k0_pay3 (F := Ideal) a0 a2 a1 a3 (ix2 r q) = cdP a0 a1 a2 a3 r q := by
  have h1 := pay1_at a0 a1 a2 a3 r ⟨q.val / 128, by omega⟩ ⟨q.val % 128, by omega⟩
  have h2 := pay2_at a0 a1 a2 a3 r ⟨q.val / 128, by omega⟩
  rw [show (⟨(⟨q.val / 128, by omega⟩ : Fin 64).val * 128 + (⟨q.val % 128, by omega⟩ : Fin 128).val, by show q.val / 128 * 128 + q.val % 128 < 8192; omega⟩ : Fin 8192) = q from Fin.ext (by show q.val / 128 * 128 + q.val % 128 = q.val; omega)] at h1
  unfold cdP
  generalize pV a0 a1 a2 a3 r q = x at h1 ⊢
  generalize scP a0 a1 a2 a3 r ⟨q.val / 128, by omega⟩ = y at h2 ⊢
  unfold k0_pay3
  generalize k0_pay2 (F := Ideal) a0 a2 a1 a3 = v at h2 ⊢
  generalize k0_pay1 (F := Ideal) a0 a2 a1 a3 = w at h1 ⊢
  refine (code_at w v r q).trans ?_
  rw [h1, h2]

/-- The reference's codes, as a result. -/
theorem G4_at (a0 : Vec Ideal ⟨2, ![4096, 3584]⟩ .fp8e4m3) (a1 : Vec Ideal ⟨2, ![4096, 1]⟩ .f32) (a2 : Vec Ideal ⟨2, ![3584, 8192]⟩ .fp8e4m3) (a3 : Vec Ideal ⟨2, ![1, 8192]⟩ .f32) (r : Fin 4096) (q : Fin 8192) : Value.G4 (F := Ideal) a0 a1 a2 a3 (ix2 r q) = cdP a0 a1 a2 a3 r q := by
  unfold Value.G4
  exact pay3_at a0 a1 a2 a3 r q

/-- The reference's scales, as a result. -/
theorem G5_at (a0 : Vec Ideal ⟨2, ![4096, 3584]⟩ .fp8e4m3) (a1 : Vec Ideal ⟨2, ![4096, 1]⟩ .f32) (a2 : Vec Ideal ⟨2, ![3584, 8192]⟩ .fp8e4m3) (a3 : Vec Ideal ⟨2, ![1, 8192]⟩ .f32) (r : Fin 4096) (g : Fin 64) : Value.G5 (F := Ideal) a0 a1 a2 a3 (ix2 r g) = scP a0 a1 a2 a3 r g := by
  unfold Value.G5
  exact pay2_at a0 a1 a2 a3 r g

end Cert.Proof.DownRefEq

end
-- ==== Proof.DownClaim.lean ====
/- The down kernel and its reference end with the same codes and scales. -/
module

public import proofs.«01_k».proof.Proof.DownIdealValue
public import proofs.«01_k».proof.Proof.DownRefEq
public import proofs.«01_k».proof.Defs

@[expose] public section

set_option maxRecDepth 16384

noncomputable section

namespace Cert.Proof.DownClaim

open Cert.Proof.DownIdealInv Cert.Proof.DownIdealValue Cert.Proof.DownMath
open Cert.Proof.DownIdealFrame (unchanged_of)
open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The codes of the whole arrays. -/
def codes (c : Dev nD) : Vec Ideal S4096x8192 .fp8e4m3 := fun j => cdP (V m c main_arg0) (V m c main_arg1) (V m c main_arg2) (V m c main_arg3) (j 0) (j 1)

/-- The scales of the whole arrays. -/
def scales (c : Dev nD) : Vec Ideal S4096x64 .f32 := fun j => scP (V m c main_arg0) (V m c main_arg1) (V m c main_arg2) (V m c main_arg3) (j 0) (j 1)

/-- Result array 0 after the run: the codes. -/
theorem final4 (c : Dev nD) (after : (w' : Fin cfg0.W) → Fin cfg0.N → (cfg0.win w').block.Idx → Elt Ideal (cfg0.win w').elt)
    (hL : ∀ t : Fin cfg0.N, (cfg0.win 4).flush t = true → R4 m c t (after 4 t)) :
    ((rdats m c).withAfter after).arrAt 4 cfg0.N = codes m c := by
  refine ((rdats m c).withAfter after).arrAt_eq_of_covers 4 _ (by decide +kernel) fun t hf y => ?_
  have e := hL t hf (y 0)
  have q0 : ((cfg0.win 4).blk t).view.emb y 0 = row t.val (y 0) := by
    apply Fin.ext
    show win0_4.index t 0 * 1024 + 1 * (y 0).val = _
    rw [(idx4 t).1]
    exact (by rw [Nat.one_mul, Nat.mul_comm] : t.val / 16 * 1024 + 1 * (y 0).val = 1024 * (t.val / 16) + (y 0).val).trans (row_val t (y 0)).symm
  have q1 : ((cfg0.win 4).blk t).view.emb y 1 = col t.val (y 1) := by
    apply Fin.ext
    show win0_4.index t 1 * 512 + 1 * (y 1).val = _
    rw [(idx4 t).2]
    exact (by rw [Nat.one_mul, Nat.mul_comm] : t.val % 16 * 512 + 1 * (y 1).val = 512 * (t.val % 16) + (y 1).val).trans (col_val t.val (y 1)).symm
  show after 4 t y = cdP (V m c main_arg0) (V m c main_arg1) (V m c main_arg2) (V m c main_arg3) (((cfg0.win 4).blk t).view.emb y 0) (((cfg0.win 4).blk t).view.emb y 1)
  rw [q0, q1, ← e (y 1)]
  exact congrArg (after 4 t) (funext fun a => match a with | ⟨0, _⟩ => rfl | ⟨1, _⟩ => rfl)

/-- Result array 1 after the run: the scales. -/
theorem final5 (c : Dev nD) (after : (w' : Fin cfg0.W) → Fin cfg0.N → (cfg0.win w').block.Idx → Elt Ideal (cfg0.win w').elt)
    (hL : ∀ t : Fin cfg0.N, (cfg0.win 5).flush t = true → R5 m c t (after 5 t)) :
    ((rdats m c).withAfter after).arrAt 5 cfg0.N = scales m c := by
  refine ((rdats m c).withAfter after).arrAt_eq_of_covers 5 _ (by decide +kernel) fun t hf y => ?_
  have hl : t.val % 16 = 15 := (flush0_5 t).1 hf
  have hy : (y 1).val < 64 := (y 1).isLt
  have e := hL t hf (y 0) (y 1) (by show (y 1).val / 4 ≤ t.val % 16; omega)
  have q0 : ((cfg0.win 5).blk t).view.emb y 0 = row t.val (y 0) := by
    apply Fin.ext
    show win0_5.index t 0 * 1024 + 1 * (y 0).val = _
    rw [(idx5 t).1]
    exact (by rw [Nat.one_mul, Nat.mul_comm] : t.val / 16 * 1024 + 1 * (y 0).val = 1024 * (t.val / 16) + (y 0).val).trans (row_val t (y 0)).symm
  have q1 : ((cfg0.win 5).blk t).view.emb y 1 = (y 1 : Fin 64) := by
    apply Fin.ext
    show win0_5.index t 1 * 64 + 1 * (y 1).val = _
    rw [(idx5 t).2]
    exact (by omega : 0 * 64 + 1 * (y 1).val = (y 1).val)
  show after 5 t y = scP (V m c main_arg0) (V m c main_arg1) (V m c main_arg2) (V m c main_arg3) (((cfg0.win 5).blk t).view.emb y 0) (((cfg0.win 5).blk t).view.emb y 1)
  rw [q0, q1, ← e]
  exact congrArg (after 5 t) (funext fun a => match a with | ⟨0, _⟩ => rfl | ⟨1, _⟩ => rfl)

/-- Every run of the kernel ends with the codes and scales in its results, the arguments unchanged. -/
theorem run : θ_run defs (onTc (τ := τ) (main (F := Ideal))) ⟨m, fun _ => 0, ρ⟩ fun r => ∀ c : Dev nD,
    r.2.mem ((c.tc : Thread nD τ).loc main_v0_0) = codes m c
      ∧ r.2.mem ((c.tc : Thread nD τ).loc main_v0_1) = scales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨after, hL, hm⟩ := Pipeline.RDat.FramePost.exists_exact h c
    have l4 : ∀ t : Fin cfg0.N, (cfg0.win 4).flush t = true → R4 m c t (after 4 t) := fun t hf =>
      Pipeline.Dat.toRRel_leaves (dat := dats m 0 c) (fgt := marked) (Rl := Rl m c) (w := 4) rfl (hL 4 t hf)
    have l5 : ∀ t : Fin cfg0.N, (cfg0.win 5).flush t = true → R5 m c t (after 5 t) := fun t hf =>
      Pipeline.Dat.toRRel_leaves (dat := dats m 0 c) (fgt := marked) (Rl := Rl m c) (w := 5) rfl (hL 5 t hf)
    exact ⟨(hm 4).trans (final4 m c after l4), (hm 5).trans (final5 m c after l5), unchanged_of m (rdats m) (A_eq m) h c⟩) (run_main m ρ)

/-- The claim: kernel and reference end with equal results. -/
theorem claim [Cert.DownIdeal.Facts] [Cert.DownRefIdeal.Facts] : Cert.algebraic_DownIdeal_DownRefIdeal := by
  intro m g m' g' _ hm
  refine ⟨codes m, scales m, run m g, (θ_run Cert.DownRefIdeal.defs _ _).mono (fun r h c => ?_) (Cert.DownRefIdeal.Value.run m' g')⟩
  obtain ⟨h0, h1, h2⟩ := h c
  obtain ⟨e0, e1, e2, e3⟩ := hm c
  rw [e0, e1, e2, e3] at h0 h1
  refine ⟨h0.trans ?_, h1.trans ?_, h2⟩
  · funext j
    have e : j = ix2 (j 0) (j 1) := (funext fun a => match a with | ⟨0, _⟩ => rfl | ⟨1, _⟩ => rfl)
    rw [e]
    exact DownRefEq.G4_at _ _ _ _ (j 0) (j 1)
  · funext j
    have e : j = ix2 (j 0) (j 1) := (funext fun a => match a with | ⟨0, _⟩ => rfl | ⟨1, _⟩ => rfl)
    rw [e]
    exact DownRefEq.G5_at _ _ _ _ (j 0) (j 1)

end Cert.Proof.DownClaim

end
-- ==== Proof.RecvIdealRun.lean ====
/- One grid point of the receive kernel: what its 64 groups of 128 columns store in the scratch, in the block of residuals, in the block of codes and in the block of scales, stated once for a group. -/
module

public import proofs.«01_k».proof.Proof.Gen.RecvIdeal.Frame

@[expose] public section

set_option maxRecDepth 65536

noncomputable section

namespace Cert.Proof.RecvIdealRun

open Cert.RecvIdeal Cert.RecvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- A group's columns lie in the block. -/
theorem inbG (g : ℕ) (a : Fin 2) : (![0, 128 * (g % 64)] : Fin 2 → ℕ) a + S32x128.size a ≤ S32x8192.size a := by
  fin_cases a
  · show 0 + 32 ≤ 32; omega
  · show 128 * (g % 64) + 128 ≤ 8192; omega

/-- A peer's group of codes lies in the block. -/
theorem inbA (r g : ℕ) (a : Fin 3) : (![r % 8, 0, 128 * (g % 64)] : Fin 3 → ℕ) a + S1x32x128.size a ≤ S8x32x8192.size a := by
  fin_cases a
  · show r % 8 + 1 ≤ 8; omega
  · show 0 + 32 ≤ 32; omega
  · show 128 * (g % 64) + 128 ≤ 8192; omega

/-- A peer's scale of a group lies in the block. -/
theorem inbB (r g : ℕ) (a : Fin 3) : (![r % 8, 0, g % 64] : Fin 3 → ℕ) a + S1x32x1.size a ≤ S8x32x64.size a := by
  fin_cases a
  · show r % 8 + 1 ≤ 8; omega
  · show 0 + 32 ≤ 32; omega
  · show g % 64 + 1 ≤ 64; omega

/-- A group's weights lie in the row of weights. -/
theorem inbW (g : ℕ) (a : Fin 2) : (![0, 128 * (g % 64)] : Fin 2 → ℕ) a + S1x128.size a ≤ S1x8192.size a := by
  fin_cases a
  · show 0 + 1 ≤ 1; omega
  · show 128 * (g % 64) + 128 ≤ 8192; omega

/-- The columns of group `g`. -/
def rG (g : ℕ) : Rect S32x8192 := Rect.unit (s := S32x8192) ![0, 128 * (g % 64)] S32x128.size (inbG g)

/-- Peer `r`'s codes of group `g`, as loaded. -/
def ldA (arg1 : Memref sig .tc .vmem S8x32x8192 .fp8e4m3) (harg1 : arg1.IsWhole) (x0 : Vec F S8x32x8192 .fp8e4m3) (r g : ℕ) : Vec F S1x32x128 .fp8e4m3 :=
  View.readAt (Elt F) arg1.view (Rect.unit (s := S8x32x8192) ![r % 8, 0, 128 * (g % 64)] S1x32x128.size (inbA r g)).toLoadRect (harg1.unread x0)

/-- Peer `r`'s scales of group `g`, as loaded. -/
def ldB (arg2 : Memref sig .tc .vmem S8x32x64 .f32) (harg2 : arg2.IsWhole) (x1 : Vec F S8x32x64 .f32) (r g : ℕ) : Vec F S1x32x1 .f32 :=
  View.readAt (Elt F) arg2.view (Rect.unit (s := S8x32x64) ![r % 8, 0, g % 64] S1x32x1.size (inbB r g)).toLoadRect (harg2.unread x1)

/-- The residual's columns of group `g`, as loaded. -/
def ldX (arg3 : Memref sig .tc .vmem S32x8192 .bf16) (harg3 : arg3.IsWhole) (x2 : Vec F S32x8192 .bf16) (g : ℕ) : Vec F S32x128 .bf16 :=
  View.readAt (Elt F) arg3.view (Rect.unit (s := S32x8192) ![0, 128 * (g % 64)] S32x128.size (inbG g)).toLoadRect (harg3.unread x2)

/-- The weights of group `g`, as loaded. -/
def ldW (arg4 : Memref sig .tc .vmem S1x8192 .f32) (harg4 : arg4.IsWhole) (x3 : Vec F S1x8192 .f32) (g : ℕ) : Vec F S1x128 .f32 :=
  View.readAt (Elt F) arg4.view (Rect.unit (s := S1x8192) ![0, 128 * (g % 64)] S1x128.size (inbW g)).toLoadRect (harg4.unread x3)

/-- Codes times scales. -/
def pr (a : Vec F S1x32x128 .fp8e4m3) (b : Vec F S1x32x1 .f32) : FVec F S32x128 .f32 :=
  mulf (extf .f32 (shapeCast S32x128 a shapeCasts_S1x32x128_S32x128) bitsLt_fp8e4m3_f32)
    (broadcastTo S32x128 (shapeCast S32x1 b shapeCasts_S1x32x1_S32x1) broadcasts_S32x1_S32x128)

section
variable (A : ℕ → ℕ → Vec F S1x32x128 .fp8e4m3) (B : ℕ → ℕ → Vec F S1x32x1 .f32) (X : ℕ → Vec F S32x128 .bf16) (W : ℕ → Vec F S1x128 .f32)

/-- The sum of group `g`: the peers' products, and the residual. -/
def H (g : ℕ) : FVec F S32x128 .f32 :=
  addf (addf (addf (addf (addf (addf (addf (addf (pr (A 0 g) (B 0 g)) (pr (A 1 g) (B 1 g))) (pr (A 2 g) (B 2 g))) (pr (A 3 g) (B 3 g)))
    (pr (A 4 g) (B 4 g))) (pr (A 5 g) (B 5 g))) (pr (A 6 g) (B 6 g))) (pr (A 7 g) (B 7 g))) (extf .f32 (X g) bitsLt_bf16_f32)

/-- The sums of the first `n` groups, as stored in the scratch, the latest first. -/
def P1 (n : ℕ) : List (View.Piece (Elt F) S32x8192 .f32) :=
  Nat.rec [] (fun k L => ⟨rG k, shapeCast S32x128 (H A B X k) shapeCasts_S32x128_S32x128⟩ :: L) n

/-- The residuals of the first `n` groups, the latest first. -/
def PR (n : ℕ) : List (View.Piece (Elt F) S32x8192 .bf16) :=
  Nat.rec [] (fun k L => ⟨rG k, truncf .bf16 (H A B X k) bitsLt_bf16_f32⟩ :: L) n

/-- The running sum of squares after `n` groups, lane by lane. -/
def SS (n : ℕ) : FVec F S32x128 .f32 :=
  Nat.rec (broadcast S32x128 (Scalar.ofBits .f32 0x00000000#32 : F .f32)) (fun k s => addf s (mulf (H A B X k) (H A B X k))) n

/-- The root of the mean square from the sums of squares. -/
def rmsOf (s : FVec F S32x128 .f32) : FVec F S32x1 .f32 :=
  sqrt (addf (divf (shapeCast S32x1 (multiReduction .add [1] S32 s 0x00000000#32 reduces_S32x128_S32 (.inl rfl) rfl) shapeCasts_S32_S32x1)
    (broadcast S32x1 (Scalar.ofBits .f32 0x46000000#32 : F .f32))) (broadcast S32x1 (Scalar.ofBits .f32 0x3727C5AC#32 : F .f32)))

/-- A group's sums over the root, times the weights. -/
def nrm (q : FVec F S32x1 .f32) (h : Vec F S32x128 .f32) (w : Vec F S1x128 .f32) : FVec F S32x128 .f32 :=
  mulf (divf h (broadcastTo S32x128 q broadcasts_S32x1_S32x128)) (broadcastTo S32x128 w broadcasts_S1x128_S32x128)

variable {κ : Kind} {sp : Space} (v : View sig κ sp S32x8192 .f32)

/-- The scratch's stores after all sums and the first `n` groups of normalized values, the latest first: each
    group reads its sums back before it overwrites them. -/
def P2 (n : ℕ) : List (View.Piece (Elt F) S32x8192 .f32) :=
  Nat.rec (P1 A B X 64) (fun k L => ⟨rG k, shapeCast S32x128 (nrm (rmsOf (SS A B X 64)) (v.readCov L (rG k).toLoadRect) (W k)) shapeCasts_S32x128_S32x128⟩ :: L) n

/-- The running maximum of magnitudes after `n` groups, lane by lane. -/
def AM (n : ℕ) : FVec F S32x128 .f32 :=
  Nat.rec (broadcast S32x128 (Scalar.ofBits .f32 0x00000000#32 : F .f32))
    (fun k a => maximumf a (absf (nrm (rmsOf (SS A B X 64)) (v.readCov (P2 A B X W v k) (rG k).toLoadRect) (W k)))) n

/-- The scales from the running maxima. -/
def scOf (a : FVec F S32x128 .f32) : FVec F S32x1 .f32 :=
  select (cmpf .ogt (shapeCast S32x1 (multiReduction .maximumf [1] S32 a 0xFF800000#32 reduces_S32x128_S32 (.inl rfl) rfl) shapeCasts_S32_S32x1) (broadcast S32x1 (Scalar.ofBits .f32 0x00000000#32 : F .f32)))
    (divf (shapeCast S32x1 (multiReduction .maximumf [1] S32 a 0xFF800000#32 reduces_S32x128_S32 (.inl rfl) rfl) shapeCasts_S32_S32x1) (broadcast S32x1 (Scalar.ofBits .f32 0x43E00000#32 : F .f32)))
    (broadcast S32x1 (Scalar.ofBits .f32 0x3F800000#32 : F .f32))

/-- The codes of a group's values under the scales. -/
def cdOf (s : FVec F S32x1 .f32) (y : Vec F S32x128 .f32) : FVec F S32x128 .fp8e4m3 :=
  truncf .fp8e4m3 (minimumf (broadcast S32x128 (Scalar.ofBits .f32 0x43E00000#32 : F .f32))
    (maximumf (broadcast S32x128 (Scalar.ofBits .f32 0xC3E00000#32 : F .f32)) (divf y (broadcastTo S32x128 s broadcasts_S32x1_S32x128)))) bitsLt_fp8e4m3_f32

/-- The codes of the first `n` groups, the latest first. -/
def PC (n : ℕ) : List (View.Piece (Elt F) S32x8192 .fp8e4m3) :=
  Nat.rec [] (fun k L => ⟨rG k, cdOf (scOf (AM A B X W v 64)) (v.readCov (P2 A B X W v 64) (rG k).toLoadRect)⟩ :: L) n

end

section
variable (c : Dev nD) (i : grid0.Coords) (arg1 : Memref sig .tc .vmem S8x32x8192 .fp8e4m3) (harg1 : arg1.IsWhole) (arg2 : Memref sig .tc .vmem S8x32x64 .f32) (harg2 : arg2.IsWhole) (arg3 : Memref sig .tc .vmem S32x8192 .bf16) (harg3 : arg3.IsWhole) (arg4 : Memref sig .tc .vmem S1x8192 .f32) (harg4 : arg4.IsWhole) (arg5 : Memref sig .tc .vmem S32x8192 .bf16) (harg5 : arg5.IsWhole) (arg6 : Memref sig .tc .vmem S32x8192 .fp8e4m3) (harg6 : arg6.IsWhole) (arg7 : Memref sig .tc .vmem S32x1 .f32) (harg7 : arg7.IsWhole) (arg8 : Memref sig .tc .vmem S32x8192 .f32) (harg8 : arg8.IsWhole)
    (x0 : Vec F S8x32x8192 .fp8e4m3) (x1 : Vec F S8x32x64 .f32) (x2 : Vec F S32x8192 .bf16) (x3 : Vec F S1x8192 .f32)

/-- What a grid point stores in the block of residuals. -/
theorem run4 : (kernelRun0_A c i arg1 harg1 arg2 harg2 arg3 harg3 arg4 harg4 arg5 harg5 arg6 harg6 arg7 harg7 arg8 harg8 x0 x1 x2 x3).1
    = PR (ldA arg1 harg1 x0) (ldB arg2 harg2 x1) (ldX arg3 harg3 x2) 64 := by sl_kernel_rfl

/-- What a grid point stores in the block of scales. -/
theorem run6 : (kernelRun0_A c i arg1 harg1 arg2 harg2 arg3 harg3 arg4 harg4 arg5 harg5 arg6 harg6 arg7 harg7 arg8 harg8 x0 x1 x2 x3).2.2.1
    = [⟨Rect.unit (s := S32x1) ![0, 0] S32x1.size inb_S32x1_S32x1_0_0, scOf (AM (ldA arg1 harg1 x0) (ldB arg2 harg2 x1) (ldX arg3 harg3 x2) (ldW arg4 harg4 x3) arg8.view 64)⟩] := by sl_kernel_rfl

/-- What a grid point stores in the block of codes. -/
theorem run5 : (kernelRun0_A c i arg1 harg1 arg2 harg2 arg3 harg3 arg4 harg4 arg5 harg5 arg6 harg6 arg7 harg7 arg8 harg8 x0 x1 x2 x3).2.1
    = PC (ldA arg1 harg1 x0) (ldB arg2 harg2 x1) (ldX arg3 harg3 x2) (ldW arg4 harg4 x3) arg8.view 64 := by sl_kernel_rfl

end

end Cert.Proof.RecvIdealRun

end
-- ==== Proof.RecvMath.lean ====
/- One row of the receive call as plain mathematics — the sum of the peers' scaled codes and the residual, its normalization, its scale and its codes —, and the sums and maxima over groups of 128 columns. -/
module

public import proofs.«01_k».proof.Proof.Quant

@[expose] public section

noncomputable section

namespace Cert.Proof.RecvMath

open Cert.Proof.Quant
open Idealize.ShloMosaic

/-- Column `q` of a row's sum: the peers' codes times their scales, and the residual. -/
def hF (c : Fin 8 → Fin 8192 → EReal) (s : Fin 8 → Fin 64 → EReal) (x : Fin 8192 → EReal) (q : Fin 8192) : EReal :=
  (∑ r, c r q * s r ⟨q.val / 128, by omega⟩) + x q

/-- The root of a row's mean square, with a small term added. -/
def rF (h : Fin 8192 → EReal) : EReal :=
  Ideal.sqrt (Ideal.div (∑ q, h q * h q) (Ideal.ofBits FTy.f32 0x46000000#32) + Ideal.ofBits FTy.f32 0x3727C5AC#32)

/-- Column `q` of a normalized row. -/
def nF (h w : Fin 8192 → EReal) (q : Fin 8192) : EReal := Ideal.div (h q) (rF h) * w q

/-- Column `128 g + l`. -/
def at8 (g : ℕ) (l : Fin 128) : Fin 8192 := ⟨128 * (g % 64) + l.val, by omega⟩

/-- The sum over all columns is the sum over the lanes of the sums over the groups. -/
theorem sum_groups (f : Fin 8192 → EReal) : (∑ l : Fin 128, ∑ g ∈ Finset.range 64, f (at8 g l)) = ∑ q, f q := by
  have e : (∑ q, f q) = ∑ p : Fin 64 × Fin 128, f (finProdFinEquiv p : Fin (64 * 128)) :=
    (Equiv.sum_comp (finProdFinEquiv : Fin 64 × Fin 128 ≃ Fin (64 * 128)) f).symm
  rw [e, Fintype.sum_prod_type_right]
  refine Finset.sum_congr rfl fun l _ => ?_
  rw [Finset.sum_range]
  refine Finset.sum_congr rfl fun g _ => congrArg f (Fin.ext ?_)
  show 128 * (g.val % 64) + l.val = l.val + 128 * g.val
  rw [Nat.mod_eq_of_lt g.isLt, Nat.add_comm]

/-- The running maximum of magnitudes at lane `l` after `n` groups. -/
def aF (f : Fin 8192 → EReal) (l : Fin 128) : ℕ → EReal
  | 0 => 0
  | n + 1 => max (aF f l n) (ab (f (at8 n l)))

/-- What bounds the running maximum bounds every magnitude it has seen, and zero. -/
theorem aF_le (f : Fin 8192 → EReal) (l : Fin 128) (n : ℕ) (z : EReal) : aF f l n ≤ z ↔ 0 ≤ z ∧ ∀ j < n, ab (f (at8 j l)) ≤ z := by
  induction n with
  | zero => simp [aF]
  | succ n ih =>
    rw [aF, max_le_iff, ih]
    constructor
    · rintro ⟨⟨h0, h⟩, h1⟩
      refine ⟨h0, fun j hj => ?_⟩
      rcases Nat.lt_succ_iff_lt_or_eq.1 hj with hj | rfl
      · exact h j hj
      · exact h1
    · rintro ⟨h0, h⟩
      exact ⟨⟨h0, fun j hj => h j (Nat.lt_succ_of_lt hj)⟩, h n (Nat.lt_succ_self n)⟩

/-- The largest of the lanes' running maxima after all groups is the row's largest magnitude. -/
theorem mx_groups (f : Fin 8192 → EReal) :
    Finset.fold max (Ideal.ofBits FTy.f32 4286578688#32) (fun l : Fin 128 => aF f l 64) Finset.univ = mxF f := by
  refine eq_of_forall_ge_iff fun z => ?_
  unfold mxF
  rw [Finset.fold_max_le, Finset.fold_max_le]
  refine and_congr_right fun _ => ?_
  simp only [Finset.mem_univ, true_imp_iff, aF_le]
  constructor
  · intro h q
    have e := (h ⟨q.val % 128, Nat.mod_lt _ (by decide)⟩).2 (q.val / 128) (by omega)
    rw [show at8 (q.val / 128) ⟨q.val % 128, Nat.mod_lt _ (by decide)⟩ = q from
      Fin.ext (by show 128 * (q.val / 128 % 64) + q.val % 128 = q.val; omega)] at e
    exact e
  · intro h l
    exact ⟨(ab_nonneg _).trans (h ⟨0, by decide⟩), fun j _ => h _⟩

end Cert.Proof.RecvMath

end
-- ==== Proof.RecvIdealReads.lean ====
/- The blocks of residuals, of codes and of scales after one grid point of the receive kernel, read entry by entry. -/
module

public import proofs.«01_k».proof.Proof.RecvIdealRun
public import proofs.«01_k».proof.Proof.RecvMath
public import proofs.«01_k».proof.Proof.Gen.RecvIdeal.Value
public import Idealize.ShloMosaic.Lib.Pipeline.ValueKit.Tiles

@[expose] public section

set_option maxRecDepth 16384

noncomputable section

namespace Cert.Proof.RecvIdealReads

open Cert.Proof.RecvIdealRun Cert.Proof.RecvMath Cert.Proof.Quant
open Cert.RecvIdeal Cert.RecvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

section
variable {F : FTy → Type} [FloatOps F]
variable (A : ℕ → ℕ → Vec F S1x32x128 .fp8e4m3) (B : ℕ → ℕ → Vec F S1x32x1 .f32) (X : ℕ → Vec F S32x128 .bf16) (W : ℕ → Vec F S1x128 .f32)
variable {κ : Kind} {sp : Space} (v : View sig κ sp S32x8192 .f32)

/-- Different groups have no columns in common. -/
theorem rG_disjoint (j k : ℕ) (hj : j < 64) (hk : k < 64) (h : j ≠ k) : Disjoint (rG k).set (rG j).set := by
  rw [Finset.disjoint_left]
  intro y hy hy'
  have a : 128 * (k % 64) ≤ (y 1).val ∧ (y 1).val < 128 * (k % 64) + 128 := (Rect.mem_set_unit.1 hy) 1
  have b : 128 * (j % 64) ≤ (y 1).val ∧ (y 1).val < 128 * (j % 64) + 128 := (Rect.mem_set_unit.1 hy') 1
  omega

/-- A group's sums, as stored. -/
abbrev Hs (k : ℕ) : FVec F S32x128 .f32 := shapeCast S32x128 (H A B X k) shapeCasts_S32x128_S32x128

/-- A group's normalized values, from its sums as stored. -/
abbrev Nk (k : ℕ) : FVec F S32x128 .f32 := nrm (rmsOf (SS A B X 64)) (Hs A B X k) (W k)

/-- A group's normalized values, as stored. -/
abbrev Ns (k : ℕ) : FVec F S32x128 .f32 := shapeCast S32x128 (Nk A B X W k) shapeCasts_S32x128_S32x128

theorem P1_succ (n : ℕ) : P1 A B X (n + 1) = ⟨rG n, Hs A B X n⟩ :: P1 A B X n := rfl

theorem P2_succ (n : ℕ) : P2 A B X W v (n + 1)
    = ⟨rG n, shapeCast S32x128 (nrm (rmsOf (SS A B X 64)) (v.readCov (P2 A B X W v n) (rG n).toLoadRect) (W n)) shapeCasts_S32x128_S32x128⟩ :: P2 A B X W v n := rfl

/-- A load of a group's columns after another group's store reads what was there before. -/
theorem skip (j n : ℕ) (hj : j < 64) (hn : n < 64) (e : j ≠ n) (w : (rG n).shape.Idx → Elt F .f32) (L : List (View.Piece (Elt F) S32x8192 .f32)) :
    v.readCov (⟨rG n, w⟩ :: L) (rG j).toLoadRect = v.readCov L (rG j).toLoadRect :=
  View.readCov_cons_of_disjoint v _ _ _ (rG_disjoint j n hj hn e)

/-- A load of a group's columns after that group's store reads the values stored. -/
theorem own (n : ℕ) (w : (rG n).shape.Idx → Elt F .f32) (L : List (View.Piece (Elt F) S32x8192 .f32)) :
    v.readCov (⟨rG n, w⟩ :: L) (rG n).toLoadRect = w :=
  View.readCov_cons_toLoadRect v _ _ _

/-- A group's sums read back after at least that group's store. -/
theorem read1 (j : ℕ) (hj : j < 64) (n : ℕ) (hn : n ≤ 64) (h : j < n) : v.readCov (P1 A B X n) (rG j).toLoadRect = Hs A B X j := by
  induction n with
  | zero => omega
  | succ n ih =>
    rw [P1_succ]
    by_cases e : j = n
    · subst e
      exact own v j _ _
    · exact (skip v j n hj (by omega) e _ _).trans (ih (by omega) (by omega))

/-- A group's sums read back before the group is normalized. -/
theorem read2 (j : ℕ) (hj : j < 64) (n : ℕ) (hn : n ≤ j) : v.readCov (P2 A B X W v n) (rG j).toLoadRect = Hs A B X j := by
  induction n with
  | zero => exact read1 A B X v j hj 64 (le_refl _) hj
  | succ n ih =>
    rw [P2_succ]
    exact (skip v j n hj (by omega) (by omega) _ _).trans (ih (by omega))

/-- A group's normalized values read back after they are stored. -/
theorem read3 (j : ℕ) (hj : j < 64) (n : ℕ) (hn : n ≤ 64) (h : j < n) : v.readCov (P2 A B X W v n) (rG j).toLoadRect = Ns A B X W j := by
  induction n with
  | zero => omega
  | succ n ih =>
    rw [P2_succ]
    by_cases e : j = n
    · subst e
      refine (own v j _ _).trans ?_
      exact congrArg (fun z : Vec F S32x128 .f32 => shapeCast S32x128 (nrm (rmsOf (SS A B X 64)) z (W j)) shapeCasts_S32x128_S32x128) (read2 A B X W v j hj j (le_refl _))
    · exact (skip v j n hj (by omega) e _ _).trans (ih (by omega) (by omega))

/-- The first running maximum is zero, and the next takes in the group's magnitudes. -/
theorem AM_succ (n : ℕ) (hn : n < 64) : AM A B X W v (n + 1) = maximumf (AM A B X W v n) (absf (Nk A B X W n)) :=
  congrArg (fun z : Vec F S32x128 .f32 => maximumf (AM A B X W v n) (absf (nrm (rmsOf (SS A B X 64)) z (W n)))) (read2 A B X W v n hn n (le_refl _))

theorem SS_succ (n : ℕ) : SS A B X (n + 1) = addf (SS A B X n) (mulf (H A B X n) (H A B X n)) := rfl

end

/-- Where an element of a group's columns lies. -/
theorem rG_emb (k : ℕ) (x : (rG k).shape.Idx) : (rG k).emb x = ix2 (x 0 : Fin 32) (at8 k (x 1)) := by
  funext a
  match a with
  | ⟨0, _⟩ => exact Fin.ext ((Rect.idx_unit_val _ _ (inbG k) x 0).trans (Nat.zero_add _))
  | ⟨1, _⟩ => exact Fin.ext (Rect.idx_unit_val _ _ (inbG k) x 1)

/-- Codes times scales, entry by entry. -/
theorem pr_at (a : Vec Ideal S1x32x128 .fp8e4m3) (b : Vec Ideal S1x32x1 .f32) (r : Fin 32) (l : Fin 128) :
    pr a b (ix2 r l) = a (ix3 0 r l) * b (ix3 0 r 0) := by
  pointwise [pr]

/-- A group's sum, entry by entry. -/
theorem H_ix (A : ℕ → ℕ → Vec Ideal S1x32x128 .fp8e4m3) (B : ℕ → ℕ → Vec Ideal S1x32x1 .f32) (X : ℕ → Vec Ideal S32x128 .bf16) (g : ℕ) (y : S32x128.Idx) :
    H A B X g y = (pr (A 0 g) (B 0 g) y + pr (A 1 g) (B 1 g) y + pr (A 2 g) (B 2 g) y + pr (A 3 g) (B 3 g) y + pr (A 4 g) (B 4 g) y
      + pr (A 5 g) (B 5 g) y + pr (A 6 g) (B 6 g) y + pr (A 7 g) (B 7 g) y + X g y : EReal) := rfl

/-- A stored value is the value. -/
theorem same_at (u : FVec Ideal S32x128 .f32) : shapeCast S32x128 u shapeCasts_S32x128_S32x128 = u := by
  funext x
  have ex : x = ix2 (x 0) (x 1) := funext fun a => match a with | ⟨0, _⟩ => rfl | ⟨1, _⟩ => rfl
  rw [ex]
  pointwise []

/-- The root of the mean square of a row. -/
theorem rms_at (s : FVec Ideal S32x128 .f32) (r : Fin 32) :
    rmsOf s (ix2 r 0) = Ideal.sqrt (Ideal.div (∑ l, s (ix2 r l)) (Ideal.ofBits FTy.f32 0x46000000#32) + Ideal.ofBits FTy.f32 0x3727C5AC#32) := by
  pointwise [rmsOf]

/-- A normalized value. -/
theorem nrm_at (q : FVec Ideal S32x1 .f32) (h : Vec Ideal S32x128 .f32) (w : Vec Ideal S1x128 .f32) (r : Fin 32) (l : Fin 128) :
    nrm q h w (ix2 r l) = Ideal.div (h (ix2 r l)) (q (ix2 r 0)) * w (ix2 0 l) := by
  pointwise [nrm]

/-- The largest of each row. -/
theorem mr_at (a : FVec Ideal S32x128 .f32) (j : S32.Idx) :
    (multiReduction (F := Ideal) .maximumf [1] S32 a 0xFF800000#32 reduces_S32x128_S32 (.inl rfl) rfl) j
      = Finset.fold max (Ideal.ofBits FTy.f32 4286578688#32) (fun l => a (ix2 (j 0) l)) Finset.univ := by
  pointwise []

/-- The scale of a row from the row's largest magnitude. -/
theorem scale_at (u : FVec Ideal S32 .f32) (r : Fin 32) :
    select (cmpf .ogt (shapeCast S32x1 u shapeCasts_S32_S32x1) (broadcast S32x1 (Scalar.ofBits .f32 0x00000000#32 : Ideal .f32)))
        (divf (shapeCast S32x1 u shapeCasts_S32_S32x1) (broadcast S32x1 (Scalar.ofBits .f32 0x43E00000#32 : Ideal .f32)))
        (broadcast S32x1 (Scalar.ofBits .f32 0x3F800000#32 : Ideal .f32)) (ix2 r 0)
      = scM (u (ix1 r)) := by
  unfold scM
  pointwise []

/-- A code. -/
theorem cd_at (s : FVec Ideal S32x1 .f32) (y : Vec Ideal S32x128 .f32) (r : Fin 32) (l : Fin 128) :
    cdOf s y (ix2 r l) = cdF (y (ix2 r l)) (s (ix2 r 0)) := by
  unfold cdF
  pointwise [cdOf]

section
variable (x0 : Vec Ideal S8x32x8192 .fp8e4m3) (x1 : Vec Ideal S8x32x64 .f32) (x2 : Vec Ideal S32x8192 .bf16) (x3 : Vec Ideal S1x8192 .f32) (r : Fin 32)

/-- Row `r` of the block's sums. -/
def hB : Fin 8192 → EReal := hF (fun p q => x0 (ix3 p r q)) (fun p g => x1 (ix3 p r g)) (fun q => x2 (ix2 r q))

/-- Row `r` of the block's normalized sums. -/
def nB : Fin 8192 → EReal := nF (hB x0 x1 x2 r) fun q => x3 (ix2 0 q)

variable (arg1 : Memref sig .tc .vmem S8x32x8192 .fp8e4m3) (harg1 : arg1.IsWhole) (arg2 : Memref sig .tc .vmem S8x32x64 .f32) (harg2 : arg2.IsWhole) (arg3 : Memref sig .tc .vmem S32x8192 .bf16) (harg3 : arg3.IsWhole) (arg4 : Memref sig .tc .vmem S1x8192 .f32) (harg4 : arg4.IsWhole)

/-- A code as loaded. -/
theorem ldA_at (p g : ℕ) (l : Fin 128) : ldA arg1 harg1 x0 p g (ix3 0 r l) = x0 (ix3 (⟨p % 8, Nat.mod_lt _ (by decide)⟩ : Fin 8) r (at8 g l)) := by
  unfold ldA
  simp only [View.readAt_eq_ld, harg1.read_unread]
  refine View.ld_unit_apply_of x0 ![p % 8, 0, 128 * (g % 64)] S1x32x128.size (inbA p g) (ix3 0 r l) _ fun a => ?_
  match a with
  | ⟨0, _⟩ => rfl
  | ⟨1, _⟩ => exact (Nat.zero_add _).symm
  | ⟨2, _⟩ => rfl

/-- A scale as loaded. -/
theorem ldB_at (p g : ℕ) : ldB arg2 harg2 x1 p g (ix3 0 r 0) = x1 (ix3 (⟨p % 8, Nat.mod_lt _ (by decide)⟩ : Fin 8) r (⟨g % 64, Nat.mod_lt _ (by decide)⟩ : Fin 64)) := by
  unfold ldB
  simp only [View.readAt_eq_ld, harg2.read_unread]
  refine View.ld_unit_apply_of x1 ![p % 8, 0, g % 64] S1x32x1.size (inbB p g) (ix3 0 r 0) _ fun a => ?_
  match a with
  | ⟨0, _⟩ => rfl
  | ⟨1, _⟩ => exact (Nat.zero_add _).symm
  | ⟨2, _⟩ => rfl

/-- A residual as loaded. -/
theorem ldX_at (g : ℕ) (l : Fin 128) : ldX arg3 harg3 x2 g (ix2 r l) = x2 (ix2 r (at8 g l)) := by
  unfold ldX
  simp only [View.readAt_eq_ld, harg3.read_unread]
  refine View.ld_unit_apply_of x2 ![0, 128 * (g % 64)] S32x128.size (inbG g) (ix2 r l) _ fun a => ?_
  match a with
  | ⟨0, _⟩ => exact (Nat.zero_add _).symm
  | ⟨1, _⟩ => rfl

/-- A weight as loaded. -/
theorem ldW_at (g : ℕ) (l : Fin 128) : ldW arg4 harg4 x3 g (ix2 0 l) = x3 (ix2 0 (at8 g l)) := by
  unfold ldW
  simp only [View.readAt_eq_ld, harg4.read_unread]
  refine View.ld_unit_apply_of x3 ![0, 128 * (g % 64)] S1x128.size (inbW g) (ix2 0 l) _ fun a => ?_
  match a with
  | ⟨0, _⟩ => rfl
  | ⟨1, _⟩ => rfl

/-- A group's sums are the row's. -/
theorem H_at (g : ℕ) (l : Fin 128) : H (ldA arg1 harg1 x0) (ldB arg2 harg2 x1) (ldX arg3 harg3 x2) g (ix2 r l) = hB x0 x1 x2 r (at8 g l) := by
  have e : ∀ p : ℕ, pr (ldA arg1 harg1 x0 p g) (ldB arg2 harg2 x1 p g) (ix2 r l)
      = x0 (ix3 (⟨p % 8, Nat.mod_lt _ (by decide)⟩ : Fin 8) r (at8 g l)) * x1 (ix3 (⟨p % 8, Nat.mod_lt _ (by decide)⟩ : Fin 8) r (⟨g % 64, Nat.mod_lt _ (by decide)⟩ : Fin 64)) := fun p => by
    rw [pr_at, ldA_at, ldB_at]
  have eg : (⟨(at8 g l).val / 128, by omega⟩ : Fin 64) = ⟨g % 64, Nat.mod_lt _ (by decide)⟩ :=
    Fin.ext (by show (128 * (g % 64) + l.val) / 128 = g % 64; omega)
  unfold hB hF
  rw [eg, Fin.sum_univ_eight]
  rw [H_ix, e 0, e 1, e 2, e 3, e 4, e 5, e 6, e 7, ldX_at]
  rfl

/-- The running sum of squares of a lane is the sum over the groups. -/
theorem SS_at (n : ℕ) (l : Fin 128) : SS (ldA arg1 harg1 x0) (ldB arg2 harg2 x1) (ldX arg3 harg3 x2) n (ix2 r l)
    = ∑ g ∈ Finset.range n, hB x0 x1 x2 r (at8 g l) * hB x0 x1 x2 r (at8 g l) := by
  induction n with
  | zero =>
    rw [Finset.sum_range_zero]
    exact Ideal.ofBits_zero .f32
  | succ n ih =>
    rw [Finset.sum_range_succ, ← ih, ← H_at x0 x1 x2 r arg1 harg1 arg2 harg2 arg3 harg3 n l, SS_succ]
    rfl

/-- The root of the mean square of the block's row. -/
theorem root_at : rmsOf (SS (ldA arg1 harg1 x0) (ldB arg2 harg2 x1) (ldX arg3 harg3 x2) 64) (ix2 r 0) = rF (hB x0 x1 x2 r) := by
  rw [rms_at]
  simp only [SS_at]
  rw [sum_groups fun q => hB x0 x1 x2 r q * hB x0 x1 x2 r q]
  rfl

/-- A group's normalized values are the row's. -/
theorem N_at (g : ℕ) (l : Fin 128) : Nk (ldA arg1 harg1 x0) (ldB arg2 harg2 x1) (ldX arg3 harg3 x2) (ldW arg4 harg4 x3) g (ix2 r l) = nB x0 x1 x2 x3 r (at8 g l) := by
  unfold Nk Hs
  rw [same_at, nrm_at, root_at, H_at, ldW_at]
  rfl

variable (arg8 : Memref sig .tc .vmem S32x8192 .f32)

/-- The running maximum of a lane is the row's. -/
theorem AM_at (n : ℕ) (hn : n ≤ 64) (l : Fin 128) : AM (ldA arg1 harg1 x0) (ldB arg2 harg2 x1) (ldX arg3 harg3 x2) (ldW arg4 harg4 x3) arg8.view n (ix2 r l)
    = aF (nB x0 x1 x2 x3 r) l n := by
  induction n with
  | zero => exact Ideal.ofBits_zero .f32
  | succ n ih =>
    unfold aF
    rw [← ih (by omega), ← N_at x0 x1 x2 x3 r arg1 harg1 arg2 harg2 arg3 harg3 arg4 harg4 n l]
    rw [AM_succ _ _ _ _ _ n (by omega)]
    rfl

/-- The block's scales. -/
theorem sc_at : scOf (AM (ldA arg1 harg1 x0) (ldB arg2 harg2 x1) (ldX arg3 harg3 x2) (ldW arg4 harg4 x3) arg8.view 64) (ix2 r 0) = scF (nB x0 x1 x2 x3 r) := by
  unfold scOf scF
  rw [scale_at, mr_at, ← mx_groups]
  refine congrArg scM (congrArg (fun f => Finset.fold max (Ideal.ofBits FTy.f32 4286578688#32) f Finset.univ) (funext fun l => ?_))
  exact AM_at x0 x1 x2 x3 r arg1 harg1 arg2 harg2 arg3 harg3 arg4 harg4 arg8 64 (le_refl _) l

/-- A group's codes. -/
theorem code_at (g : ℕ) (hg : g < 64) (l : Fin 128) :
    cdOf (scOf (AM (ldA arg1 harg1 x0) (ldB arg2 harg2 x1) (ldX arg3 harg3 x2) (ldW arg4 harg4 x3) arg8.view 64))
      (arg8.view.readCov (P2 (ldA arg1 harg1 x0) (ldB arg2 harg2 x1) (ldX arg3 harg3 x2) (ldW arg4 harg4 x3) arg8.view 64) (rG g).toLoadRect) (ix2 r l)
      = cdF (nB x0 x1 x2 x3 r (at8 g l)) (scF (nB x0 x1 x2 x3 r)) := by
  rw [read3 _ _ _ _ arg8.view g hg 64 (le_refl _) hg]
  unfold Ns
  rw [same_at, cd_at, sc_at, N_at]

end

/-- Every piece of the first `n` groups' stores holds what `G` says where it lies. -/
theorem pieces_of {e : EltTy} (G : S32x8192.Idx → Elt Ideal e) (q : ℕ → (rG 0).shape.Idx → Elt Ideal e) (n : ℕ) (hn : n ≤ 64)
    (h : ∀ k < 64, ∀ (a : Fin 32) (l : Fin 128), q k (ix2 a l) = G (ix2 a (at8 k l))) :
    ∀ p ∈ (Nat.rec [] (fun k L => ⟨rG k, q k⟩ :: L) n : List (View.Piece (Elt Ideal) S32x8192 e)), ∀ x : p.1.shape.Idx, p.2 x = G (p.1.emb x) := by
  induction n with
  | zero => intro p hp; cases hp
  | succ n ih =>
    intro p hp x
    rcases List.mem_cons.1 hp with rfl | hp
    · show q n x = G ((rG n).emb x)
      rw [rG_emb]
      have ex : x = ix2 (x 0 : Fin 32) (x 1 : Fin 128) := funext fun a => match a with | ⟨0, _⟩ => rfl | ⟨1, _⟩ => rfl
      exact (congrArg (q n) ex).trans (h n (by omega) (x 0) (x 1))
    · exact ih (by omega) p hp x

section
variable (c : Dev nD) (i : grid0.Coords) (arg1 : Memref sig .tc .vmem S8x32x8192 .fp8e4m3) (harg1 : arg1.IsWhole) (arg2 : Memref sig .tc .vmem S8x32x64 .f32) (harg2 : arg2.IsWhole) (arg3 : Memref sig .tc .vmem S32x8192 .bf16) (harg3 : arg3.IsWhole) (arg4 : Memref sig .tc .vmem S1x8192 .f32) (harg4 : arg4.IsWhole) (arg5 : Memref sig .tc .vmem S32x8192 .bf16) (harg5 : arg5.IsWhole) (arg6 : Memref sig .tc .vmem S32x8192 .fp8e4m3) (harg6 : arg6.IsWhole) (arg7 : Memref sig .tc .vmem S32x1 .f32) (harg7 : arg7.IsWhole) (arg8 : Memref sig .tc .vmem S32x8192 .f32) (harg8 : arg8.IsWhole)
    (x0 : Vec Ideal S8x32x8192 .fp8e4m3) (x1 : Vec Ideal S8x32x64 .f32) (x2 : Vec Ideal S32x8192 .bf16) (x3 : Vec Ideal S1x8192 .f32)

/-- The block of residuals a grid point leaves. -/
theorem out4_at (y : S32x8192.Idx) : out0_A_4 c i arg1 harg1 arg2 harg2 arg3 harg3 arg4 harg4 arg5 harg5 arg6 harg6 arg7 harg7 arg8 harg8 x0 x1 x2 x3 y
    = hB x0 x1 x2 (y 0) (y 1) := by
  refine View.read_writes_apply_of_pieces VO0_4 _ (fun y : S32x8192.Idx => (hB x0 x1 x2 (y 0) (y 1) : EReal)) _ ?_ y (cover0_A_4 c i arg1 harg1 arg2 harg2 arg3 harg3 arg4 harg4 arg5 harg5 arg6 harg6 arg7 harg7 arg8 harg8 x0 x1 x2 x3 y)
  rw [run4]
  exact pieces_of (e := .bf16) (fun y : S32x8192.Idx => (hB x0 x1 x2 (y 0) (y 1) : EReal)) (fun k => truncf .bf16 (H (ldA arg1 harg1 x0) (ldB arg2 harg2 x1) (ldX arg3 harg3 x2) k) bitsLt_bf16_f32) 64 (le_refl _) fun k _ a l => H_at x0 x1 x2 a arg1 harg1 arg2 harg2 arg3 harg3 k l

/-- The block of codes a grid point leaves. -/
theorem out5_at (y : S32x8192.Idx) : out0_A_5 c i arg1 harg1 arg2 harg2 arg3 harg3 arg4 harg4 arg5 harg5 arg6 harg6 arg7 harg7 arg8 harg8 x0 x1 x2 x3 y
    = cdF (nB x0 x1 x2 x3 (y 0) (y 1)) (scF (nB x0 x1 x2 x3 (y 0))) := by
  refine View.read_writes_apply_of_pieces VO0_5 _ (fun y : S32x8192.Idx => (cdF (nB x0 x1 x2 x3 (y 0) (y 1)) (scF (nB x0 x1 x2 x3 (y 0))) : EReal)) _ ?_ y (cover0_A_5 c i arg1 harg1 arg2 harg2 arg3 harg3 arg4 harg4 arg5 harg5 arg6 harg6 arg7 harg7 arg8 harg8 x0 x1 x2 x3 y)
  rw [run5]
  exact pieces_of (e := .fp8e4m3) (fun y : S32x8192.Idx => (cdF (nB x0 x1 x2 x3 (y 0) (y 1)) (scF (nB x0 x1 x2 x3 (y 0))) : EReal)) (fun k => cdOf (scOf (AM (ldA arg1 harg1 x0) (ldB arg2 harg2 x1) (ldX arg3 harg3 x2) (ldW arg4 harg4 x3) arg8.view 64)) (arg8.view.readCov (P2 (ldA arg1 harg1 x0) (ldB arg2 harg2 x1) (ldX arg3 harg3 x2) (ldW arg4 harg4 x3) arg8.view 64) (rG k).toLoadRect)) 64 (le_refl _) fun k hk a l => code_at x0 x1 x2 x3 a arg1 harg1 arg2 harg2 arg3 harg3 arg4 harg4 arg8 k hk l

/-- The block of scales a grid point leaves. -/
theorem out6_at (y : S32x1.Idx) : out0_A_6 c i arg1 harg1 arg2 harg2 arg3 harg3 arg4 harg4 arg5 harg5 arg6 harg6 arg7 harg7 arg8 harg8 x0 x1 x2 x3 y
    = scF (nB x0 x1 x2 x3 (y 0)) := by
  refine View.read_writes_apply_of_pieces VO0_6 _ (fun y : S32x1.Idx => (scF (nB x0 x1 x2 x3 (y 0)) : EReal)) _ ?_ y (cover0_A_6 c i arg1 harg1 arg2 harg2 arg3 harg3 arg4 harg4 arg5 harg5 arg6 harg6 arg7 harg7 arg8 harg8 x0 x1 x2 x3 y)
  rw [run6]
  intro p hp x
  obtain rfl := List.mem_singleton.1 hp
  have ex : x = ix2 (x 0 : Fin 32) (0 : Fin 1) := funext fun a => match a with | ⟨0, _⟩ => rfl | ⟨1, _⟩ => Fin.ext (by have : (x 1).val < 1 := (x 1).isLt; show (x 1).val = 0; omega)
  have e0 : (Rect.unit (s := S32x1) ![0, 0] S32x1.size inb_S32x1_S32x1_0_0).emb x 0 = (x 0 : Fin 32) :=
    Fin.ext ((Rect.idx_unit_val _ _ inb_S32x1_S32x1_0_0 x 0).trans (Nat.zero_add _))
  show (scOf (F := Ideal) (AM (ldA arg1 harg1 x0) (ldB arg2 harg2 x1) (ldX arg3 harg3 x2) (ldW arg4 harg4 x3) arg8.view 64) x : EReal) = scF (nB x0 x1 x2 x3 ((Rect.unit (s := S32x1) ![0, 0] S32x1.size inb_S32x1_S32x1_0_0).emb x 0))
  rw [e0]
  exact (congrArg (scOf (AM (ldA arg1 harg1 x0) (ldB arg2 harg2 x1) (ldX arg3 harg3 x2) (ldW arg4 harg4 x3) arg8.view 64)) ex).trans (sc_at x0 x1 x2 x3 (x 0) arg1 harg1 arg2 harg2 arg3 harg3 arg4 harg4 arg8)

end

end Cert.Proof.RecvIdealReads

end
-- ==== Proof.RecvRefEq.lean ====
/- What the receive call's reference computes, entry by entry. -/
module

public import proofs.«01_k».proof.Proof.Gen.RecvRefIdeal.Value
public import proofs.«01_k».proof.Proof.RecvMath

@[expose] public section

set_option maxRecDepth 16384

noncomputable section

namespace Cert.Proof.RecvRefEq

open Cert.Proof.Quant Cert.Proof.RecvMath
open Cert.RecvRefIdeal Cert.RecvRefIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

section
variable (a0 : Vec Ideal S8x4096x8192 .fp8e4m3) (a1 : Vec Ideal S8x4096x64 .f32) (a2 : Vec Ideal S4096x8192 .bf16) (a3 : Vec Ideal S1x8192 .f32) (r : Fin 4096)

/-- Row `r` of the sums of whole arrays. -/
def hR : Fin 8192 → EReal := hF (fun p q => a0 (ix3 p r q)) (fun p g => a1 (ix3 p r g)) (fun q => a2 (ix2 r q))

/-- Row `r` of the normalized sums. -/
def nR : Fin 8192 → EReal := nF (hR a0 a1 a2 r) fun q => a3 (ix2 0 q)

/-- The reference's sums. -/
theorem pay2_at (q : Fin 8192) : k0_pay2 (F := Ideal) a0 a1 a2 (ix2 r q) = hR a0 a1 a2 r q := by
  unfold hR hF
  pointwise [k0_pay2]

/-- The reference's residuals. -/
theorem G4_at (q : Fin 8192) : Value.G4 (F := Ideal) a0 a1 a2 a3 (ix2 r q) = hR a0 a1 a2 r q := pay2_at a0 a1 a2 r q

/-- The roots of the mean squares, rows normalized and weighted. -/
theorem norm_at (u : FVec Ideal S4096x8192 .f32) (w : Vec Ideal S1x8192 .f32) (q : Fin 8192) :
    mulf (divf u (broadcastTo S4096x8192 (sqrt (addf (divf (shapeCast S4096x1 (multiReduction (F := Ideal) .add [1] S4096 (mulf u u) 0x00000000#32 reduces_S4096x8192_S4096 (.inl rfl) rfl) shapeCasts_S4096_S4096x1)
      (broadcast S4096x1 (Scalar.ofBits .f32 0x46000000#32 : Ideal .f32))) (broadcast S4096x1 (Scalar.ofBits .f32 0x3727C5AC#32 : Ideal .f32)))) broadcasts_S4096x1_S4096x8192))
      (broadcastTo S4096x8192 w broadcasts_S1x8192_S4096x8192) (ix2 r q) = nF (fun q => u (ix2 r q)) (fun q => w (ix2 0 q)) q := by
  unfold nF rF
  pointwise []

/-- The reference's normalized rows. -/
theorem pay4_at (q : Fin 8192) : k0_pay4 (F := Ideal) a0 a1 a2 a3 (ix2 r q) = nR a0 a1 a2 a3 r q := by
  have h := pay2_at a0 a1 a2 r
  unfold nR
  generalize hR a0 a1 a2 r = M at h ⊢
  unfold k0_pay4
  generalize k0_pay2 (F := Ideal) a0 a1 a2 = u at h ⊢
  refine (norm_at r u a3 q).trans ?_
  simp only [h]

/-- The largest of each row. -/
theorem mr_at (v : FVec Ideal S4096x8192 .f32) (j : S4096.Idx) :
    (multiReduction (F := Ideal) .maximumf [1] S4096 v 0xFF800000#32 reduces_S4096x8192_S4096 (.inl rfl) rfl) j
      = Finset.fold max (Ideal.ofBits FTy.f32 4286578688#32) (fun q => v (ix2 (j 0) q)) Finset.univ := by
  pointwise []

/-- The scale of a row from the row's largest magnitude. -/
theorem scale_at (u : FVec Ideal S4096 .f32) (r : Fin 4096) :
    select (cmpf .ogt (shapeCast S4096x1 u shapeCasts_S4096_S4096x1) (broadcast S4096x1 (Scalar.ofBits .f32 0x00000000#32 : Ideal .f32)))
        (divf (shapeCast S4096x1 u shapeCasts_S4096_S4096x1) (broadcast S4096x1 (Scalar.ofBits .f32 0x43E00000#32 : Ideal .f32)))
        (broadcast S4096x1 (Scalar.ofBits .f32 0x3F800000#32 : Ideal .f32)) (ix2 r 0)
      = scM (u (ix1 r)) := by
  unfold scM
  pointwise []

/-- The reference's scales. -/
theorem pay5_at : k0_pay5 (F := Ideal) a0 a1 a2 a3 (ix2 r 0) = scF (nR a0 a1 a2 a3 r) := by
  have hw := pay4_at a0 a1 a2 a3 r
  unfold scF mxF
  generalize nR a0 a1 a2 a3 r = M at hw ⊢
  unfold k0_pay5
  generalize k0_pay4 (F := Ideal) a0 a1 a2 a3 = w at hw ⊢
  refine (scale_at _ r).trans ?_
  rw [mr_at]
  have e : ∀ q, absf w (ix2 ((ix1 r : S4096.Idx) 0) q) = ab (M q) := fun q => (congrArg ab (hw q))
  simp only [e]

/-- The reference's scales, from whole loads. -/
theorem pay6_at : k0_pay6 (F := Ideal) a0 a1 a2 a3 (ix2 r 0) = scF (nR a0 a1 a2 a3 r) := by
  unfold k0_pay6
  rw [View.ld_unit_zero (S := S8x4096x8192) Value.hz0 _ a0, View.ld_unit_zero (S := S8x4096x64) Value.hz1 _ a1, View.ld_unit_zero (S := S4096x8192) Value.hz2 _ a2, View.ld_unit_zero (S := S1x8192) Value.hz3 _ a3]
  exact pay5_at a0 a1 a2 a3 r

/-- The reference's scales, as a result. -/
theorem G6_at : Value.G6 (F := Ideal) a0 a1 a2 a3 (ix2 r 0) = scF (nR a0 a1 a2 a3 r) := pay6_at a0 a1 a2 a3 r

/-- A clipped quotient. -/
theorem pay1_at (w : FVec Ideal S4096x8192 .f32) (v : FVec Ideal S4096x1 .f32) (q : Fin 8192) :
    k0_pay1 (F := Ideal) w v (ix2 r q) = cdF (w (ix2 r q)) (v (ix2 r 0)) := by
  unfold cdF
  pointwise [k0_pay1]

/-- The reference's codes, as a result. -/
theorem G5_at (q : Fin 8192) : Value.G5 (F := Ideal) a0 a1 a2 a3 (ix2 r q) = cdF (nR a0 a1 a2 a3 r q) (scF (nR a0 a1 a2 a3 r)) := by
  unfold Value.G5
  rw [pay1_at, pay4_at, pay6_at]

end

end Cert.Proof.RecvRefEq

end
-- ==== Proof.RecvClaim.lean ====
/- The receive kernel and its reference end with the same residuals, codes and scales. -/
module

public import proofs.«01_k».proof.Proof.RecvIdealReads
public import proofs.«01_k».proof.Proof.RecvRefEq
public import proofs.«01_k».proof.Defs
public import Idealize.ShloMosaic.Lib.Pipeline.ValueKit.Geometry

@[expose] public section

set_option maxRecDepth 16384

noncomputable section

namespace Cert.Proof.RecvClaim

open Cert.Proof.RecvIdealReads Cert.Proof.RecvMath Cert.Proof.Quant
open Cert.RecvIdeal Cert.RecvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The row of the whole array that row `r` of grid point `n`'s block is. -/
def row (n : ℕ) (r : Fin 32) : Fin 4096 := ⟨(32 * n + r.val) % 4096, Nat.mod_lt _ (by decide)⟩

/-- The grid has 128 points. -/
theorem N_eq : cfg0.N = 128 := by decide +kernel

/-- The row, as a number. -/
theorem row_val (t : Fin cfg0.N) (r : Fin 32) : (row t.val r).val = 32 * t.val + r.val := by
  have h : t.val < 128 := lt_of_lt_of_eq t.isLt N_eq
  show (32 * t.val + r.val) % 4096 = _; omega

/-- A row's place in the array, in the form the block's position gives. -/
theorem row_pos (t : Fin cfg0.N) (r : Fin 32) : t.val * 32 + 1 * r.val = (row t.val r).val :=
  (by omega : t.val * 32 + 1 * r.val = 32 * t.val + r.val).trans (row_val t r).symm

/-- Where window 0's block lies. -/
theorem idx0 : ∀ t : Fin cfg0.N, win0_0.index t 0 = 0 ∧ win0_0.index t 1 = t.val ∧ win0_0.index t 2 = 0 := by decide +kernel
/-- Where window 1's block lies. -/
theorem idx1 : ∀ t : Fin cfg0.N, win0_1.index t 0 = 0 ∧ win0_1.index t 1 = t.val ∧ win0_1.index t 2 = 0 := by decide +kernel
/-- Where window 2's block lies. -/
theorem idx2 : ∀ t : Fin cfg0.N, win0_2.index t 0 = t.val ∧ win0_2.index t 1 = 0 := by decide +kernel
/-- Where window 3's block lies. -/
theorem idx3 : ∀ t : Fin cfg0.N, win0_3.index t 0 = 0 ∧ win0_3.index t 1 = 0 := by decide +kernel
/-- Where window 4's block lies. -/
theorem idx4 : ∀ t : Fin cfg0.N, win0_4.index t 0 = t.val ∧ win0_4.index t 1 = 0 := by decide +kernel
/-- Where window 5's block lies. -/
theorem idx5 : ∀ t : Fin cfg0.N, win0_5.index t 0 = t.val ∧ win0_5.index t 1 = 0 := by decide +kernel
/-- Where window 6's block lies. -/
theorem idx6 : ∀ t : Fin cfg0.N, win0_6.index t 0 = t.val ∧ win0_6.index t 1 = 0 := by decide +kernel

/-- Rows of the partial sums' codes. -/
theorem iblk0_at (c : Dev nD) (t : Fin cfg0.N) (p : Fin 8) (r : Fin 32) (q : Fin 8192) : iblk m c 0 t (ix3 p r q) = V m c main_arg0 (ix3 p (row t.val r) q) := by
  unfold iblk
  rw [View.read_apply]
  show V m c main_arg0 _ = _
  congr 1
  funext k
  apply Fin.ext
  match k with
  | ⟨0, _⟩ =>
    show win0_0.index t 0 * 8 + 1 * p.val = _
    rw [(idx0 t).1]
    exact (by omega : 0 * 8 + 1 * p.val = p.val)
  | ⟨1, _⟩ =>
    show win0_0.index t 1 * 32 + 1 * r.val = _
    rw [(idx0 t).2.1]
    exact row_pos t r
  | ⟨2, _⟩ =>
    show win0_0.index t 2 * 8192 + 1 * q.val = _
    rw [(idx0 t).2.2]
    exact (by omega : 0 * 8192 + 1 * q.val = q.val)

/-- Rows of the partial sums' scales. -/
theorem iblk1_at (c : Dev nD) (t : Fin cfg0.N) (p : Fin 8) (r : Fin 32) (q : Fin 64) : iblk m c 1 t (ix3 p r q) = V m c main_arg1 (ix3 p (row t.val r) q) := by
  unfold iblk
  rw [View.read_apply]
  show V m c main_arg1 _ = _
  congr 1
  funext k
  apply Fin.ext
  match k with
  | ⟨0, _⟩ =>
    show win0_1.index t 0 * 8 + 1 * p.val = _
    rw [(idx1 t).1]
    exact (by omega : 0 * 8 + 1 * p.val = p.val)
  | ⟨1, _⟩ =>
    show win0_1.index t 1 * 32 + 1 * r.val = _
    rw [(idx1 t).2.1]
    exact row_pos t r
  | ⟨2, _⟩ =>
    show win0_1.index t 2 * 64 + 1 * q.val = _
    rw [(idx1 t).2.2]
    exact (by omega : 0 * 64 + 1 * q.val = q.val)

/-- Rows of the incoming residuals. -/
theorem iblk2_at (c : Dev nD) (t : Fin cfg0.N) (r : Fin 32) (q : Fin 8192) : iblk m c 2 t (ix2 r q) = V m c main_arg2 (ix2 (row t.val r) q) := by
  unfold iblk
  rw [View.read_apply]
  show V m c main_arg2 _ = _
  congr 1
  funext k
  apply Fin.ext
  match k with
  | ⟨0, _⟩ =>
    show win0_2.index t 0 * 32 + 1 * r.val = _
    rw [(idx2 t).1]
    exact row_pos t r
  | ⟨1, _⟩ =>
    show win0_2.index t 1 * 8192 + 1 * q.val = _
    rw [(idx2 t).2]
    exact (by omega : 0 * 8192 + 1 * q.val = q.val)

/-- The weights of the normalization. -/
theorem iblk3_at (c : Dev nD) (t : Fin cfg0.N) (p : Fin 1) (q : Fin 8192) : iblk m c 3 t (ix2 p q) = V m c main_arg3 (ix2 p q) := by
  unfold iblk
  rw [View.read_apply]
  show V m c main_arg3 _ = _
  congr 1
  funext k
  apply Fin.ext
  match k with
  | ⟨0, _⟩ =>
    show win0_3.index t 0 * 1 + 1 * p.val = _
    rw [(idx3 t).1]
    exact (by omega : 0 * 1 + 1 * p.val = p.val)
  | ⟨1, _⟩ =>
    show win0_3.index t 1 * 8192 + 1 * q.val = _
    rw [(idx3 t).2]
    exact (by omega : 0 * 8192 + 1 * q.val = q.val)

/-- Row `r` of the whole arrays' sums. -/
def hV (c : Dev nD) (r : Fin 4096) : Fin 8192 → EReal :=
  hF (fun p q => V m c main_arg0 (ix3 p r q)) (fun p g => V m c main_arg1 (ix3 p r g)) (fun q => V m c main_arg2 (ix2 r q))

/-- Row `r` of the whole arrays' normalized sums. -/
def nV (c : Dev nD) (r : Fin 4096) : Fin 8192 → EReal := nF (hV m c r) fun q => V m c main_arg3 (ix2 0 q)

/-- A block's sums are the whole arrays'. -/
theorem hB_eq (c : Dev nD) (t : Fin cfg0.N) (r : Fin 32) : hB (iblk m c 0 t) (iblk m c 1 t) (iblk m c 2 t) r = hV m c (row t.val r) := by
  unfold hB hV
  simp only [iblk0_at, iblk1_at, iblk2_at]

/-- A block's normalized sums are the whole arrays'. -/
theorem nB_eq (c : Dev nD) (t : Fin cfg0.N) (r : Fin 32) :
    nB (iblk m c 0 t) (iblk m c 1 t) (iblk m c 2 t) (iblk m c 3 t) r = nV m c (row t.val r) := by
  unfold nB nV
  rw [hB_eq]
  simp only [iblk3_at]

/-- The residuals of the whole arrays. -/
def resid (c : Dev nD) : Vec Ideal S4096x8192 .bf16 := fun j => hV m c (j 0) (j 1)

/-- The codes of the whole arrays. -/
def codes (c : Dev nD) : Vec Ideal S4096x8192 .fp8e4m3 := fun j => cdF (nV m c (j 0) (j 1)) (scF (nV m c (j 0)))

/-- The scales of the whole arrays. -/
def scales (c : Dev nD) : Vec Ideal S4096x1 .f32 := fun j => scF (nV m c (j 0))

/-- Result array 0 after the run: the residuals. -/
theorem final4 (c : Dev nD) : (dats m 0 c).arrAt 4 cfg0.N = resid m c := by
  refine (dats m 0 c).arrAt_eq_of_covers 4 _ (by decide +kernel) fun t hf y => ?_
  have q0 : ((cfg0.win 4).blk t).view.emb y 0 = row t.val (y 0) := by
    apply Fin.ext
    show win0_4.index t 0 * 32 + 1 * (y 0).val = _
    rw [(idx4 t).1]
    exact row_pos t (y 0)
  have q1 : ((cfg0.win 4).blk t).view.emb y 1 = (y 1 : Fin 8192) := by
    apply Fin.ext
    show win0_4.index t 1 * 8192 + 1 * (y 1).val = _
    rw [(idx4 t).2]
    exact (by omega : 0 * 8192 + 1 * (y 1).val = (y 1).val)
  show (dats m 0 c).after 4 t y = _
  rw [after0_4]
  refine (out4_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) y).trans ?_
  show _ = hV m c (((cfg0.win 4).blk t).view.emb y 0) (((cfg0.win 4).blk t).view.emb y 1)
  rw [q0, q1]
  exact congrFun (hB_eq m c t (y 0)) (y 1)

/-- Result array 1 after the run: the codes. -/
theorem final5 (c : Dev nD) : (dats m 0 c).arrAt 5 cfg0.N = codes m c := by
  refine (dats m 0 c).arrAt_eq_of_covers 5 _ (by decide +kernel) fun t hf y => ?_
  have q0 : ((cfg0.win 5).blk t).view.emb y 0 = row t.val (y 0) := by
    apply Fin.ext
    show win0_5.index t 0 * 32 + 1 * (y 0).val = _
    rw [(idx5 t).1]
    exact row_pos t (y 0)
  have q1 : ((cfg0.win 5).blk t).view.emb y 1 = (y 1 : Fin 8192) := by
    apply Fin.ext
    show win0_5.index t 1 * 8192 + 1 * (y 1).val = _
    rw [(idx5 t).2]
    exact (by omega : 0 * 8192 + 1 * (y 1).val = (y 1).val)
  show (dats m 0 c).after 5 t y = _
  rw [after0_5]
  refine (out5_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) y).trans ?_
  show _ = cdF (nV m c (((cfg0.win 5).blk t).view.emb y 0) (((cfg0.win 5).blk t).view.emb y 1)) (scF (nV m c (((cfg0.win 5).blk t).view.emb y 0)))
  rw [q0, q1]
  exact congrArg (fun f : Fin 8192 → EReal => cdF (f (y 1)) (scF f)) (nB_eq m c t (y 0))

/-- Result array 2 after the run: the scales. -/
theorem final6 (c : Dev nD) : (dats m 0 c).arrAt 6 cfg0.N = scales m c := by
  refine (dats m 0 c).arrAt_eq_of_covers 6 _ (by decide +kernel) fun t hf y => ?_
  have q0 : ((cfg0.win 6).blk t).view.emb y 0 = row t.val (y 0) := by
    apply Fin.ext
    show win0_6.index t 0 * 32 + 1 * (y 0).val = _
    rw [(idx6 t).1]
    exact row_pos t (y 0)
  show (dats m 0 c).after 6 t y = _
  rw [after0_6]
  refine (out6_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) y).trans ?_
  show _ = scF (nV m c (((cfg0.win 6).blk t).view.emb y 0))
  rw [q0]
  exact congrArg scF (nB_eq m c t (y 0))

/-- Every run of the kernel ends with the residuals, codes and scales in its results, the arguments unchanged. -/
theorem run : θ_run defs (onTc (τ := τ) (main (F := Ideal))) ⟨m, fun _ => 0, ρ⟩ fun r => ∀ c : Dev nD,
    r.2.mem ((c.tc : Thread nD τ).loc main_v0_0) = resid m c
      ∧ r.2.mem ((c.tc : Thread nD τ).loc main_v0_1) = codes m c
      ∧ r.2.mem ((c.tc : Thread nD τ).loc main_v0_2) = scales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨h0, h1, h2, h3⟩ := h c
    exact ⟨h0.trans (final4 m c), h1.trans (final5 m c), h2.trans (final6 m c), h3⟩) (Cert.RecvIdeal.Value.run_blocks m ρ)

/-- The claim: kernel and reference end with equal results. -/
theorem claim [Cert.RecvIdeal.Facts] [Cert.RecvRefIdeal.Facts] : Cert.algebraic_RecvIdeal_RecvRefIdeal := by
  intro m g m' g' _ hm
  refine ⟨resid m, codes m, scales m, run m g, (θ_run Cert.RecvRefIdeal.defs _ _).mono (fun r h c => ?_) (Cert.RecvRefIdeal.Value.run m' g')⟩
  obtain ⟨h0, h1, h2, h3⟩ := h c
  obtain ⟨e0, e1, e2, e3⟩ := hm c
  rw [e0, e1, e2, e3] at h0 h1 h2
  refine ⟨h0.trans ?_, h1.trans ?_, h2.trans ?_, h3⟩
  · funext j
    have e : j = ix2 (j 0) (j 1) := (funext fun a => match a with | ⟨0, _⟩ => rfl | ⟨1, _⟩ => rfl)
    rw [e]
    exact RecvRefEq.G4_at _ _ _ _ (j 0) (j 1)
  · funext j
    have e : j = ix2 (j 0) (j 1) := (funext fun a => match a with | ⟨0, _⟩ => rfl | ⟨1, _⟩ => rfl)
    rw [e]
    exact RecvRefEq.G5_at _ _ _ _ (j 0) (j 1)
  · funext j
    have e : j = ix2 (j 0 : Fin 4096) (0 : Fin 1) := (funext fun a => match a with | ⟨0, _⟩ => rfl | ⟨1, _⟩ => Fin.ext (by have : (j 1).val < 1 := (j 1).isLt; show (j 1).val = 0; omega))
    rw [e]
    exact RecvRefEq.G6_at _ _ _ _ (j 0)

end Cert.Proof.RecvClaim

end
-- ==== Proof.lean ====
/- The claim: the modules under Proof/ hold each part, this file puts them together. -/
module

public import proofs.«01_k».proof.Defs
public import proofs.«01_k».proof.Proof.GateUpFrame
public import proofs.«01_k».proof.Proof.GateUpIdealFrame
public import proofs.«01_k».proof.Proof.GateUpClaim
public import proofs.«01_k».proof.Proof.DownFrame
public import proofs.«01_k».proof.Proof.DownIdealFrame
public import proofs.«01_k».proof.Proof.DownClaim
public import proofs.«01_k».proof.Proof.Gen.Recv.Frame
public import proofs.«01_k».proof.Proof.RecvClaim

@[expose] public section

noncomputable section

namespace Cert.Proof

/-- The gate/up, down and receive calls run and leave their arguments as they were, at the compiled and at the
    ideal reading; so do their references; and at the ideal reading each call and its reference end with the
    same results. -/
theorem claim : Cert.Claim :=
  ⟨Cert.GateUp.Gen.facts, Cert.GateUpIdeal.Gen.facts, Cert.GateUpRefIdeal.Gen.facts,
    Cert.Down.Gen.facts, Cert.DownIdeal.Gen.facts, Cert.DownRefIdeal.Gen.facts,
    Cert.Recv.Gen.facts, Cert.RecvIdeal.Gen.facts, Cert.RecvRefIdeal.Gen.facts,
    fun m ρ _ => Cert.Proof.GateUpFrame.frame m ρ,
    fun m ρ _ => Cert.Proof.GateUpIdealFrame.frame m ρ,
    fun m ρ _ => Cert.GateUpRefIdeal.Gen.frame m ρ,
    fun m ρ _ => Cert.Proof.DownFrame.frame m ρ,
    fun m ρ _ => Cert.Proof.DownIdealFrame.frame m ρ,
    fun m ρ _ => Cert.DownRefIdeal.Gen.frame m ρ,
    fun m ρ _ => Cert.Recv.Gen.frame m ρ,
    fun m ρ _ => Cert.RecvIdeal.Gen.frame m ρ,
    fun m ρ _ => Cert.RecvRefIdeal.Gen.frame m ρ,
    trivial,
    Cert.Proof.GateUpClaim.claim,
    trivial,
    Cert.Proof.DownClaim.claim,
    trivial,
    Cert.Proof.RecvClaim.claim⟩

end Cert.Proof

end

end
